-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  IdealRules.named_const.Statement Cert.Kernel5Ideal.κ "mask" .f32 0xF149F2CA#32 ⊥

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v26_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v91) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x4096x6912 : Shape := ⟨3, ![4, 4096, 6912]⟩
abbrev S4x4096 : Shape := ⟨2, ![4, 4096]⟩
abbrev S16 : Shape := ⟨1, ![16]⟩
abbrev S_ : Shape := ⟨0, ![]⟩
abbrev S4x4096x1 : Shape := ⟨3, ![4, 4096, 1]⟩
abbrev S1x1x16 : Shape := ⟨3, ![1, 1, 16]⟩
abbrev S4x4096x16 : Shape := ⟨3, ![4, 4096, 16]⟩
abbrev S4x4096x96 : Shape := ⟨3, ![4, 4096, 96]⟩
abbrev S4x4096x112 : Shape := ⟨3, ![4, 4096, 112]⟩
abbrev S4x4096x128 : Shape := ⟨3, ![4, 4096, 128]⟩
abbrev S4x4096x1024 : Shape := ⟨3, ![4, 4096, 1024]⟩
abbrev S1x128x512 : Shape := ⟨3, ![1, 128, 512]⟩
abbrev S1x128x128 : Shape := ⟨3, ![1, 128, 128]⟩
abbrev S1x4096x128 : Shape := ⟨3, ![1, 4096, 128]⟩
abbrev S4096x128 : Shape := ⟨2, ![4096, 128]⟩
abbrev S128x128 : Shape := ⟨2, ![128, 128]⟩
abbrev S512x128 : Shape := ⟨2, ![512, 128]⟩
abbrev S640x128 : Shape := ⟨2, ![640, 128]⟩
abbrev S512x640 : Shape := ⟨2, ![512, 640]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 36
  | .vmem => 24
  | .smem => 0
  | _ => 0

abbrev bufTy : (tb : Table) → Fin (tcTables nBuf tb) → BufTy
  | .hbm, ⟨0, _⟩ => ⟨S4x4096x6912, .f32⟩
  | .hbm, ⟨1, _⟩ => ⟨S4x4096, .i32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S4x4096, .f32⟩
  | .hbm, ⟨17, _⟩ => ⟨S4x4096x1, .f32⟩
  | .hbm, ⟨18, _⟩ => ⟨S1x1x16, .f32⟩
  | .hbm, ⟨19, _⟩ => ⟨S4x4096x16, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S4x4096x16, .f32⟩
  | .hbm, ⟨24, _⟩ => ⟨S_, .f32⟩
  | .hbm, ⟨25, _⟩ => ⟨S4x4096x96, .f32⟩
  | .hbm, ⟨26, _⟩ => ⟨S_, .f32⟩
  | .hbm, ⟨27, _⟩ => ⟨S4x4096x112, .f32⟩
  | .hbm, ⟨28, _⟩ => ⟨S4x4096x128, .f32⟩
  | .hbm, ⟨29, _⟩ => ⟨S4x4096x16, .f32⟩
  | .hbm, ⟨30, _⟩ => ⟨S4x4096x128, .f32⟩
  | .hbm, ⟨31, _⟩ => ⟨S_, .f32⟩
  | .hbm, ⟨32, _⟩ => ⟨S4x4096x16, .f32⟩
  | .hbm, ⟨33, _⟩ => ⟨S4x4096x96, .f32⟩
  | .hbm, ⟨34, _⟩ => ⟨S4x4096x128, .f32⟩
  | .hbm, ⟨35, _⟩ => ⟨S4x4096x1024, .bf16⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S1x4096x128, .f32⟩
  | .local _ .vmem, ⟨15, _⟩ => ⟨S1x4096x128, .f32⟩
  | .local _ .vmem, ⟨16, _⟩ => ⟨S1x4096x128, .f32⟩
  | .local _ .vmem, ⟨17, _⟩ => ⟨S1x4096x128, .f32⟩
  | .local _ .vmem, ⟨18, _⟩ => ⟨S1x128x128, .f32⟩
  | .local _ .vmem, ⟨19, _⟩ => ⟨S1x128x128, .f32⟩
  | .local _ .vmem, ⟨20, _⟩ => ⟨S1x128x512, .bf16⟩
  | .local _ .vmem, ⟨21, _⟩ => ⟨S1x128x512, .bf16⟩
  | .local _ .vmem, ⟨22, _⟩ => ⟨S4096x128, .bf16⟩
  | .local _ .vmem, ⟨23, _⟩ => ⟨S4096x128, .bf16⟩
  | _, _ => ⟨S4x4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 2, 32], ![false, false, false]⟩

def k0_mult1 (i : grid0.Coords) : BitVec 32 :=
  let arg2 : BitVec 32 := BitVec.ofNat 32 (i 2).val
  let c128_i32 : BitVec 32 := 128#32
  let v58 : BitVec 32 := Scalar.muli arg2 c128_i32
  let c512_i32 : BitVec 32 := 512#32
  let v59 : BitVec 32 := Scalar.subi v58 c512_i32
  let c0_i32_27 : BitVec 32 := 0#32
  let v60 : BitVec 32 := Scalar.maxsi v59 c0_i32_27
  v60
def k0_off1 (i : grid0.Coords) : Fin 2 → Nat :=
  let arg2 : BitVec 32 := BitVec.ofNat 32 (i 2).val
  let c128_i32 : BitVec 32 := 128#32
  let v58 : BitVec 32 := Scalar.muli arg2 c128_i32
  let c512_i32 : BitVec 32 := 512#32
  let v59 : BitVec 32 := Scalar.subi v58 c512_i32
  let c0_i32_27 : BitVec 32 := 0#32
  let v60 : BitVec 32 := Scalar.maxsi v59 c0_i32_27
  let v61 : BitVec 32 := v60
  let v62 : Index := Scalar.indexCast v61
  let c0_28 : Index := 0#32
  ![v62.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c52_i32 : BitVec 32 := 52#32
  let c0_i32 : BitVec 32 := 0#32
  ![arg0.toNat, arg2.toNat, c52_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x6912 : Shape := ⟨3, ![4, 4096, 6912]⟩
abbrev S4x4096 : Shape := ⟨2, ![4, 4096]⟩
abbrev S16 : Shape := ⟨1, ![16]⟩
abbrev S_ : Shape := ⟨0, ![]⟩
abbrev S4x4096x1 : Shape := ⟨3, ![4, 4096, 1]⟩
abbrev S1x1x16 : Shape := ⟨3, ![1, 1, 16]⟩
abbrev S4x4096x16 : Shape := ⟨3, ![4, 4096, 16]⟩
abbrev S4x4096x1x16 : Shape := ⟨4, ![4, 4096, 1, 16]⟩
abbrev S4x4096x1024 : Shape := ⟨3, ![4, 4096, 1024]⟩
abbrev S4x4096x8x128 : Shape := ⟨4, ![4, 4096, 8, 128]⟩
abbrev S4x4096x8x16 : Shape := ⟨4, ![4, 4096, 8, 16]⟩
abbrev S4x4096x8x96 : Shape := ⟨4, ![4, 4096, 8, 96]⟩
abbrev S4x4096x512 : Shape := ⟨3, ![4, 4096, 512]⟩
abbrev S4x4096x2x2x128 : Shape := ⟨5, ![4, 4096, 2, 2, 128]⟩
abbrev S4x4096x1x2x128 : Shape := ⟨5, ![4, 4096, 1, 2, 128]⟩
abbrev S4x4096x2x128 : Shape := ⟨4, ![4, 4096, 2, 128]⟩
abbrev S4x4096x2x16 : Shape := ⟨4, ![4, 4096, 2, 16]⟩
abbrev S4x4096x2x96 : Shape := ⟨4, ![4, 4096, 2, 96]⟩
abbrev S4x4096x2x4x128 : Shape := ⟨5, ![4, 4096, 2, 4, 128]⟩
abbrev S4x2x4x4096x128 : Shape := ⟨5, ![4, 2, 4, 4096, 128]⟩
abbrev S4x2x4x4096x4096 : Shape := ⟨5, ![4, 2, 4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x2x4x4096 : Shape := ⟨4, ![4, 2, 4, 4096]⟩
abbrev S4x2x4x4096x1 : Shape := ⟨5, ![4, 2, 4, 4096, 1]⟩
abbrev S4x4096x24 : Shape := ⟨3, ![4, 4096, 24]⟩
abbrev S4x4096x8x3 : Shape := ⟨4, ![4, 4096, 8, 3]⟩
abbrev S4x4096x8x1 : Shape := ⟨4, ![4, 4096, 8, 1]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x6912, .f32⟩
  | .hbm, ⟨1, _⟩ => ⟨S4x4096, .i32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S4x4096, .f32⟩
  | .hbm, ⟨17, _⟩ => ⟨S4x4096x1, .f32⟩
  | .hbm, ⟨18, _⟩ => ⟨S1x1x16, .f32⟩
  | .hbm, ⟨19, _⟩ => ⟨S4x4096x16, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S4x4096x1x16, .f32⟩
  | .hbm, ⟨24, _⟩ => ⟨S4x4096x16, .f32⟩
  | .hbm, ⟨25, _⟩ => ⟨S4x4096x1x16, .f32⟩
  | .hbm, ⟨26, _⟩ => ⟨S4x4096x1024, .f32⟩
  | .hbm, ⟨27, _⟩ => ⟨S4x4096x8x128, .f32⟩
  | .hbm, ⟨28, _⟩ => ⟨S4x4096x8x16, .f32⟩
  | .hbm, ⟨29, _⟩ => ⟨S4x4096x8x16, .f32⟩
  | .hbm, ⟨30, _⟩ => ⟨S4x4096x8x96, .f32⟩
  | .hbm, ⟨31, _⟩ => ⟨S4x4096x8x16, .f32⟩
  | .hbm, ⟨32, _⟩ => ⟨S4x4096x8x16, .f32⟩
  | .hbm, ⟨33, _⟩ => ⟨S4x4096x8x16, .f32⟩
  | .hbm, ⟨34, _⟩ => ⟨S4x4096x8x16, .f32⟩
  | .hbm, ⟨35, _⟩ => ⟨S4x4096x8x16, .f32⟩
  | .hbm, ⟨36, _⟩ => ⟨S4x4096x8x16, .f32⟩
  | .hbm, ⟨37, _⟩ => ⟨S4x4096x8x16, .f32⟩
  | .hbm, ⟨38, _⟩ => ⟨S4x4096x8x16, .f32⟩
  | .hbm, ⟨39, _⟩ => ⟨S4x4096x8x16, .f32⟩
  | .hbm, ⟨40, _⟩ => ⟨S4x4096x8x16, .f32⟩
  | .hbm, ⟨41, _⟩ => ⟨S4x4096x8x128, .f32⟩
  | .hbm, ⟨42, _⟩ => ⟨S4x4096x512, .f32⟩
  | .hbm, ⟨43, _⟩ => ⟨S4x4096x2x2x128, .f32⟩
  | .hbm, ⟨44, _⟩ => ⟨S4x4096x1x2x128, .f32⟩
  | .hbm, ⟨45, _⟩ => ⟨S4x4096x2x128, .f32⟩
  | .hbm, ⟨46, _⟩ => ⟨S4x4096x2x16, .f32⟩
  | .hbm, ⟨47, _⟩ => ⟨S4x4096x2x16, .f32⟩
  | .hbm, ⟨48, _⟩ => ⟨S4x4096x2x96, .f32⟩
  | .hbm, ⟨49, _⟩ => ⟨S4x4096x2x16, .f32⟩
  | .hbm, ⟨50, _⟩ => ⟨S4x4096x2x16, .f32⟩
  | .hbm, ⟨51, _⟩ => ⟨S4x4096x2x16, .f32⟩
  | .hbm, ⟨52, _⟩ => ⟨S4x4096x2x16, .f32⟩
  | .hbm, ⟨53, _⟩ => ⟨S4x4096x2x16, .f32⟩
  | .hbm, ⟨54, _⟩ => ⟨S4x4096x2x16, .f32⟩
  | .hbm, ⟨55, _⟩ => ⟨S4x4096x2x16, .f32⟩
  | .hbm, ⟨56, _⟩ => ⟨S4x4096x2x16, .f32⟩
  | .hbm, ⟨57, _⟩ => ⟨S4x4096x2x16, .f32⟩
  | .hbm, ⟨58, _⟩ => ⟨S4x4096x2x16, .f32⟩
  | .hbm, ⟨59, _⟩ => ⟨S4x4096x2x128, .f32⟩
  | .hbm, ⟨60, _⟩ => ⟨S4x4096x1x2x128, .f32⟩
  | .hbm, ⟨61, _⟩ => ⟨S4x4096x2x128, .f32⟩
  | .hbm, ⟨62, _⟩ => ⟨S4x4096x2x4x128, .f32⟩
  | .hbm, ⟨63, _⟩ => ⟨S4x2x4x4096x128, .f32⟩
  | .hbm, ⟨64, _⟩ => ⟨S4x2x4x4096x4096, .f32⟩
  | .hbm, ⟨65, _⟩ => ⟨S_, .f32⟩
  | .hbm, ⟨66, _⟩ => ⟨S4x2x4x4096x4096, .f32⟩
  | .hbm, ⟨67, _⟩ => ⟨S4x2x4x4096x4096, .f32⟩
  | .hbm, ⟨68, _⟩ => ⟨S4096, .i32⟩
  | .hbm, ⟨69, _⟩ => ⟨S4096x1, .i32⟩
  | .hbm, ⟨70, _⟩ => ⟨S4096, .i32⟩
  | .hbm, ⟨71, _⟩ => ⟨S1x4096, .i32⟩
  | .hbm, ⟨72, _⟩ => ⟨S4096x4096, .i32⟩
  | .hbm, ⟨73, _⟩ => ⟨S4096x4096, .i32⟩
  | .hbm, ⟨74, _⟩ => ⟨S4096x4096, .i32⟩
  | .hbm, ⟨75, _⟩ => ⟨S_, .i32⟩
  | .hbm, ⟨76, _⟩ => ⟨S4096x4096, .i32⟩
  | .hbm, ⟨77, _⟩ => ⟨S4096x4096, .i1⟩
  | .hbm, ⟨78, _⟩ => ⟨S_, .i32⟩
  | .hbm, ⟨79, _⟩ => ⟨S4096x4096, .i32⟩
  | .hbm, ⟨80, _⟩ => ⟨S4096x4096, .i1⟩
  | .hbm, ⟨81, _⟩ => ⟨S4096x4096, .i1⟩
  | .hbm, ⟨82, _⟩ => ⟨S_, .f32⟩
  | .hbm, ⟨83, _⟩ => ⟨S_, .f32⟩
  | .hbm, ⟨84, _⟩ => ⟨S4x2x4x4096x4096, .i1⟩
  | .hbm, ⟨85, _⟩ => ⟨S4x2x4x4096x4096, .f32⟩
  | .hbm, ⟨86, _⟩ => ⟨S4x2x4x4096x4096, .f32⟩
  | .hbm, ⟨87, _⟩ => ⟨S_, .f32⟩
  | .hbm, ⟨88, _⟩ => ⟨S4x2x4x4096, .f32⟩
  | .hbm, ⟨89, _⟩ => ⟨S4x2x4x4096x1, .f32⟩
  | .hbm, ⟨90, _⟩ => ⟨S4x2x4x4096x1, .f32⟩
  | .hbm, ⟨91, _⟩ => ⟨S_, .f32⟩
  | .hbm, ⟨92, _⟩ => ⟨S4x2x4x4096x1, .f32⟩
  | .hbm, ⟨93, _⟩ => ⟨S4x2x4x4096x1, .i1⟩
  | .hbm, ⟨94, _⟩ => ⟨S_, .f32⟩
  | .hbm, ⟨95, _⟩ => ⟨S_, .f32⟩
  | .hbm, ⟨96, _⟩ => ⟨S4x2x4x4096x1, .f32⟩
  | .hbm, ⟨97, _⟩ => ⟨S4x2x4x4096x1, .f32⟩
  | .hbm, ⟨98, _⟩ => ⟨S4x2x4x4096x4096, .f32⟩
  | .hbm, ⟨99, _⟩ => ⟨S4x2x4x4096x4096, .f32⟩
  | .hbm, ⟨100, _⟩ => ⟨S4x2x4x4096x4096, .f32⟩
  | .hbm, ⟨101, _⟩ => ⟨S_, .f32⟩
  | .hbm, ⟨102, _⟩ => ⟨S4x2x4x4096, .f32⟩
  | .hbm, ⟨103, _⟩ => ⟨S4x2x4x4096x1, .f32⟩
  | .hbm, ⟨104, _⟩ => ⟨S_, .f32⟩
  | .hbm, ⟨105, _⟩ => ⟨S4x2x4x4096x1, .f32⟩
  | .hbm, ⟨106, _⟩ => ⟨S4x2x4x4096x1, .f32⟩
  | .hbm, ⟨107, _⟩ => ⟨S4x2x4x4096x4096, .f32⟩
  | .hbm, ⟨108, _⟩ => ⟨S4x2x4x4096x4096, .f32⟩
  | .hbm, ⟨109, _⟩ => ⟨S4x2x4x4096x128, .f32⟩
  | .hbm, ⟨110, _⟩ => ⟨S4x4096x2x4x128, .f32⟩
  | .hbm, ⟨111, _⟩ => ⟨S4x4096x8x128, .f32⟩
  | .hbm, ⟨112, _⟩ => ⟨S4x4096x24, .f32⟩
  | .hbm, ⟨113, _⟩ => ⟨S4x4096x24, .f32⟩
  | .hbm, ⟨114, _⟩ => ⟨S4x4096x24, .f32⟩
  | .hbm, ⟨115, _⟩ => ⟨S_, .f32⟩
  | .hbm, ⟨116, _⟩ => ⟨S4x4096x24, .f32⟩
  | .hbm, ⟨117, _⟩ => ⟨S4x4096x24, .f32⟩
  | .hbm, ⟨118, _⟩ => ⟨S_, .f32⟩
  | .hbm, ⟨119, _⟩ => ⟨S4x4096x24, .f32⟩
  | .hbm, ⟨120, _⟩ => ⟨S4x4096x24, .f32⟩
  | .hbm, ⟨121, _⟩ => ⟨S4x4096x8x3, .f32⟩
  | .hbm, ⟨122, _⟩ => ⟨S4x4096x8x1, .f32⟩
  | .hbm, ⟨123, _⟩ => ⟨S4x4096x8x128, .f32⟩
  | .hbm, ⟨124, _⟩ => ⟨S4x4096x8x128, .f32⟩
  | .hbm, ⟨125, _⟩ => ⟨S4x4096x1024, .f32⟩
  | .hbm, ⟨126, _⟩ => ⟨S4x4096x1024, .bf16⟩
  | _, _ => ⟨S4x4096x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_cst_3 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_c : Ref sig .tc := ⟨.hbm, 75, rfl⟩
abbrev main_v68 : Ref sig .tc := ⟨.hbm, 76, rfl⟩
abbrev main_v69 : Ref sig .tc := ⟨.hbm, 77, rfl⟩
abbrev main_c_4 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_5 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_v73 : Ref sig .tc := ⟨.hbm, 86, rfl⟩
abbrev main_cst_6 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_7 : Ref sig .tc := ⟨.hbm, 91, rfl⟩
abbrev main_v77 : Ref sig .tc := ⟨.hbm, 92, rfl⟩
abbrev main_v78 : Ref sig .tc := ⟨.hbm, 93, rfl⟩
abbrev main_cst_8 : Ref sig .tc := ⟨.hbm, 94, rfl⟩
abbrev main_call1_v0 : Ref sig .tc := ⟨.hbm, 95, rfl⟩
abbrev main_call1_v1 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_9 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_11 : Ref sig .tc := ⟨.hbm, 115, rfl⟩
abbrev main_v95 : Ref sig .tc := ⟨.hbm, 116, rfl⟩
abbrev main_v96 : Ref sig .tc := ⟨.hbm, 117, rfl⟩
abbrev main_cst_12 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩

abbrev nD : Nat := 1
abbrev τ : Topo := Topo.v7x

variable {F : FTy → Type} [FloatOps F]
-- ==== Kernel2.lean ====
abbrev S4x4096x2048 : Shape := ⟨3, ![4, 4096, 2048]⟩
abbrev S1x2048 : Shape := ⟨2, ![1, 2048]⟩
abbrev S1x2048x6696 : Shape := ⟨3, ![1, 2048, 6696]⟩
abbrev S16384x2048 : Shape := ⟨2, ![16384, 2048]⟩
abbrev S2048 : Shape := ⟨1, ![2048]⟩
abbrev S2048x6696 : Shape := ⟨2, ![2048, 6696]⟩
abbrev S2048x1024 : Shape := ⟨2, ![2048, 1024]⟩
abbrev S2048x1536 : Shape := ⟨2, ![2048, 1536]⟩
abbrev S2048x24 : Shape := ⟨2, ![2048, 24]⟩
abbrev S2048x3072 : Shape := ⟨2, ![2048, 3072]⟩
abbrev S2048x8 : Shape := ⟨2, ![2048, 8]⟩
abbrev S_ : Shape := ⟨0, ![]⟩
abbrev S2048x216 : Shape := ⟨2, ![2048, 216]⟩
abbrev S2048x6912 : Shape := ⟨2, ![2048, 6912]⟩
abbrev S16384x6912 : Shape := ⟨2, ![16384, 6912]⟩
abbrev S512x2048 : Shape := ⟨2, ![512, 2048]⟩
abbrev S2048x768 : Shape := ⟨2, ![2048, 768]⟩
abbrev S512x768 : Shape := ⟨2, ![512, 768]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x6696, .f32⟩
  | .hbm, ⟨3, _⟩ => ⟨S16384x2048, .f32⟩
  | .hbm, ⟨4, _⟩ => ⟨S2048, .f32⟩
  | .hbm, ⟨5, _⟩ => ⟨S2048x6696, .f32⟩
  | .hbm, ⟨6, _⟩ => ⟨S2048x1024, .f32⟩
  | .hbm, ⟨7, _⟩ => ⟨S2048x1536, .f32⟩
  | .hbm, ⟨8, _⟩ => ⟨S2048x24, .f32⟩
  | .hbm, ⟨9, _⟩ => ⟨S2048x3072, .f32⟩
  | .hbm, ⟨10, _⟩ => ⟨S2048x8, .f32⟩
  | .hbm, ⟨11, _⟩ => ⟨S2048x8, .f32⟩
  | .hbm, ⟨12, _⟩ => ⟨S2048x1024, .f32⟩
  | .hbm, ⟨13, _⟩ => ⟨S_, .f32⟩
  | .hbm, ⟨14, _⟩ => ⟨S2048x216, .f32⟩
  | .hbm, ⟨15, _⟩ => ⟨S2048x6912, .f32⟩
  | .hbm, ⟨16, _⟩ => ⟨S2048x6912, .bf16⟩
  | .hbm, ⟨17, _⟩ => ⟨S1x2048, .f32⟩
  | .hbm, ⟨18, _⟩ => ⟨S16384x6912, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S512x768, .f32⟩
  | .local _ .vmem, ⟨6, _⟩ => ⟨S512x768, .f32⟩
  | .local _ .vmem, ⟨7, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S1x2048 : Shape := ⟨2, ![1, 2048]⟩
abbrev S1x2048x6696 : Shape := ⟨3, ![1, 2048, 6696]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x6696 : Shape := ⟨2, ![2048, 6696]⟩
abbrev S4x4096x6696 : Shape := ⟨3, ![4, 4096, 6696]⟩
abbrev S4x4096x1024 : Shape := ⟨3, ![4, 4096, 1024]⟩
abbrev S4x4096x1536 : Shape := ⟨3, ![4, 4096, 1536]⟩
abbrev S4x4096x24 : Shape := ⟨3, ![4, 4096, 24]⟩
abbrev S4x4096x3072 : Shape := ⟨3, ![4, 4096, 3072]⟩
abbrev S4x4096x8 : Shape := ⟨3, ![4, 4096, 8]⟩
abbrev S4x4096x216 : Shape := ⟨3, ![4, 4096, 216]⟩
abbrev S4x4096x6912 : Shape := ⟨3, ![4, 4096, 6912]⟩
abbrev S16384x6912 : Shape := ⟨2, ![16384, 6912]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x6696, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S2048x6696, .f32⟩
  | .hbm, ⟨21, _⟩ => ⟨S4x4096x6696, .f32⟩
  | .hbm, ⟨22, _⟩ => ⟨S4x4096x1024, .f32⟩
  | .hbm, ⟨23, _⟩ => ⟨S4x4096x1536, .f32⟩
  | .hbm, ⟨24, _⟩ => ⟨S4x4096x24, .f32⟩
  | .hbm, ⟨25, _⟩ => ⟨S4x4096x3072, .f32⟩
  | .hbm, ⟨26, _⟩ => ⟨S4x4096x8, .f32⟩
  | .hbm, ⟨27, _⟩ => ⟨S4x4096x8, .f32⟩
  | .hbm, ⟨28, _⟩ => ⟨S4x4096x1024, .f32⟩
  | .hbm, ⟨29, _⟩ => ⟨S_, .f32⟩
  | .hbm, ⟨30, _⟩ => ⟨S4x4096x216, .f32⟩
  | .hbm, ⟨31, _⟩ => ⟨S4x4096x6912, .f32⟩
  | .hbm, ⟨32, _⟩ => ⟨S16384x6912, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel3.lean ====
abbrev S16384x2048 : Shape := ⟨2, ![16384, 2048]⟩
abbrev S32768x2048 : Shape := ⟨2, ![32768, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S32768x2048, .f32⟩
  | .hbm, ⟨2, _⟩ => ⟨S2048, .f32⟩
  | .hbm, ⟨3, _⟩ => ⟨S1x2048, .f32⟩
  | .hbm, ⟨4, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x2048 : Shape := ⟨2, ![16384, 2048]⟩
abbrev S32768x2048 : Shape := ⟨2, ![32768, 2048]⟩
abbrev S2048 : Shape := ⟨1, ![2048]⟩
abbrev S2x16384x2048 : Shape := ⟨3, ![2, 16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S32768x2048, .f32⟩
  | .hbm, ⟨2, _⟩ => ⟨S2048, .f32⟩
  | .hbm, ⟨3, _⟩ => ⟨S2x16384x2048, .f32⟩
  | .hbm, ⟨4, _⟩ => ⟨S_, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S16384x1024 : Shape := ⟨2, ![16384, 1024]⟩
abbrev S16384x2048 : Shape := ⟨2, ![16384, 2048]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S2048x8 : Shape := ⟨2, ![2048, 8]⟩
abbrev S2048x64 : Shape := ⟨2, ![2048, 64]⟩
abbrev S_ : Shape := ⟨0, ![]⟩
abbrev S2048x56 : Shape := ⟨2, ![2048, 56]⟩
abbrev S2048x128 : Shape := ⟨2, ![2048, 128]⟩
abbrev S8 : Shape := ⟨1, ![8]⟩
abbrev S64 : Shape := ⟨1, ![64]⟩
abbrev S56 : Shape := ⟨1, ![56]⟩
abbrev S128 : Shape := ⟨1, ![128]⟩
abbrev S1x128 : Shape := ⟨2, ![1, 128]⟩
abbrev S2048x2048 : Shape := ⟨2, ![2048, 2048]⟩
abbrev S2048 : Shape := ⟨1, ![2048]⟩
abbrev S16384x128 : Shape := ⟨2, ![16384, 128]⟩
abbrev S256x1024 : Shape := ⟨2, ![256, 1024]⟩
abbrev S256x2048 : Shape := ⟨2, ![256, 2048]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩

abbrev nBuf : Space → Nat
  | .hbm => 30
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x2048, .f32⟩
  | .hbm, ⟨5, _⟩ => ⟨S1x2048x2048, .f32⟩
  | .hbm, ⟨6, _⟩ => ⟨S1x2048, .f32⟩
  | .hbm, ⟨7, _⟩ => ⟨S1x2048x8, .f32⟩
  | .hbm, ⟨8, _⟩ => ⟨S1x8, .f32⟩
  | .hbm, ⟨9, _⟩ => ⟨S1x2048x64, .f32⟩
  | .hbm, ⟨10, _⟩ => ⟨S1x64, .f32⟩
  | .hbm, ⟨11, _⟩ => ⟨S2048x8, .f32⟩
  | .hbm, ⟨12, _⟩ => ⟨S2048x64, .f32⟩
  | .hbm, ⟨13, _⟩ => ⟨S_, .f32⟩
  | .hbm, ⟨14, _⟩ => ⟨S2048x56, .f32⟩
  | .hbm, ⟨15, _⟩ => ⟨S2048x128, .f32⟩
  | .hbm, ⟨16, _⟩ => ⟨S8, .f32⟩
  | .hbm, ⟨17, _⟩ => ⟨S64, .f32⟩
  | .hbm, ⟨18, _⟩ => ⟨S_, .f32⟩
  | .hbm, ⟨19, _⟩ => ⟨S56, .f32⟩
  | .hbm, ⟨20, _⟩ => ⟨S128, .f32⟩
  | .hbm, ⟨21, _⟩ => ⟨S1x128, .f32⟩
  | .hbm, ⟨22, _⟩ => ⟨S2048x2048, .f32⟩
  | .hbm, ⟨23, _⟩ => ⟨S2048x2048, .bf16⟩
  | .hbm, ⟨24, _⟩ => ⟨S2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x128, .i32⟩
  | .hbm, ⟨29, _⟩ => ⟨S16384x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S1x2048, .f32⟩
  | .local _ .vmem, ⟨12, _⟩ => ⟨S2048x128, .f32⟩
  | .local _ .vmem, ⟨13, _⟩ => ⟨S1x128, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x128, .i32⟩
  | .local _ .vmem, ⟨19, _⟩ => ⟨S256x128, .i32⟩
  | .local _ .vmem, ⟨20, _⟩ => ⟨S256x128, .f32⟩
  | .local _ .vmem, ⟨21, _⟩ => ⟨S256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S16384x2048 : Shape := ⟨2, ![16384, 2048]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x2048, .f32⟩
  | .hbm, ⟨5, _⟩ => ⟨S1x2048x2048, .f32⟩
  | .hbm, ⟨6, _⟩ => ⟨S1x2048, .f32⟩
  | .hbm, ⟨7, _⟩ => ⟨S1x2048x8, .f32⟩
  | .hbm, ⟨8, _⟩ => ⟨S1x8, .f32⟩
  | .hbm, ⟨9, _⟩ => ⟨S1x2048x64, .f32⟩
  | .hbm, ⟨10, _⟩ => ⟨S1x64, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x2048, .f32⟩
  | .hbm, ⟨18, _⟩ => ⟨S2048x2048, .f32⟩
  | .hbm, ⟨19, _⟩ => ⟨S16384x2048, .f32⟩
  | .hbm, ⟨20, _⟩ => ⟨S16384x2048, .f32⟩
  | .hbm, ⟨21, _⟩ => ⟨S2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel5.lean ====
abbrev S4x4096x6912 : Shape := ⟨3, ![4, 4096, 6912]⟩
abbrev S4x4096 : Shape := ⟨2, ![4, 4096]⟩
abbrev S4x2x2x256x128 : Shape := ⟨5, ![4, 2, 2, 256, 128]⟩
abbrev S16 : Shape := ⟨1, ![16]⟩
abbrev S_ : Shape := ⟨0, ![]⟩
abbrev S4x4096x1 : Shape := ⟨3, ![4, 4096, 1]⟩
abbrev S1x1x16 : Shape := ⟨3, ![1, 1, 16]⟩
abbrev S4x4096x16 : Shape := ⟨3, ![4, 4096, 16]⟩
abbrev S4x4096x96 : Shape := ⟨3, ![4, 4096, 96]⟩
abbrev S4x4096x112 : Shape := ⟨3, ![4, 4096, 112]⟩
abbrev S4x4096x128 : Shape := ⟨3, ![4, 4096, 128]⟩
abbrev S4x4096x1024 : Shape := ⟨3, ![4, 4096, 1024]⟩
abbrev S4x2x4096x128 : Shape := ⟨4, ![4, 2, 4096, 128]⟩
abbrev S1x128x512 : Shape := ⟨3, ![1, 128, 512]⟩
abbrev S1x128x128 : Shape := ⟨3, ![1, 128, 128]⟩
abbrev S1x1x1x256x128 : Shape := ⟨5, ![1, 1, 1, 256, 128]⟩
abbrev S1x1x128x128 : Shape := ⟨4, ![1, 1, 128, 128]⟩
abbrev S128x128 : Shape := ⟨2, ![128, 128]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S128 : Shape := ⟨1, ![128]⟩
abbrev S128x1 : Shape := ⟨2, ![128, 1]⟩
abbrev S128x256 : Shape := ⟨2, ![128, 256]⟩

abbrev nBuf : Space → Nat
  | .hbm => 38
  | .vmem => 18
  | .smem => 0
  | _ => 0

abbrev bufTy : (tb : Table) → Fin (tcTables nBuf tb) → BufTy
  | .hbm, ⟨0, _⟩ => ⟨S4x4096x6912, .f32⟩
  | .hbm, ⟨1, _⟩ => ⟨S4x4096, .i32⟩
  | .hbm, ⟨2, _⟩ => ⟨S4x2x2x256x128, .bf16⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x4096, .f32⟩
  | .hbm, ⟨18, _⟩ => ⟨S4x4096x1, .f32⟩
  | .hbm, ⟨19, _⟩ => ⟨S1x1x16, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S4x4096x16, .f32⟩
  | .hbm, ⟨24, _⟩ => ⟨S4x4096x16, .f32⟩
  | .hbm, ⟨25, _⟩ => ⟨S_, .f32⟩
  | .hbm, ⟨26, _⟩ => ⟨S4x4096x96, .f32⟩
  | .hbm, ⟨27, _⟩ => ⟨S_, .f32⟩
  | .hbm, ⟨28, _⟩ => ⟨S4x4096x112, .f32⟩
  | .hbm, ⟨29, _⟩ => ⟨S4x4096x128, .f32⟩
  | .hbm, ⟨30, _⟩ => ⟨S4x4096x16, .f32⟩
  | .hbm, ⟨31, _⟩ => ⟨S4x4096x128, .f32⟩
  | .hbm, ⟨32, _⟩ => ⟨S_, .f32⟩
  | .hbm, ⟨33, _⟩ => ⟨S4x4096x16, .f32⟩
  | .hbm, ⟨34, _⟩ => ⟨S4x4096x96, .f32⟩
  | .hbm, ⟨35, _⟩ => ⟨S4x4096x128, .f32⟩
  | .hbm, ⟨36, _⟩ => ⟨S4x4096x1024, .bf16⟩
  | .hbm, ⟨37, _⟩ => ⟨S4x2x4096x128, .bf16⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x1x1x256x128, .bf16⟩
  | .local _ .vmem, ⟨9, _⟩ => ⟨S1x1x1x256x128, .bf16⟩
  | .local _ .vmem, ⟨10, _⟩ => ⟨S1x1x1x256x128, .bf16⟩
  | .local _ .vmem, ⟨11, _⟩ => ⟨S1x1x1x256x128, .bf16⟩
  | .local _ .vmem, ⟨12, _⟩ => ⟨S1x128x128, .f32⟩
  | .local _ .vmem, ⟨13, _⟩ => ⟨S1x128x128, .f32⟩
  | .local _ .vmem, ⟨14, _⟩ => ⟨S1x128x512, .bf16⟩
  | .local _ .vmem, ⟨15, _⟩ => ⟨S1x128x512, .bf16⟩
  | .local _ .vmem, ⟨16, _⟩ => ⟨S1x1x128x128, .bf16⟩
  | .local _ .vmem, ⟨17, _⟩ => ⟨S1x1x128x128, .bf16⟩
  | _, _ => ⟨S4x4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c52_i32 : BitVec 32 := 52#32
  let c0_i32 : BitVec 32 := 0#32
  ![arg0.toNat, arg2.toNat, c52_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel5Ideal.lean ====
variable {F : FTy → Type} [FloatOps F] [Named F]
def κ : String → Option EReal := fun
  | "mask" => some ⊥
  | _ => none
-- ==== Reference5Ideal.lean ====
abbrev S4x4096x6912 : Shape := ⟨3, ![4, 4096, 6912]⟩
abbrev S4x4096 : Shape := ⟨2, ![4, 4096]⟩
abbrev S4x2x2x256x128 : Shape := ⟨5, ![4, 2, 2, 256, 128]⟩
abbrev S16 : Shape := ⟨1, ![16]⟩
abbrev S_ : Shape := ⟨0, ![]⟩
abbrev S4x4096x1 : Shape := ⟨3, ![4, 4096, 1]⟩
abbrev S1x1x16 : Shape := ⟨3, ![1, 1, 16]⟩
abbrev S4x4096x16 : Shape := ⟨3, ![4, 4096, 16]⟩
abbrev S4x4096x1x16 : Shape := ⟨4, ![4, 4096, 1, 16]⟩
abbrev S4x4096x1024 : Shape := ⟨3, ![4, 4096, 1024]⟩
abbrev S4x4096x8x128 : Shape := ⟨4, ![4, 4096, 8, 128]⟩
abbrev S4x4096x8x16 : Shape := ⟨4, ![4, 4096, 8, 16]⟩
abbrev S4x4096x8x96 : Shape := ⟨4, ![4, 4096, 8, 96]⟩
abbrev S4x4096x2x4x128 : Shape := ⟨5, ![4, 4096, 2, 4, 128]⟩
abbrev S4x2x4x4096x128 : Shape := ⟨5, ![4, 2, 4, 4096, 128]⟩
abbrev S4x1x2x255x128 : Shape := ⟨5, ![4, 1, 2, 255, 128]⟩
abbrev S4x2x255x128 : Shape := ⟨4, ![4, 2, 255, 128]⟩
abbrev S4x2x4x4096x255 : Shape := ⟨5, ![4, 2, 4, 4096, 255]⟩
abbrev S255 : Shape := ⟨1, ![255]⟩
abbrev S1x255 : Shape := ⟨2, ![1, 255]⟩
abbrev S4096 : Shape := ⟨1, ![4096]⟩
abbrev S4096x1 : Shape := ⟨2, ![4096, 1]⟩
abbrev S4096x255 : Shape := ⟨2, ![4096, 255]⟩
abbrev S4x2x4x4096 : Shape := ⟨4, ![4, 2, 4, 4096]⟩
abbrev S4x2x4x4096x1 : Shape := ⟨5, ![4, 2, 4, 4096, 1]⟩
abbrev S4x4096x24 : Shape := ⟨3, ![4, 4096, 24]⟩
abbrev S4x4096x8x3 : Shape := ⟨4, ![4, 4096, 8, 3]⟩
abbrev S4x4096x8x1 : Shape := ⟨4, ![4, 4096, 8, 1]⟩

abbrev nBuf : Space → Nat
  | .hbm => 116
  | .vmem => 0
  | .smem => 0
  | _ => 0

abbrev bufTy : (tb : Table) → Fin (tcTables nBuf tb) → BufTy
  | .hbm, ⟨0, _⟩ => ⟨S4x4096x6912, .f32⟩
  | .hbm, ⟨1, _⟩ => ⟨S4x4096, .i32⟩
  | .hbm, ⟨2, _⟩ => ⟨S4x2x2x256x128, .bf16⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x4096, .f32⟩
  | .hbm, ⟨18, _⟩ => ⟨S4x4096x1, .f32⟩
  | .hbm, ⟨19, _⟩ => ⟨S1x1x16, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S4x4096x16, .f32⟩
  | .hbm, ⟨24, _⟩ => ⟨S4x4096x1x16, .f32⟩
  | .hbm, ⟨25, _⟩ => ⟨S4x4096x16, .f32⟩
  | .hbm, ⟨26, _⟩ => ⟨S4x4096x1x16, .f32⟩
  | .hbm, ⟨27, _⟩ => ⟨S4x4096x1024, .f32⟩
  | .hbm, ⟨28, _⟩ => ⟨S4x4096x8x128, .f32⟩
  | .hbm, ⟨29, _⟩ => ⟨S4x4096x8x16, .f32⟩
  | .hbm, ⟨30, _⟩ => ⟨S4x4096x8x16, .f32⟩
  | .hbm, ⟨31, _⟩ => ⟨S4x4096x8x96, .f32⟩
  | .hbm, ⟨32, _⟩ => ⟨S4x4096x8x16, .f32⟩
  | .hbm, ⟨33, _⟩ => ⟨S4x4096x8x16, .f32⟩
  | .hbm, ⟨34, _⟩ => ⟨S4x4096x8x16, .f32⟩
  | .hbm, ⟨35, _⟩ => ⟨S4x4096x8x16, .f32⟩
  | .hbm, ⟨36, _⟩ => ⟨S4x4096x8x16, .f32⟩
  | .hbm, ⟨37, _⟩ => ⟨S4x4096x8x16, .f32⟩
  | .hbm, ⟨38, _⟩ => ⟨S4x4096x8x16, .f32⟩
  | .hbm, ⟨39, _⟩ => ⟨S4x4096x8x16, .f32⟩
  | .hbm, ⟨40, _⟩ => ⟨S4x4096x8x16, .f32⟩
  | .hbm, ⟨41, _⟩ => ⟨S4x4096x8x16, .f32⟩
  | .hbm, ⟨42, _⟩ => ⟨S4x4096x8x128, .f32⟩
  | .hbm, ⟨43, _⟩ => ⟨S4x4096x2x4x128, .f32⟩
  | .hbm, ⟨44, _⟩ => ⟨S4x2x4x4096x128, .f32⟩
  | .hbm, ⟨45, _⟩ => ⟨S4x1x2x255x128, .bf16⟩
  | .hbm, ⟨46, _⟩ => ⟨S4x2x255x128, .bf16⟩
  | .hbm, ⟨47, _⟩ => ⟨S4x2x255x128, .f32⟩
  | .hbm, ⟨48, _⟩ => ⟨S4x1x2x255x128, .bf16⟩
  | .hbm, ⟨49, _⟩ => ⟨S4x2x255x128, .bf16⟩
  | .hbm, ⟨50, _⟩ => ⟨S4x2x255x128, .f32⟩
  | .hbm, ⟨51, _⟩ => ⟨S4x2x4x4096x255, .f32⟩
  | .hbm, ⟨52, _⟩ => ⟨S_, .f32⟩
  | .hbm, ⟨53, _⟩ => ⟨S4x2x4x4096x255, .f32⟩
  | .hbm, ⟨54, _⟩ => ⟨S4x2x4x4096x255, .f32⟩
  | .hbm, ⟨55, _⟩ => ⟨S255, .i32⟩
  | .hbm, ⟨56, _⟩ => ⟨S_, .i32⟩
  | .hbm, ⟨57, _⟩ => ⟨S255, .i32⟩
  | .hbm, ⟨58, _⟩ => ⟨S255, .i32⟩
  | .hbm, ⟨59, _⟩ => ⟨S_, .i32⟩
  | .hbm, ⟨60, _⟩ => ⟨S255, .i32⟩
  | .hbm, ⟨61, _⟩ => ⟨S255, .i32⟩
  | .hbm, ⟨62, _⟩ => ⟨S_, .i32⟩
  | .hbm, ⟨63, _⟩ => ⟨S255, .i32⟩
  | .hbm, ⟨64, _⟩ => ⟨S255, .i32⟩
  | .hbm, ⟨65, _⟩ => ⟨S1x255, .i32⟩
  | .hbm, ⟨66, _⟩ => ⟨S4096, .i32⟩
  | .hbm, ⟨67, _⟩ => ⟨S4096x1, .i32⟩
  | .hbm, ⟨68, _⟩ => ⟨S4096x255, .i32⟩
  | .hbm, ⟨69, _⟩ => ⟨S4096x255, .i32⟩
  | .hbm, ⟨70, _⟩ => ⟨S4096x255, .i1⟩
  | .hbm, ⟨71, _⟩ => ⟨S_, .f32⟩
  | .hbm, ⟨72, _⟩ => ⟨S_, .f32⟩
  | .hbm, ⟨73, _⟩ => ⟨S4x2x4x4096x255, .i1⟩
  | .hbm, ⟨74, _⟩ => ⟨S4x2x4x4096x255, .f32⟩
  | .hbm, ⟨75, _⟩ => ⟨S4x2x4x4096x255, .f32⟩
  | .hbm, ⟨76, _⟩ => ⟨S_, .f32⟩
  | .hbm, ⟨77, _⟩ => ⟨S4x2x4x4096, .f32⟩
  | .hbm, ⟨78, _⟩ => ⟨S4x2x4x4096x1, .f32⟩
  | .hbm, ⟨79, _⟩ => ⟨S4x2x4x4096x1, .f32⟩
  | .hbm, ⟨80, _⟩ => ⟨S_, .f32⟩
  | .hbm, ⟨81, _⟩ => ⟨S4x2x4x4096x1, .f32⟩
  | .hbm, ⟨82, _⟩ => ⟨S4x2x4x4096x1, .i1⟩
  | .hbm, ⟨83, _⟩ => ⟨S_, .f32⟩
  | .hbm, ⟨84, _⟩ => ⟨S_, .f32⟩
  | .hbm, ⟨85, _⟩ => ⟨S4x2x4x4096x1, .f32⟩
  | .hbm, ⟨86, _⟩ => ⟨S4x2x4x4096x1, .f32⟩
  | .hbm, ⟨87, _⟩ => ⟨S4x2x4x4096x255, .f32⟩
  | .hbm, ⟨88, _⟩ => ⟨S4x2x4x4096x255, .f32⟩
  | .hbm, ⟨89, _⟩ => ⟨S4x2x4x4096x255, .f32⟩
  | .hbm, ⟨90, _⟩ => ⟨S_, .f32⟩
  | .hbm, ⟨91, _⟩ => ⟨S4x2x4x4096, .f32⟩
  | .hbm, ⟨92, _⟩ => ⟨S4x2x4x4096x1, .f32⟩
  | .hbm, ⟨93, _⟩ => ⟨S_, .f32⟩
  | .hbm, ⟨94, _⟩ => ⟨S4x2x4x4096x1, .f32⟩
  | .hbm, ⟨95, _⟩ => ⟨S4x2x4x4096x1, .f32⟩
  | .hbm, ⟨96, _⟩ => ⟨S4x2x4x4096x255, .f32⟩
  | .hbm, ⟨97, _⟩ => ⟨S4x2x4x4096x255, .f32⟩
  | .hbm, ⟨98, _⟩ => ⟨S4x2x4x4096x128, .f32⟩
  | .hbm, ⟨99, _⟩ => ⟨S4x4096x2x4x128, .f32⟩
  | .hbm, ⟨100, _⟩ => ⟨S4x4096x8x128, .f32⟩
  | .hbm, ⟨101, _⟩ => ⟨S4x4096x24, .f32⟩
  | .hbm, ⟨102, _⟩ => ⟨S4x4096x24, .f32⟩
  | .hbm, ⟨103, _⟩ => ⟨S4x4096x24, .f32⟩
  | .hbm, ⟨104, _⟩ => ⟨S_, .f32⟩
  | .hbm, ⟨105, _⟩ => ⟨S4x4096x24, .f32⟩
  | .hbm, ⟨106, _⟩ => ⟨S4x4096x24, .f32⟩
  | .hbm, ⟨107, _⟩ => ⟨S_, .f32⟩
  | .hbm, ⟨108, _⟩ => ⟨S4x4096x24, .f32⟩
  | .hbm, ⟨109, _⟩ => ⟨S4x4096x24, .f32⟩
  | .hbm, ⟨110, _⟩ => ⟨S4x4096x8x3, .f32⟩
  | .hbm, ⟨111, _⟩ => ⟨S4x4096x8x1, .f32⟩
  | .hbm, ⟨112, _⟩ => ⟨S4x4096x8x128, .f32⟩
  | .hbm, ⟨113, _⟩ => ⟨S4x4096x8x128, .f32⟩
  | .hbm, ⟨114, _⟩ => ⟨S4x4096x1024, .f32⟩
  | .hbm, ⟨115, _⟩ => ⟨S4x4096x1024, .bf16⟩
  | _, _ => ⟨S4x4096x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c : Ref sig .tc := ⟨.hbm, 56, rfl⟩
abbrev main_v48 : Ref sig .tc := ⟨.hbm, 57, rfl⟩
abbrev main_v49 : Ref sig .tc := ⟨.hbm, 58, rfl⟩
abbrev main_c_4 : Ref sig .tc := ⟨.hbm, 59, rfl⟩
abbrev main_v50 : Ref sig .tc := ⟨.hbm, 60, rfl⟩
abbrev main_v51 : Ref sig .tc := ⟨.hbm, 61, rfl⟩
abbrev main_c_5 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_call1_v0 : Ref sig .tc := ⟨.hbm, 84, rfl⟩
abbrev main_call1_v1 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== Proof.Win.Base.lean ====
/- The window attention's launch (`KernelIdeal`): the body's branch condition in closed form, the memrefs the
   pipeline passes at a grid point, and the region invariant's scratch as owned memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Win

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's one branch: the innermost grid coordinate is zero. -/
abbrev cond0 (i : grid0.Coords) : Prop := (Scalar.cmpi .ne (Scalar.extui (Scalar.cmpi .eq (BitVec.ofNat 32 (i 2).val) 0#32)) 0#32) = 1#1

/-- It holds at the points divisible by 32: the first query block of each batch and key group. -/
theorem hcond0 (t : Fin cfg0.N) : cond0 (grid0.coords t) ↔ t.val % 32 = 0 := by
  have ht : t.val < 256 := Nat.lt_of_lt_of_eq t.isLt N_0
  have e0 : (grid0.coords t 0).val = t.val / 64 % 4 := Pipeline.Grid.coords_val t 0 (by decide) rfl
  have e1 : (grid0.coords t 1).val = t.val / 32 % 2 := Pipeline.Grid.coords_val t 1 (by decide) rfl
  have e2 : (grid0.coords t 2).val = t.val / 1 % 32 := Pipeline.Grid.coords_val t 2 (by decide) rfl
  simp only [cond0, e0, e1, e2]
  word_cmp

/-- The key window's first row in closed form: 512 rows before the query block's first, or row 0. -/
theorem koff_eq (i : grid0.Coords) : k0_off1 i = ![128 * (i 2).val - 512, 0] := by
  have h : ∀ n : Fin 32, (Scalar.indexCast (Scalar.maxsi (Scalar.subi (Scalar.muli (BitVec.ofNat 32 n.val) 128#32) 512#32) 0#32)).toNat = 128 * n.val - 512 := by
    decide +kernel
  funext a
  match a with
  | ⟨0, _⟩ => exact h (i 2)
  | ⟨1, _⟩ => rfl

instance (i : grid0.Coords) : ClosedOff (k0_off1 i) := ⟨![128 * (i 2).val - 512, 0], koff_eq i⟩

/-- Window 0's staging memref at point `t`, and that it is whole. -/
abbrev ms0 (t : Fin cfg0.N) : Memref sig .tc .vmem S1x128x512 .f32 := win0_0.stage (cfg0.slots t 0)
abbrev hs0 (t : Fin cfg0.N) : (ms0 t).IsWhole := hstage0_0 ((cfg0.slots t 0).cast nbuf0_0)
/-- Window 1's staging memref at point `t`, and that it is whole. -/
abbrev ms1 (t : Fin cfg0.N) : Memref sig .tc .vmem S1x128x128 .f32 := win0_1.stage (cfg0.slots t 1)
abbrev hs1 (t : Fin cfg0.N) : (ms1 t).IsWhole := hstage0_1 ((cfg0.slots t 1).cast nbuf0_1)
/-- Window 2's staging memref at point `t`, and that it is whole. -/
abbrev ms2 (t : Fin cfg0.N) : Memref sig .tc .vmem S1x128x128 .f32 := win0_2.stage (cfg0.slots t 2)
abbrev hs2 (t : Fin cfg0.N) : (ms2 t).IsWhole := hstage0_2 ((cfg0.slots t 2).cast nbuf0_2)
/-- Window 3's staging memref at point `t`, and that it is whole. -/
abbrev ms3 (t : Fin cfg0.N) : Memref sig .tc .vmem S1x128x128 .f32 := win0_3.stage (cfg0.slots t 3)
abbrev hs3 (t : Fin cfg0.N) : (ms3 t).IsWhole := hstage0_3 ((cfg0.slots t 3).cast nbuf0_3)
/-- Window 4's staging memref at point `t`, and that it is whole. -/
abbrev ms4 (t : Fin cfg0.N) : Memref sig .tc .vmem S1x4096x128 .f32 := win0_4.stage (cfg0.slots t 4)
abbrev hs4 (t : Fin cfg0.N) : (ms4 t).IsWhole := hstage0_4 ((cfg0.slots t 4).cast nbuf0_4)
/-- Window 5's staging memref at point `t`, and that it is whole. -/
abbrev ms5 (t : Fin cfg0.N) : Memref sig .tc .vmem S1x4096x128 .f32 := win0_5.stage (cfg0.slots t 5)
abbrev hs5 (t : Fin cfg0.N) : (ms5 t).IsWhole := hstage0_5 ((cfg0.slots t 5).cast nbuf0_5)
/-- Window 6's staging memref at point `t`, and that it is whole. -/
abbrev ms6 (t : Fin cfg0.N) : Memref sig .tc .vmem S1x4096x128 .f32 := win0_6.stage (cfg0.slots t 6)
abbrev hs6 (t : Fin cfg0.N) : (ms6 t).IsWhole := hstage0_6 ((cfg0.slots t 6).cast nbuf0_6)
/-- Window 7's staging memref at point `t`, and that it is whole. -/
abbrev ms7 (t : Fin cfg0.N) : Memref sig .tc .vmem S1x4096x128 .f32 := win0_7.stage (cfg0.slots t 7)
abbrev hs7 (t : Fin cfg0.N) : (ms7 t).IsWhole := hstage0_7 ((cfg0.slots t 7).cast nbuf0_7)
/-- Window 8's staging memref at point `t`, and that it is whole. -/
abbrev ms8 (t : Fin cfg0.N) : Memref sig .tc .vmem S1x4096x128 .f32 := win0_8.stage (cfg0.slots t 8)
abbrev hs8 (t : Fin cfg0.N) : (ms8 t).IsWhole := hstage0_8 ((cfg0.slots t 8).cast nbuf0_8)
/-- Window 9's staging memref at point `t`, and that it is whole. -/
abbrev ms9 (t : Fin cfg0.N) : Memref sig .tc .vmem S1x128x128 .f32 := win0_9.stage (cfg0.slots t 9)
abbrev hs9 (t : Fin cfg0.N) : (ms9 t).IsWhole := hstage0_9 ((cfg0.slots t 9).cast nbuf0_9)
/-- Window 10's staging memref at point `t`, and that it is whole. -/
abbrev ms10 (t : Fin cfg0.N) : Memref sig .tc .vmem S1x128x512 .bf16 := win0_10.stage (cfg0.slots t 10)
abbrev hs10 (t : Fin cfg0.N) : (ms10 t).IsWhole := hstage0_10 ((cfg0.slots t 10).cast nbuf0_10)

/-- The scratch that keeps the rotated keys, and the one that keeps the values. -/
abbrev scK : Memref sig .tc .vmem S4096x128 .bf16 := Memref.whole cc0_scratch0
abbrev scV : Memref sig .tc .vmem S4096x128 .bf16 := Memref.whole cc0_scratch1
/-- A staging buffer of the output, through which its contents are stated. -/
abbrev VO : View sig .tc .vmem S1x128x512 .bf16 := (Memref.whole cc0_stg10_0 : Memref sig .tc .vmem S1x128x512 .bf16).view

/-- The region's invariant with both scratch buffers as memrefs owned at some contents. -/
theorem PhiA_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

end Cert.KernelIdeal.Win

end
-- ==== Proof.Win.RunA.lean ====
/- The window attention's body at a point that fills the key and value scratch. -/
module

public import proofs.«01_k».proof.Proof.Win.Base

@[expose] public section

set_option maxRecDepth 16384

noncomputable section

namespace Cert.KernelIdeal.Win

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the branch is taken: the pieces it leaves in the output and in both scratch buffers, with its triple. -/
noncomputable def runA (c : Dev nD) (i : grid0.Coords) (arg3 : Memref sig .tc .vmem S1x128x512 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x128x128 .f32) (harg12 : arg12.IsWhole) (arg13 : Memref sig .tc .vmem S1x128x512 .bf16) (harg13 : arg13.IsWhole) (arg14 : Memref sig .tc .vmem S4096x128 .bf16) (harg14 : arg14.IsWhole) (arg15 : Memref sig .tc .vmem S4096x128 .bf16) (harg15 : arg15.IsWhole) (hc : cond0 i)
    (x0 : Vec F S1x128x512 .f32) (x1 : Vec F S1x128x128 .f32) (x2 : Vec F S1x128x128 .f32) (x3 : Vec F S1x128x128 .f32) (x4 : Vec F S1x4096x128 .f32) (x5 : Vec F S1x4096x128 .f32) (x6 : Vec F S1x4096x128 .f32) (x7 : Vec F S1x4096x128 .f32) (x8 : Vec F S1x4096x128 .f32) (x9 : Vec F S1x128x128 .f32) :
    Σ' (L : List (View.Piece (Elt F) S1x128x512 .bf16)), Σ' (LK : List (View.Piece (Elt F) S4096x128 .bf16)), { LV : List (View.Piece (Elt F) S4096x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L) ∗ (∃ f, arg14.view.loc (c : Thread nD τ) ↦[arg14.view.set]{fullShare} arg14.view.writes (Elt F) f LK) ∗ (∃ f, arg15.view.loc (c : Thread nD τ) ↦[arg15.view.set]{fullShare} arg15.view.writes (Elt F) f LV)) -∗ K ⟨⟩))
          ⊢ wp frame (wpE (defs₀ (F := F)) Variants.none c none) E (cc0_nsa_win i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_nsa_win_eq_skeleton]; unfold cc0_nsa_win_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [HS0]; · iexists _; iexact HS0
    iexists _; iexact HS1

end Cert.KernelIdeal.Win

end
-- ==== Proof.Win.RunB.lean ====
/- The window attention's body at a point that finds the key and value scratch filled. -/
module

public import proofs.«01_k».proof.Proof.Win.RunA

@[expose] public section

set_option maxRecDepth 16384

noncomputable section

namespace Cert.KernelIdeal.Win

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the branch is not taken: the pieces it leaves in the output, the scratch kept, with its triple. -/
noncomputable def runB (c : Dev nD) (i : grid0.Coords) (arg3 : Memref sig .tc .vmem S1x128x512 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x128x128 .f32) (harg12 : arg12.IsWhole) (arg13 : Memref sig .tc .vmem S1x128x512 .bf16) (harg13 : arg13.IsWhole) (arg14 : Memref sig .tc .vmem S4096x128 .bf16) (harg14 : arg14.IsWhole) (arg15 : Memref sig .tc .vmem S4096x128 .bf16) (harg15 : arg15.IsWhole) (hc : ¬cond0 i)
    (x0 : Vec F S1x128x512 .f32) (x1 : Vec F S1x128x128 .f32) (x2 : Vec F S1x128x128 .f32) (x3 : Vec F S1x128x128 .f32) (x4 : Vec F S1x4096x128 .f32) (x5 : Vec F S1x4096x128 .f32) (x6 : Vec F S1x4096x128 .f32) (x7 : Vec F S1x4096x128 .f32) (x8 : Vec F S1x4096x128 .f32) (x9 : Vec F S1x128x128 .f32) (xs0 : Vec F S4096x128 .bf16) (xs1 : Vec F S4096x128 .bf16) :
    { L : List (View.Piece (Elt F) S1x128x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ owns (c : Thread nD τ) arg15 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L) ∗ owns (c : Thread nD τ) arg14 fullShare xs0 ∗ owns (c : Thread nD τ) arg15 fullShare xs1) -∗ K ⟨⟩))
          ⊢ wp frame (wpE (defs₀ (F := F)) Variants.none c none) E (cc0_nsa_win i arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_nsa_win_eq_skeleton]; unfold cc0_nsa_win_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hfs0; obtain rfl := harg15.eq_unread hfs1
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [HS0]
    · iexists _; isplitr; · ipureintro; exact harg14.read_unread _
      iexact HS0
    iexists _; isplitr; · ipureintro; exact harg15.read_unread _
    iexact HS1

end Cert.KernelIdeal.Win

end
-- ==== Proof.Win.Pieces.lean ====
/- What the window attention's body stores at a grid point, as a function of the blocks it loads and of the two
   scratch buffers' contents. -/
module

public import proofs.«01_k».proof.Proof.Win.RunB
public import Idealize.ShloMosaic.Lib.Pipeline.Value

@[expose] public section

set_option maxRecDepth 16384

noncomputable section

namespace Cert.KernelIdeal.Win

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The four heads' columns of a block of four heads, and the key window's rows of a scratch buffer. -/
abbrev rh0 : Rect S1x128x512 := Rect.unit ![0, 0, 0] S1x128x128.size inb_S1x128x512_S1x128x128_0_0_0
abbrev rh1 : Rect S1x128x512 := Rect.unit ![0, 0, 128] S1x128x128.size inb_S1x128x512_S1x128x128_0_0_128
abbrev rh2 : Rect S1x128x512 := Rect.unit ![0, 0, 256] S1x128x128.size inb_S1x128x512_S1x128x128_0_0_256
abbrev rh3 : Rect S1x128x512 := Rect.unit ![0, 0, 384] S1x128x128.size inb_S1x128x512_S1x128x128_0_0_384
abbrev rwin (i : grid0.Coords) : Rect S4096x128 := Rect.unit (k0_off1 i) S640x128.size (k0_off1_inb i)

/-- The key group's number and the query block's number as the body's words. -/
abbrev wG (i : grid0.Coords) : BitVec 32 := BitVec.ofNat 32 (i 1).val
abbrev wT (i : grid0.Coords) : BitVec 32 := BitVec.ofNat 32 (i 2).val

/-- The masked scores before the softmax, of the four heads stacked. -/
def scoreOf (i : grid0.Coords) (x0 : Vec F S1x128x512 .f32) (x1 x2 x3 : Vec F S1x128x128 .f32) (ks : Vec F S4096x128 .bf16) :
    FVec F S512x640 .f32 :=
  k0_pay9 (k0_pay4 x1) (k0_pay5 x2) (k0_pay6 x3) (k0_pay7 x1 x2 x3 (View.ld x0 rh0)) (k0_pay8 x1 x2 x3 (View.ld x0 rh1))
    (View.ld x0 rh2) (View.ld x0 rh3) (View.ld ks (rwin i))

/-- The attention's output before the gates, of the four heads stacked. -/
def attOf (i : grid0.Coords) (s : FVec F S512x640 .f32) (vs : Vec F S4096x128 .bf16) : FVec F S512x128 .f32 :=
  k0_pay12 s (k0_pay10 (wT i)) (k0_pay11 (wT i)) (View.ld vs (rwin i))

/-- The four stores into the output block, the last one first. -/
def pieces (i : grid0.Coords) (s : FVec F S512x640 .f32) (x9 : Vec F S1x128x128 .f32) (vs : Vec F S4096x128 .bf16) :
    List (View.Piece (Elt F) S1x128x512 .bf16) :=
  [⟨rh3, k0_pay1 (k0_pay19 (attOf i s vs)) (k0_pay20 (wG i) (k0_pay13 x9)) k0_pay21⟩,
   ⟨rh2, k0_pay18 (attOf i s vs) (k0_pay13 x9) (Scalar.addi (Scalar.muli (wG i) 4#32) 2#32) 3#32⟩,
   ⟨rh1, k0_pay17 (wG i) (attOf i s vs) (k0_pay13 x9)⟩,
   ⟨rh0, k0_pay16 (k0_pay14 s (k0_pay10 (wT i)) (k0_pay11 (wT i)) (View.ld vs (rwin i))) (k0_pay15 (wG i) x9)⟩]

theorem z3 : (![0, 0, 0] : Fin 3 → Nat) = fun _ => 0 := funext fun a => by fin_cases a <;> rfl
theorem z2 : (![0, 0] : Fin 2 → Nat) = fun _ => 0 := funext fun a => by fin_cases a <;> rfl

/-- A load of a whole small block is the block. -/
theorem ld_blk (x : Vec F S1x128x128 .f32) :
    View.ld x (Rect.unit (s := S1x128x128) ![0, 0, 0] S1x128x128.size inb_S1x128x128_S1x128x128_0_0_0) = x :=
  View.ld_unit_zero z3 _ x

/-- A load of a whole long block is the block. -/
theorem ld_seq (x : Vec F S1x4096x128 .f32) :
    View.ld x (Rect.unit (s := S1x4096x128) ![0, 0, 0] S1x4096x128.size inb_S1x4096x128_S1x4096x128_0_0_0) = x :=
  View.ld_unit_zero z3 _ x

/-- A whole store into a scratch buffer, read back. -/
theorem read_scr (v : View sig .tc .vmem S4096x128 .bf16) (f : v.ty.Contents (Elt F)) (w : Vec F S4096x128 .bf16) :
    v.read (Elt F) (v.writes (Elt F) f [⟨Rect.unit (s := S4096x128) ![0, 0] S4096x128.size inb_S4096x128_S4096x128_0_0, w⟩]) = w := by
  rw [View.read_writes_eq_canon v f _ (View.cover_of_tiledL _ S4096x128.size (by sl_kernel_rfl)), View.canon_unit_zero z2]

/-- The four stores cover the output block. -/
theorem cover_out (i : grid0.Coords) (s : FVec F S512x640 .f32) (x9 : Vec F S1x128x128 .f32) (vs : Vec F S4096x128 .bf16)
    (y : S1x128x512.Idx) : ∃ p ∈ pieces i s x9 vs, y ∈ p.1.set :=
  View.cover_of_tiledL (pieces i s x9 vs) S1x128x128.size (by sl_kernel_rfl) y

theorem keys_eq {y7 y4 y5 y6 x7 x4 x5 x6 : Vec F S1x4096x128 .f32} (h7 : y7 = x7) (h4 : y4 = x4) (h5 : y5 = x5) (h6 : y6 = x6) :
    k0_pay2 y7 y4 y5 y6 = k0_pay2 x7 x4 x5 x6 := by subst h7 h4 h5 h6; rfl

theorem vals_eq {y8 x8 : Vec F S1x4096x128 .f32} (h8 : y8 = x8) : k0_pay3 y8 = k0_pay3 x8 := by subst h8; rfl

/-- The key scratch's store, at equal blocks. -/
theorem keys_congr {y7 y4 y5 y6 x7 x4 x5 x6 : Vec F S1x4096x128 .f32} (h7 : y7 = x7) (h4 : y4 = x4) (h5 : y5 = x5) (h6 : y6 = x6) :
    ([⟨Rect.unit (s := S4096x128) ![0, 0] S4096x128.size inb_S4096x128_S4096x128_0_0, k0_pay2 y7 y4 y5 y6⟩] : List (View.Piece (Elt F) S4096x128 .bf16))
      = [⟨Rect.unit (s := S4096x128) ![0, 0] S4096x128.size inb_S4096x128_S4096x128_0_0, k0_pay2 x7 x4 x5 x6⟩] := by subst h7 h4 h5 h6; rfl

/-- The value scratch's store, at equal blocks. -/
theorem vals_congr {y8 x8 : Vec F S1x4096x128 .f32} (h8 : y8 = x8) :
    ([⟨Rect.unit (s := S4096x128) ![0, 0] S4096x128.size inb_S4096x128_S4096x128_0_0, k0_pay3 y8⟩] : List (View.Piece (Elt F) S4096x128 .bf16))
      = [⟨Rect.unit (s := S4096x128) ![0, 0] S4096x128.size inb_S4096x128_S4096x128_0_0, k0_pay3 x8⟩] := by subst h8; rfl

/-- The output's stores written out, at equal blocks and scratch contents. -/
theorem pieces_congr (i : grid0.Coords) (x0 : Vec F S1x128x512 .f32) {y1 y2 y3 y9 x1 x2 x3 x9 : Vec F S1x128x128 .f32} {ks' vs' ks vs : Vec F S4096x128 .bf16}
    (h1 : y1 = x1) (h2 : y2 = x2) (h3 : y3 = x3) (h9 : y9 = x9) (hk : ks' = ks) (hv : vs' = vs) :
    ([⟨rh3, k0_pay1 (k0_pay19 (k0_pay12 (k0_pay9 (k0_pay4 y1) (k0_pay5 y2) (k0_pay6 y3) (k0_pay7 y1 y2 y3 (View.ld x0 rh0)) (k0_pay8 y1 y2 y3 (View.ld x0 rh1)) (View.ld x0 rh2) (View.ld x0 rh3) (View.ld ks' (rwin i))) (k0_pay10 (wT i)) (k0_pay11 (wT i)) (View.ld vs' (rwin i)))) (k0_pay20 (wG i) (k0_pay13 y9)) k0_pay21⟩,
      ⟨rh2, k0_pay18 (k0_pay12 (k0_pay9 (k0_pay4 y1) (k0_pay5 y2) (k0_pay6 y3) (k0_pay7 y1 y2 y3 (View.ld x0 rh0)) (k0_pay8 y1 y2 y3 (View.ld x0 rh1)) (View.ld x0 rh2) (View.ld x0 rh3) (View.ld ks' (rwin i))) (k0_pay10 (wT i)) (k0_pay11 (wT i)) (View.ld vs' (rwin i))) (k0_pay13 y9) (Scalar.addi (Scalar.muli (wG i) 4#32) 2#32) 3#32⟩,
      ⟨rh1, k0_pay17 (wG i) (k0_pay12 (k0_pay9 (k0_pay4 y1) (k0_pay5 y2) (k0_pay6 y3) (k0_pay7 y1 y2 y3 (View.ld x0 rh0)) (k0_pay8 y1 y2 y3 (View.ld x0 rh1)) (View.ld x0 rh2) (View.ld x0 rh3) (View.ld ks' (rwin i))) (k0_pay10 (wT i)) (k0_pay11 (wT i)) (View.ld vs' (rwin i))) (k0_pay13 y9)⟩,
      ⟨rh0, k0_pay16 (k0_pay14 (k0_pay9 (k0_pay4 y1) (k0_pay5 y2) (k0_pay6 y3) (k0_pay7 y1 y2 y3 (View.ld x0 rh0)) (k0_pay8 y1 y2 y3 (View.ld x0 rh1)) (View.ld x0 rh2) (View.ld x0 rh3) (View.ld ks' (rwin i))) (k0_pay10 (wT i)) (k0_pay11 (wT i)) (View.ld vs' (rwin i))) (k0_pay15 (wG i) y9)⟩] : List (View.Piece (Elt F) S1x128x512 .bf16))
      = pieces i (scoreOf i x0 x1 x2 x3 ks) x9 vs := by
  subst h1 h2 h3 h9 hk hv; rfl

section
variable (c : Dev nD) (i : grid0.Coords) (arg3 : Memref sig .tc .vmem S1x128x512 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x128x128 .f32) (harg12 : arg12.IsWhole) (arg13 : Memref sig .tc .vmem S1x128x512 .bf16) (harg13 : arg13.IsWhole) (arg14 : Memref sig .tc .vmem S4096x128 .bf16) (harg14 : arg14.IsWhole) (arg15 : Memref sig .tc .vmem S4096x128 .bf16) (harg15 : arg15.IsWhole)
    (x0 : Vec F S1x128x512 .f32) (x1 x2 x3 : Vec F S1x128x128 .f32) (x4 x5 x6 x7 x8 : Vec F S1x4096x128 .f32) (x9 : Vec F S1x128x128 .f32)

/-- Where the branch is taken, the stores into the key scratch: the rotated keys, whole. -/
theorem runA_K (hc : cond0 i) :
    (runA c i arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 x9).2.1
      = [⟨Rect.unit (s := S4096x128) ![0, 0] S4096x128.size inb_S4096x128_S4096x128_0_0, k0_pay2 x7 x4 x5 x6⟩] := by
  unfold runA; dsimp only
  sl_unfold_words
  simp only [View.readAt_eq_ld, harg7.read_unread, harg8.read_unread, harg9.read_unread, harg10.read_unread]
  exact keys_congr (ld_seq x7) (ld_seq x4) (ld_seq x5) (ld_seq x6)

/-- Where the branch is taken, the stores into the value scratch: the values, whole. -/
theorem runA_V (hc : cond0 i) :
    (runA c i arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 x9).2.2.1
      = [⟨Rect.unit (s := S4096x128) ![0, 0] S4096x128.size inb_S4096x128_S4096x128_0_0, k0_pay3 x8⟩] := by
  unfold runA; dsimp only
  sl_unfold_words
  simp only [View.readAt_eq_ld, harg11.read_unread]
  exact vals_congr (ld_seq x8)

set_option maxHeartbeats 400000 in
/-- Where the branch is not taken, the stores into the output, off what the scratch buffers hold. -/
theorem runB_out (hc : ¬cond0 i) (ks vs : Vec F S4096x128 .bf16) :
    (runB c i arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 x9 ks vs).1
      = pieces i (scoreOf i x0 x1 x2 x3 ks) x9 vs := by
  unfold runB; dsimp only
  sl_unfold_words
  simp only [View.readAt_eq_ld, harg3.read_unread, harg4.read_unread, harg5.read_unread, harg6.read_unread, harg12.read_unread]
  exact pieces_congr i x0 (ld_blk x1) (ld_blk x2) (ld_blk x3) (ld_blk x9) (harg14.read_unread ks) (harg15.read_unread vs)

set_option maxHeartbeats 400000 in
/-- Where the branch is taken, the stores into the output, off the rotated keys and values just stored. -/
theorem runA_out (hc : cond0 i) :
    (runA c i arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 x9).1
      = pieces i (scoreOf i x0 x1 x2 x3 (k0_pay2 x7 x4 x5 x6)) x9 (k0_pay3 x8) := by
  unfold runA; dsimp only
  sl_unfold_words
  simp only [View.readAt_eq_ld, harg3.read_unread, harg4.read_unread, harg5.read_unread, harg6.read_unread, harg7.read_unread, harg8.read_unread, harg9.read_unread, harg10.read_unread, harg11.read_unread, harg12.read_unread]
  exact pieces_congr i x0 (ld_blk x1) (ld_blk x2) (ld_blk x3) (ld_blk x9)
    ((read_scr _ _ _).trans (keys_eq (ld_seq x7) (ld_seq x4) (ld_seq x5) (ld_seq x6))) ((read_scr _ _ _).trans (vals_eq (ld_seq x8)))
end

end Cert.KernelIdeal.Win

end
-- ==== Proof.Win.Frame.lean ====
/- The window attention's launch: what each grid point leaves in the output and in the two scratch buffers, and the run
   of the whole program. The rotated keys and the values are written to scratch at the first query block of each batch
   and key group and read at all of that group's points. -/
module

public import proofs.«01_k».proof.Proof.Win.Pieces
public import Idealize.ShloMosaic.Lib.Quiescent

@[expose] public section

set_option maxRecDepth 16384

noncomputable section

namespace Cert.KernelIdeal.Win

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The point before `t`. -/
abbrev prev (t : Fin cfg0.N) : Fin cfg0.N := ⟨t.val - 1, Nat.lt_of_le_of_lt (Nat.sub_le _ _) t.isLt⟩

theorem idx4_prev : ∀ t : Fin cfg0.N, t.val % 32 ≠ 0 → win0_4.index (prev t) = win0_4.index t :=
  (by decide +kernel : ∀ t : Fin grid0.N, t.val % 32 ≠ 0 → win0_4.index ⟨t.val - 1, Nat.lt_of_le_of_lt (Nat.sub_le _ _) t.isLt⟩ = win0_4.index t)

/-- Window 4's block is the one of the point before, inside a batch and key group. -/
theorem blk4_prev (c : Dev nD) (t : Fin cfg0.N) (h : t.val % 32 ≠ 0) :
    (iblk m c 4 (prev t) : Vec F S1x4096x128 .f32) = iblk m c 4 t := by
  funext y
  refine congrArg (V m c (Pipeline.arrRef spec0 4)) (funext fun a => Fin.ext ?_)
  show win0_4.index (prev t) a * win0_4.size a + 1 * (y a).val = win0_4.index t a * win0_4.size a + 1 * (y a).val
  rw [idx4_prev t h]

theorem idx5_prev : ∀ t : Fin cfg0.N, t.val % 32 ≠ 0 → win0_5.index (prev t) = win0_5.index t :=
  (by decide +kernel : ∀ t : Fin grid0.N, t.val % 32 ≠ 0 → win0_5.index ⟨t.val - 1, Nat.lt_of_le_of_lt (Nat.sub_le _ _) t.isLt⟩ = win0_5.index t)

/-- Window 5's block is the one of the point before, inside a batch and key group. -/
theorem blk5_prev (c : Dev nD) (t : Fin cfg0.N) (h : t.val % 32 ≠ 0) :
    (iblk m c 5 (prev t) : Vec F S1x4096x128 .f32) = iblk m c 5 t := by
  funext y
  refine congrArg (V m c (Pipeline.arrRef spec0 5)) (funext fun a => Fin.ext ?_)
  show win0_5.index (prev t) a * win0_5.size a + 1 * (y a).val = win0_5.index t a * win0_5.size a + 1 * (y a).val
  rw [idx5_prev t h]

theorem idx6_prev : ∀ t : Fin cfg0.N, t.val % 32 ≠ 0 → win0_6.index (prev t) = win0_6.index t :=
  (by decide +kernel : ∀ t : Fin grid0.N, t.val % 32 ≠ 0 → win0_6.index ⟨t.val - 1, Nat.lt_of_le_of_lt (Nat.sub_le _ _) t.isLt⟩ = win0_6.index t)

/-- Window 6's block is the one of the point before, inside a batch and key group. -/
theorem blk6_prev (c : Dev nD) (t : Fin cfg0.N) (h : t.val % 32 ≠ 0) :
    (iblk m c 6 (prev t) : Vec F S1x4096x128 .f32) = iblk m c 6 t := by
  funext y
  refine congrArg (V m c (Pipeline.arrRef spec0 6)) (funext fun a => Fin.ext ?_)
  show win0_6.index (prev t) a * win0_6.size a + 1 * (y a).val = win0_6.index t a * win0_6.size a + 1 * (y a).val
  rw [idx6_prev t h]

theorem idx7_prev : ∀ t : Fin cfg0.N, t.val % 32 ≠ 0 → win0_7.index (prev t) = win0_7.index t :=
  (by decide +kernel : ∀ t : Fin grid0.N, t.val % 32 ≠ 0 → win0_7.index ⟨t.val - 1, Nat.lt_of_le_of_lt (Nat.sub_le _ _) t.isLt⟩ = win0_7.index t)

/-- Window 7's block is the one of the point before, inside a batch and key group. -/
theorem blk7_prev (c : Dev nD) (t : Fin cfg0.N) (h : t.val % 32 ≠ 0) :
    (iblk m c 7 (prev t) : Vec F S1x4096x128 .f32) = iblk m c 7 t := by
  funext y
  refine congrArg (V m c (Pipeline.arrRef spec0 7)) (funext fun a => Fin.ext ?_)
  show win0_7.index (prev t) a * win0_7.size a + 1 * (y a).val = win0_7.index t a * win0_7.size a + 1 * (y a).val
  rw [idx7_prev t h]

theorem idx8_prev : ∀ t : Fin cfg0.N, t.val % 32 ≠ 0 → win0_8.index (prev t) = win0_8.index t :=
  (by decide +kernel : ∀ t : Fin grid0.N, t.val % 32 ≠ 0 → win0_8.index ⟨t.val - 1, Nat.lt_of_le_of_lt (Nat.sub_le _ _) t.isLt⟩ = win0_8.index t)

/-- Window 8's block is the one of the point before, inside a batch and key group. -/
theorem blk8_prev (c : Dev nD) (t : Fin cfg0.N) (h : t.val % 32 ≠ 0) :
    (iblk m c 8 (prev t) : Vec F S1x4096x128 .f32) = iblk m c 8 t := by
  funext y
  refine congrArg (V m c (Pipeline.arrRef spec0 8)) (funext fun a => Fin.ext ?_)
  show win0_8.index (prev t) a * win0_8.size a + 1 * (y a).val = win0_8.index t a * win0_8.size a + 1 * (y a).val
  rw [idx8_prev t h]

/-- The rotated keys of point `t`'s batch and key group, and its values: what the scratch buffers hold after the point. -/
def KS (c : Dev nD) (t : Fin cfg0.N) : Vec F S4096x128 .bf16 := k0_pay2 (iblk m c 7 t) (iblk m c 4 t) (iblk m c 5 t) (iblk m c 6 t)
def VS (c : Dev nD) (t : Fin cfg0.N) : Vec F S4096x128 .bf16 := k0_pay3 (iblk m c 8 t)

theorem KS_prev (c : Dev nD) (t : Fin cfg0.N) (h : t.val % 32 ≠ 0) : KS m c (prev t) = KS m c t :=
  keys_eq (blk7_prev m c t h) (blk4_prev m c t h) (blk5_prev m c t h) (blk6_prev m c t h)
theorem VS_prev (c : Dev nD) (t : Fin cfg0.N) (h : t.val % 32 ≠ 0) : VS m c (prev t) = VS m c t :=
  vals_eq (blk8_prev m c t h)

/-- The pieces point `t` stores into the output block, and the block they make. -/
def PCS (c : Dev nD) (t : Fin cfg0.N) : List (View.Piece (Elt F) S1x128x512 .bf16) :=
  pieces (grid0.coords t) (scoreOf (grid0.coords t) (X0_0 m c t) (iblk m c 1 t) (iblk m c 2 t) (iblk m c 3 t) (KS m c t)) (iblk m c 9 t) (VS m c t)
def OUT (c : Dev nD) (t : Fin cfg0.N) : Vec F S1x128x512 .bf16 := View.canon (PCS m c t)

/-- The region's invariant before position `n`: both scratch buffers at the keys and values of the point before. -/
def PhiS (c : Dev nD) : (n : ℕ) → n ≤ cfg0.N → sProp 𝕄
  | 0, _ => Pipeline.ΦA spec0 c
  | n + 1, hn => iprop(iprop(owns (c : Thread nD τ) scK fullShare (KS m c ⟨n, hn⟩) ∗ owns (c : Thread nD τ) scV fullShare (VS m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (t : Fin cfg0.N) :
    PhiS m c (t.val + 1) t.isLt = iprop(iprop(owns (c : Thread nD τ) scK fullShare (KS m c t) ∗ owns (c : Thread nD τ) scV fullShare (VS m c t)) ∗ (∃ r, prngReg c r)) := rfl
theorem PhiS_pos (c : Dev nD) (n : ℕ) (h : n ≤ cfg0.N) (hz : n ≠ 0) :
    PhiS m c n h = iprop(iprop(owns (c : Thread nD τ) scK fullShare (KS m c ⟨n - 1, by omega⟩) ∗ owns (c : Thread nD τ) scV fullShare (VS m c ⟨n - 1, by omega⟩)) ∗ (∃ r, prngReg c r)) := by
  cases n with
  | zero => exact absurd rfl hz
  | succ n => rfl

/-- The pipeline's proof data: each input's buffer at its block, the output's at `OUT`. Windows sharing an array hold a
    share of it each. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = OUT m c t := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 3200000 in
/-- The body at any point, by the branch it takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  by_cases h0 : t.val % 32 = 0
  · by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA c (grid0.coords t) _ _ _ _ _ _ _ _ _ _ _ _ _ _ _ _ _ _ _ _ _ _ _ _ _ _ ((hcond0 t).mpr h0) (X0_0 m c t) (iblk m c 1 t) (iblk m c 2 t) (iblk m c 3 t) (iblk m c 4 t) (iblk m c 5 t) (iblk m c 6 t) (iblk m c 7 t) (iblk m c 8 t) (iblk m c 9 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; rw [runA_K]; exact read_scr _ _ _
          unfold owns; iexists _; isplitr
          swap; · iexact HS1
          ipureintro; rw [runA_V]; exact read_scr _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; rw [runA_out]; exact View.read_writes_eq_canon _ _ _ (cover_out _ _ _ _)
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA c (grid0.coords t) _ _ _ _ _ _ _ _ _ _ _ _ _ _ _ _ _ _ _ _ _ _ _ _ _ _ ((hcond0 t).mpr h0) (X0_0 m c t) (iblk m c 1 t) (iblk m c 2 t) (iblk m c 3 t) (iblk m c 4 t) (iblk m c 5 t) (iblk m c 6 t) (iblk m c 7 t) (iblk m c 8 t) (iblk m c 9 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexists _; iexact HS1
      iintro ⟨H0, H1, H2, H3, H4, H5, H6, H7, H8, H9, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; rw [runA_K]; exact read_scr _ _ _
          unfold owns; iexists _; isplitr
          swap; · iexact HS1
          ipureintro; rw [runA_V]; exact read_scr _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; rw [runA_out]; exact View.read_writes_eq_canon _ _ _ (cover_out _ _ _ _)
  · have hz : t.val ≠ 0 := fun h => h0 (by rw [h])
    rw [PhiS_castSucc m c t, PhiS_pos m c _ _ hz]
    rw [show (⟨t.val - 1, _⟩ : Fin cfg0.N) = prev t from rfl, KS_prev m c t h0, VS_prev m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) _ _ _ _ _ _ _ _ _ _ _ _ _ _ _ _ _ _ _ _ _ _ _ _ _ _ (fun h => h0 ((hcond0 t).mp h)) (X0_0 m c t) (iblk m c 1 t) (iblk m c 2 t) (iblk m c 3 t) (iblk m c 4 t) (iblk m c 5 t) (iblk m c 6 t) (iblk m c 7 t) (iblk m c 8 t) (iblk m c 9 t) (KS m c t) (VS m c t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    iintro ⟨H0, H1, H2, H3, H4, H5, H6, H7, H8, H9, ⟨%e10, H10⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; rw [runB_out]; exact View.read_writes_eq_canon _ _ _ (cover_out _ _ _ _)

/-- The body table's row at point `t`'s slots is the body called there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

set_option backward.isDefEq.respectTransparency.types false in
/-- The launch: every array at what the proof data gives, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) (A_eq m)) (run_main_quiescent m ρ)

end Cert.KernelIdeal.Win

end
-- ==== Proof.Win.Math.lean ====
/- Facts on extended reals that the window attention's value rests on: the softmax over all keys under a mask is the one
   over a stretch of keys that holds every unmasked one, a positive real factor moves through sums, and the rotary
   rotation written with tables of zeros and ones is the rotation written by cases. -/
module

public import Idealize.ShloMosaic.Lib.Pointwise

@[expose] public section

noncomputable section

open Idealize.ShloMosaic

namespace Cert.WinAtt

/-! ### Sums and a positive real factor -/

/-- A positive real factor moves out of a sum on the right. -/
theorem sum_mul_pos {ι : Type} (s : Finset ι) (f : ι → EReal) {c : ℝ} (hc : 0 < c) :
    (∑ x ∈ s, f x) * (c : EReal) = ∑ x ∈ s, f x * (c : EReal) := by
  classical
  induction s using Finset.induction_on with
  | empty => simp
  | insert a s ha ih =>
    rw [Finset.sum_insert ha, Finset.sum_insert ha, ← ih]
    exact EReal.right_distrib_of_nonneg_of_ne_top (by exact_mod_cast hc.le) (EReal.coe_ne_top c) _ _

/-- A sum of reals, as an extended real. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A scale on the left vector of a scalar product is a scale on the product. -/
theorem dot_scale {ι : Type} [Fintype ι] (a b : ι → EReal) {c : ℝ} (hc : 0 < c) :
    ∑ x, a x * (c : EReal) * b x = (∑ x, a x * b x) * (c : EReal) := by
  rw [sum_mul_pos _ _ hc]
  exact Finset.sum_congr rfl fun x _ => mul_right_comm _ _ _

/-! ### The masked softmax -/

/-- A score under the mask: minus infinity where the mask is off. -/
def msk {κ : Type} (al : κ → Prop) [DecidablePred al] (S : κ → EReal) (k : κ) : EReal := if al k then S k else ⊥

/-- The row's greatest masked score. -/
def top {κ : Type} [Fintype κ] (al : κ → Prop) [DecidablePred al] (S : κ → EReal) : EReal := Finset.fold max ⊥ (msk al S) Finset.univ

/-- The unnormalised weight of a key. -/
def wt {κ : Type} [Fintype κ] (al : κ → Prop) [DecidablePred al] (S : κ → EReal) (k : κ) : EReal := Ideal.exp (msk al S k - top al S)

/-- The row's normaliser, kept away from zero by `ε`. -/
def den {κ : Type} [Fintype κ] (al : κ → Prop) [DecidablePred al] (ε : EReal) (S : κ → EReal) : EReal := max (∑ k, wt al S k) ε

/-- Attention of one row: the weights, normalised, against the values. -/
def attend {κ : Type} [Fintype κ] (al : κ → Prop) [DecidablePred al] (ε : EReal) (S v : κ → EReal) : EReal :=
  ∑ k, Ideal.div (wt al S k) (den al ε S) * v k

section
variable {κ : Type} [Fintype κ] (al : κ → Prop) [DecidablePred al] (S v : κ → EReal)

theorem top_eq_sup : top al S = Finset.univ.sup (msk al S) := rfl

theorem msk_le_top (k : κ) : msk al S k ≤ top al S := by
  rw [top_eq_sup]; exact Finset.le_sup (Finset.mem_univ k)

/-- A masked key has weight zero. -/
theorem wt_off (k : κ) (h : ¬ al k) : wt al S k = 0 := by
  unfold wt msk; rw [if_neg h, sub_eq_add_neg, EReal.bot_add]; rfl

/-- The exponential of a difference from an upper bound is a real that is not negative. -/
theorem exp_sub_real (x M : EReal) (h : x ≤ M) : ∃ p : ℝ, 0 ≤ p ∧ Ideal.exp (x - M) = (p : EReal) := by
  induction x with
  | bot => exact ⟨0, le_refl _, by rw [sub_eq_add_neg, EReal.bot_add]; rfl⟩
  | top => rw [top_le_iff.mp h]; exact ⟨0, le_refl _, rfl⟩
  | coe x =>
    induction M with
    | bot => exact absurd h (by simp)
    | top => exact ⟨0, le_refl _, rfl⟩
    | coe M => exact ⟨Real.exp (x - M), (Real.exp_pos _).le, rfl⟩

theorem wt_real (k : κ) : ∃ p : ℝ, 0 ≤ p ∧ wt al S k = (p : EReal) := exp_sub_real _ _ (msk_le_top al S k)

/-- The normaliser is a positive real. -/
theorem den_real {ε : ℝ} (hε : 0 < ε) : ∃ L : ℝ, 0 < L ∧ den al (ε : EReal) S = (L : EReal) := by
  choose p hp he using wt_real al S
  refine ⟨max (∑ k, p k) ε, lt_max_of_lt_right hε, ?_⟩
  have hs : ∑ k, wt al S k = ((∑ k, p k : ℝ) : EReal) := by
    rw [coe_sum]
    exact Finset.sum_congr rfl fun k _ => he k
  unfold den
  rw [hs]
  exact (EReal.coe_strictMono.monotone.map_max).symm

/-- The division by the normaliser moves out of the sum over keys. -/
theorem attend_div {ε : ℝ} (hε : 0 < ε) :
    attend al (ε : EReal) S v = Ideal.div (∑ k, wt al S k * v k) (den al (ε : EReal) S) := by
  obtain ⟨L, hL, e⟩ := den_real al S hε
  have h1 : 0 < 1 / L := by positivity
  unfold attend
  rw [e, Ideal.div_coe hL.ne', sum_mul_pos _ _ h1]
  refine Finset.sum_congr rfl fun k _ => ?_
  rw [Ideal.div_coe hL.ne']
  exact mul_right_comm _ _ _
end

section
variable {κ η : Type} [Fintype κ] [Fintype η] (al : κ → Prop) [DecidablePred al] (S v : κ → EReal) (e : η → κ)
  (inj : Function.Injective e) (cov : ∀ k, al k → ∃ j, e j = k)

include cov in
theorem top_part : top (fun j => al (e j)) (fun j => S (e j)) = top al S := by
  rw [top_eq_sup, top_eq_sup]
  refine le_antisymm (Finset.sup_le fun j _ => ?_) (Finset.sup_le fun k _ => ?_)
  · exact Finset.le_sup (f := msk al S) (Finset.mem_univ (e j))
  · by_cases h : al k
    · obtain ⟨j, rfl⟩ := cov k h
      exact Finset.le_sup (f := msk (fun j => al (e j)) (fun j => S (e j))) (Finset.mem_univ j)
    · unfold msk; rw [if_neg h]; exact bot_le

include cov in
theorem wt_part (j : η) : wt (fun j => al (e j)) (fun j => S (e j)) j = wt al S (e j) := by
  unfold wt; rw [top_part al S e cov]; rfl

include inj cov in
/-- The softmax over a stretch of keys that holds every unmasked key. -/
theorem attend_part {ε : ℝ} (hε : 0 < ε) :
    Ideal.div (∑ j, wt (fun j => al (e j)) (fun j => S (e j)) j * v (e j)) (den (fun j => al (e j)) (ε : EReal) (fun j => S (e j)))
      = attend al (ε : EReal) S v := by
  have out : ∀ k, k ∉ Set.range e → wt al S k = 0 := fun k hk => wt_off al S k fun h => hk (cov k h)
  have hs : ∑ j, wt (fun j => al (e j)) (fun j => S (e j)) j * v (e j) = ∑ k, wt al S k * v k :=
    Fintype.sum_of_injective e inj _ _ (fun k hk => by rw [out k hk, zero_mul]) fun j => by rw [wt_part al S e cov]
  have hl : ∑ j, wt (fun j => al (e j)) (fun j => S (e j)) j = ∑ k, wt al S k :=
    Fintype.sum_of_injective e inj _ _ out fun j => wt_part al S e cov j
  rw [attend_div al S v hε, hs]
  unfold den; rw [hl]
end

/-! ### The rotary rotation -/

/-- The rotation of the first 32 columns of a row of 128 by sixteen angles; the other columns stay. -/
def rope (cs sn : Fin 16 → EReal) (x : Fin 128 → EReal) (l : Fin 128) : EReal :=
  if h : l.val < 16 then x l * cs ⟨l.val, h⟩ - x ⟨16 + l.val, by omega⟩ * sn ⟨l.val, h⟩
  else if h2 : l.val - 16 < 16 then
    x ⟨l.val - 16, by omega⟩ * sn ⟨l.val - 16, h2⟩ + x ⟨16 + (l.val - 16), by omega⟩ * cs ⟨l.val - 16, h2⟩
  else x ⟨32 + (l.val - 16 - 16), by omega⟩

/-- The three tables: the factors of the row itself, of the row shifted by 112 and of the row shifted by 16. -/
def tabC (cs : Fin 16 → EReal) (l : Fin 128) : EReal :=
  if h : l.val < 16 then cs ⟨l.val, h⟩ else if h2 : l.val - 16 < 16 then cs ⟨l.val - 16, h2⟩ else 1
def tabA (sn : Fin 16 → EReal) (l : Fin 128) : EReal := if h : l.val < 16 then -sn ⟨l.val, h⟩ else 0
def tabB (sn : Fin 16 → EReal) (l : Fin 128) : EReal :=
  if h : l.val < 16 then 0 else if h2 : l.val - 16 < 16 then sn ⟨l.val - 16, h2⟩ else 0

/-- The rotation by tables. -/
theorem rope_tabs (cs sn : Fin 16 → EReal) (x : Fin 128 → EReal) (l : Fin 128) (h1 : (l.val + 128 - 112) % 128 < 128) (h2 : (l.val + 128 - 16) % 128 < 128) :
    x l * tabC cs l + x ⟨(l.val + 128 - 112) % 128, h1⟩ * tabA sn l + x ⟨(l.val + 128 - 16) % 128, h2⟩ * tabB sn l = rope cs sn x l := by
  unfold tabC tabA tabB rope
  have hl := l.isLt
  by_cases h : l.val < 16
  · simp only [dif_pos h, mul_zero, add_zero, mul_neg, ← sub_eq_add_neg]
    have : (l.val + 128 - 112) % 128 = 16 + l.val := by omega
    simp only [this]
  · by_cases h' : l.val - 16 < 16
    · simp only [dif_neg h, dif_pos h', mul_zero, add_zero]
      have e1 : (l.val + 128 - 16) % 128 = l.val - 16 := by omega
      have e2 : (⟨16 + (l.val - 16), by omega⟩ : Fin 128) = l := Fin.ext (by show 16 + (l.val - 16) = l.val; omega)
      simp only [e1, e2]
      exact add_comm _ _
    · simp only [dif_neg h, dif_neg h', mul_zero, add_zero, mul_one]
      exact congrArg x (Fin.ext (by show l.val = 32 + (l.val - 16 - 16); omega))

/-! ### The mask's words -/

/-- A small number's word read as a signed one. -/
theorem toInt_small (n : Nat) (h : n < 4096) : (BitVec.ofNat 32 n).toInt = n := by
  have e : (BitVec.ofNat 32 n).toNat = n := by rw [BitVec.toNat_ofNat]; omega
  rw [BitVec.toInt_eq_toNat_of_lt (by rw [e]; omega), e]

/-- The distance of two positions as a signed word. -/
theorem toInt_dist (t k : Nat) (ht : t < 4096) (hk : k < 4096) :
    (IntOp.subi (BitVec.ofNat 32 t) (BitVec.ofNat 32 k)).toInt = (t : Int) - k := by
  unfold IntOp.subi
  rw [BitVec.toInt_sub, toInt_small t ht, toInt_small k hk]
  simp only [Int.bmod]
  omega

/-- The window's mask at query `t` and key `k`. -/
theorem mask_word (t k : Nat) (ht : t < 4096) (hk : k < 4096) :
    IntOp.andi (IntOp.cmpi CmpIPredicate.sge (IntOp.subi (BitVec.ofNat 32 t) (BitVec.ofNat 32 k)) 0#32)
      (IntOp.cmpi CmpIPredicate.slt (IntOp.subi (BitVec.ofNat 32 t) (BitVec.ofNat 32 k)) 512#32)
      = if k ≤ t ∧ t < k + 512 then 1#1 else 0#1 := by
  have d := toInt_dist t k ht hk
  generalize IntOp.subi (BitVec.ofNat 32 t) (BitVec.ofNat 32 k) = w at d
  have h1 : (0#32).sle w = decide (k ≤ t) := by
    rw [BitVec.sle_eq_decide, d]
    exact decide_eq_decide.mpr (by rw [show (0#32 : BitVec 32).toInt = 0 from rfl]; omega)
  have h2 : w.slt 512#32 = decide (t < k + 512) := by
    rw [BitVec.slt_eq_decide, d]
    exact decide_eq_decide.mpr (by rw [show (512#32 : BitVec 32).toInt = 512 from rfl]; omega)
  show BitVec.ofBool ((0#32).sle w) &&& BitVec.ofBool (w.slt 512#32) = _
  rw [h1, h2]
  by_cases a : k ≤ t <;> by_cases b : t < k + 512 <;> simp [a, b]

/-- A choice by the mask's word is a choice by the mask. -/
theorem select_ite {α : Type} (p : Prop) [Decidable p] (a b : α) : Scalar.select (if p then 1#1 else 0#1) a b = if p then a else b := by
  unfold Scalar.select
  by_cases h : p <;> simp [h]

end Cert.WinAtt

end
-- ==== Proof.Win.Spec.lean ====
/- What the window attention computes: each result is the gate times the attention of its row. -/
module

public import proofs.«01_k».proof.Proof.Win.Math
public import Idealize.ShloMosaic.Lib.ValueIdx

@[expose] public section

set_option maxRecDepth 16384

noncomputable section

open Idealize.ShloMosaic Idealize.ShloMosaic.TcCoe Idealize.SL.Sem

namespace Cert.WinAtt

/-- The projections' array, the two tables of cosines and sines, and the result's array. -/
abbrev Arr := (⟨3, ![4, 4096, 6912]⟩ : Shape).Idx → EReal
abbrev Tab := (⟨3, ![4, 4096, 16]⟩ : Shape).Idx → EReal
abbrev Res := (⟨3, ![4, 4096, 1024]⟩ : Shape).Idx → EReal

/-- Query `t` of head `h`, rotated. -/
def qry (x : Arr) (cs sn : Tab) (b : Fin 4) (t : Fin 4096) (h : Fin 8) : Fin 128 → EReal :=
  rope (fun j => cs (ix3 b t j)) (fun j => sn (ix3 b t j)) (fun l => x (ix3 b t ⟨h.val * 128 + l.val, by omega⟩))

/-- Key `k` of group `g`, rotated. -/
def key (x : Arr) (cs sn : Tab) (b : Fin 4) (k : Fin 4096) (g : Fin 2) : Fin 128 → EReal :=
  rope (fun j => cs (ix3 b k j)) (fun j => sn (ix3 b k j)) (fun l => x (ix3 b k ⟨2048 + (g.val * 128 + l.val), by omega⟩))

/-- Value `k` of group `g`. -/
def val (x : Arr) (b : Fin 4) (k : Fin 4096) (g : Fin 2) (d : Fin 128) : EReal := x (ix3 b k ⟨2304 + (g.val * 128 + d.val), by omega⟩)

/-- The scale of the scores and the least normaliser, as the float words stand for them. -/
def scl : EReal := Ideal.ofBits .f32 1035273459#32
def eps : EReal := Ideal.ofBits .f32 228737632#32

/-- The scores of query `t` of head `4g + r`. -/
def score (x : Arr) (cs sn : Tab) (b : Fin 4) (g : Fin 2) (r : Fin 4) (t k : Fin 4096) : EReal :=
  (∑ l, qry x cs sn b t ⟨g.val * 4 + r.val, by omega⟩ l * key x cs sn b k g l) * scl

/-- The keys in the window of query `t`. -/
abbrev near (t k : Fin 4096) : Prop := k.val ≤ t.val ∧ t.val < k.val + 512

/-- The gate of query `t` of head `h`. -/
def gate (x : Arr) (b : Fin 4) (t : Fin 4096) (h : Fin 8) : EReal :=
  Ideal.div 1 (1 + Ideal.exp (-x (ix3 b t ⟨6656 + (h.val * 3 + 2), by omega⟩)))

/-- The attention of query `t` of head `4g + r`, at column `d` of the head. -/
def att (x : Arr) (cs sn : Tab) (b : Fin 4) (g : Fin 2) (r : Fin 4) (t : Fin 4096) (d : Fin 128) : EReal :=
  attend (near t) eps (score x cs sn b g r t) (fun k => val x b k g d)

/-- The result at column `n`, which is column `n % 128` of head `n / 128`. -/
def out (x : Arr) (cs sn : Tab) (b : Fin 4) (t : Fin 4096) (n : Fin 1024) : EReal :=
  gate x b t ⟨n.val / 128, by omega⟩
    * att x cs sn b ⟨n.val / 128 / 4, by omega⟩ ⟨n.val / 128 % 4, by omega⟩ t ⟨n.val % 128, by omega⟩

/-- The result's array. -/
def G (x : Arr) (cs sn : Tab) : Res := fun i => out x cs sn (i 0) (i 1) (i 2)

end Cert.WinAtt

end
-- ==== Proof.Win.Guard.lean ====
/- The softmax of a row whose greatest score may be an infinity: the guard that puts zero for it changes no normalised
   weight. -/
module

public import proofs.«01_k».proof.Proof.Win.Spec

@[expose] public section

set_option maxRecDepth 16384

noncomputable section

open Idealize.ShloMosaic

namespace Cert.WinAtt

/-- The scale is a positive real, and so is the least normaliser. -/
theorem scl_real : ∃ s : ℝ, 0 < s ∧ scl = (s : EReal) := by
  refine ⟨_, ?_, by unfold scl; simp [Ideal.ofBits, Ideal.ieee, -EReal.coe_mul]; rfl⟩
  norm_num
theorem eps_real : ∃ s : ℝ, 0 < s ∧ eps = (s : EReal) := by
  refine ⟨_, ?_, by unfold eps; simp [Ideal.ofBits, Ideal.ieee, -EReal.coe_mul]; rfl⟩
  norm_num

/-- A number, with zero put for an infinity. -/
def fin0 (M : EReal) : EReal := if max M (-M) < ⊤ then M else 0

/-- The unnormalised weight of a key, with zero subtracted where the row's greatest score is an infinity. -/
def wtG {κ : Type} [Fintype κ] (al : κ → Prop) [DecidablePred al] (S : κ → EReal) (k : κ) : EReal :=
  Ideal.exp (msk al S k - fin0 (top al S))

theorem exp_nonneg (x : EReal) : 0 ≤ Ideal.exp x := by
  induction x with
  | bot => exact le_refl _
  | top => exact le_top
  | coe x => exact EReal.coe_nonneg.mpr (Real.exp_pos x).le

/-- Below plus infinity the weights are the same: where the greatest score is minus infinity, every score is, and both
    exponentials are zero. -/
theorem wtG_eq {κ : Type} [Fintype κ] (al : κ → Prop) [DecidablePred al] (S : κ → EReal) (h : top al S ≠ ⊤) (k : κ) :
    wtG al S k = wt al S k := by
  unfold wtG wt fin0
  have hk := msk_le_top al S k
  generalize top al S = M at h hk
  induction M with
  | bot =>
    rw [le_bot_iff.mp hk, sub_eq_add_neg, sub_eq_add_neg, EReal.bot_add, EReal.bot_add]
  | top => exact absurd rfl h
  | coe M =>
    rw [if_pos]
    exact max_lt (EReal.coe_lt_top M) (by rw [← EReal.coe_neg]; exact EReal.coe_lt_top _)

/-- The normalised weights are the same at every greatest score. Where it is plus infinity, the weights from its
    difference are zero, and those from the difference with zero have an infinite sum, by which each is divided to zero. -/
theorem prob_guard {κ : Type} [Fintype κ] (al : κ → Prop) [DecidablePred al] (S : κ → EReal) (k : κ) :
    Ideal.div (wtG al S k) (max (∑ j, wtG al S j) eps) = Ideal.div (wt al S k) (den al eps S) := by
  by_cases h : top al S = ⊤
  · have ne : (Finset.univ : Finset κ).Nonempty := ⟨k, Finset.mem_univ k⟩
    obtain ⟨j, -, hj⟩ := Finset.exists_mem_eq_sup Finset.univ ne (msk al S)
    rw [← top_eq_sup, h] at hj
    have h0 : fin0 (top al S) = 0 := by rw [h]; unfold fin0; rw [if_neg]; exact fun c => absurd (lt_of_le_of_lt (le_max_left _ _) c) (lt_irrefl _)
    have wj : wtG al S j = ⊤ := by
      unfold wtG; rw [h0, ← hj, sub_zero]; rfl
    have hs : ∑ j, wtG al S j = ⊤ := by
      refine top_le_iff.mp ?_
      rw [← wj]
      exact Finset.single_le_sum (f := wtG al S) (fun i _ => exp_nonneg _) (Finset.mem_univ j)
    have wk : wt al S k = 0 := by
      unfold wt; rw [h, sub_eq_add_neg, EReal.neg_top, EReal.add_bot]; rfl
    obtain ⟨e, he, ee⟩ := eps_real
    obtain ⟨L, hL, eL⟩ := den_real al S he
    rw [hs, max_eq_left le_top, wk, ee, eL, Ideal.div_coe hL.ne', zero_mul]
    unfold Ideal.div
    rw [if_neg EReal.top_ne_zero, EReal.inv_top, mul_zero]
  · unfold den
    have e : wtG al S = wt al S := funext (wtG_eq al S h)
    rw [e]

end Cert.WinAtt

end
-- ==== Proof.Win.Pay.lean ====
/- The window attention's body at an index: the rotated keys, the scores, the attention over the key window and the gated
   output block, in the terms of the specification. -/
module

public import proofs.«01_k».proof.Proof.Win.Pieces
public import proofs.«01_k».proof.Proof.Win.Guard
public import Idealize.ShloMosaic.Lib.Pointwise

@[expose] public section

set_option maxRecDepth 16384

noncomputable section

open Idealize.ShloMosaic Idealize.ShloMosaic.TcCoe Idealize.SL.Sem

namespace Cert.KernelIdeal.Win
open Cert.KernelIdeal Cert.KernelIdeal.Gen
open Cert.WinAtt (rope tabC tabA tabB rope_tabs scl eps near attend scl_real eps_real)

/-! ### The rotation -/

/-- A row of the rotated keys, by the tables. -/
theorem p2 (a b c d : Vec Ideal S1x4096x128 .f32) (r : Fin 4096) (l : Fin 128) :
    k0_pay2 (F := Ideal) a b c d (ix2 r l)
      = a (ix3 0 r l) * b (ix3 0 r l) + a (ix3 0 r ⟨(l.val + 128 - 112) % 128, Nat.mod_lt _ (by decide)⟩) * c (ix3 0 r l)
        + a (ix3 0 r ⟨(l.val + 128 - 16) % 128, Nat.mod_lt _ (by decide)⟩) * d (ix3 0 r l) := by
  pointwise [k0_pay2]

/-- A row of the values. -/
theorem p3 (v : Vec Ideal S1x4096x128 .f32) (r : Fin 4096) (l : Fin 128) : k0_pay3 (F := Ideal) v (ix2 r l) = v (ix3 0 r l) := by
  pointwise [k0_pay3]

/-- A row of the first head's rotated and scaled queries, by the tables. -/
theorem p7 (a b c d : Vec Ideal S1x128x128 .f32) (r l : Fin 128) :
    k0_pay7 (F := Ideal) a b c d (ix2 r l)
      = (d (ix3 0 r l) * a (ix3 0 r l) + d (ix3 0 r ⟨(l.val + 128 - 112) % 128, Nat.mod_lt _ (by decide)⟩) * b (ix3 0 r l)
        + d (ix3 0 r ⟨(l.val + 128 - 16) % 128, Nat.mod_lt _ (by decide)⟩) * c (ix3 0 r l)) * scl := by
  unfold scl
  pointwise [k0_pay7, k0_pay4, k0_pay5, k0_pay6]

/-- The second head's. -/
theorem p8 (a b c d : Vec Ideal S1x128x128 .f32) (r l : Fin 128) :
    k0_pay8 (F := Ideal) a b c d (ix2 r l)
      = (d (ix3 0 r l) * a (ix3 0 r l) + d (ix3 0 r ⟨(l.val + 128 - 112) % 128, Nat.mod_lt _ (by decide)⟩) * b (ix3 0 r l)
        + d (ix3 0 r ⟨(l.val + 128 - 16) % 128, Nat.mod_lt _ (by decide)⟩) * c (ix3 0 r l)) * scl := by
  unfold scl
  pointwise [k0_pay8, k0_pay4, k0_pay5, k0_pay6]

theorem p4 (a : Vec Ideal S1x128x128 .f32) (r l : Fin 128) : k0_pay4 (F := Ideal) a (ix2 r l) = a (ix3 0 r l) := by
  pointwise [k0_pay4]
theorem p5 (a : Vec Ideal S1x128x128 .f32) (r l : Fin 128) : k0_pay5 (F := Ideal) a (ix2 r l) = a (ix3 0 r l) := by
  pointwise [k0_pay5]
theorem p6 (a : Vec Ideal S1x128x128 .f32) (r l : Fin 128) : k0_pay6 (F := Ideal) a (ix2 r l) = a (ix3 0 r l) := by
  pointwise [k0_pay6]
theorem p13 (v : Vec Ideal S1x128x128 .f32) (r l : Fin 128) : k0_pay13 (F := Ideal) v (ix2 r l) = v (ix3 0 r l) := by
  pointwise [k0_pay13]

/-! ### The scores -/

section
variable (a b c : FVec Ideal S128x128 .f32) (d e : FVec Ideal S128x128 .bf16) (f g : Vec Ideal S1x128x128 .f32) (k : Vec Ideal S640x128 .bf16)

/-- A rotated and scaled query by tables without the unit axis. -/
def qtab (f : Vec Ideal S1x128x128 .f32) (r x : Fin 128) : EReal :=
  (f (ix3 0 r x) * a (ix2 r x) + f (ix3 0 r ⟨(x.val + 128 - 112) % 128, Nat.mod_lt _ (by decide)⟩) * b (ix2 r x)
    + f (ix3 0 r ⟨(x.val + 128 - 16) % 128, Nat.mod_lt _ (by decide)⟩) * c (ix2 r x)) * scl

/-- A score: the four heads' queries are stacked, 128 rows each. -/
theorem p9 (r : Fin 512) (l : Fin 640) :
    k0_pay9 (F := Ideal) a b c d e f g k (ix2 r l)
      = ∑ x : Fin 128, (if h : r.val < 128 then d (ix2 ⟨r.val, h⟩ x) else if h1 : r.val - 128 < 128 then e (ix2 ⟨r.val - 128, h1⟩ x)
          else if h2 : r.val - 128 - 128 < 128 then qtab a b c f ⟨r.val - 128 - 128, h2⟩ x
          else qtab a b c g ⟨r.val - 128 - 128 - 128, by omega⟩ x) * k (ix2 l x) := by
  unfold qtab scl
  pointwise [k0_pay9]

/-- A score of each head. -/
theorem p9_0 (r : Fin 128) (l : Fin 640) (h : 128 * 0 + r.val < 512) :
    k0_pay9 (F := Ideal) a b c d e f g k (ix2 ⟨128 * 0 + r.val, h⟩ l) = ∑ x : Fin 128, d (ix2 r x) * k (ix2 l x) := by
  refine (p9 a b c d e f g k _ l).trans (Finset.sum_congr rfl fun x _ => congrArg (· * _) ?_)
  dsimp only
  rw [dif_pos (by omega)]
  exact congrArg (fun r => d (ix2 r x)) (Fin.ext (by show 128 * 0 + r.val = r.val; omega))

theorem p9_1 (r : Fin 128) (l : Fin 640) (h : 128 * 1 + r.val < 512) :
    k0_pay9 (F := Ideal) a b c d e f g k (ix2 ⟨128 * 1 + r.val, h⟩ l) = ∑ x : Fin 128, e (ix2 r x) * k (ix2 l x) := by
  refine (p9 a b c d e f g k _ l).trans (Finset.sum_congr rfl fun x _ => congrArg (· * _) ?_)
  dsimp only
  rw [dif_neg (by omega), dif_pos (by omega)]
  exact congrArg (fun r => e (ix2 r x)) (Fin.ext (by show 128 * 1 + r.val - 128 = r.val; omega))

theorem p9_2 (r : Fin 128) (l : Fin 640) (h : 128 * 2 + r.val < 512) :
    k0_pay9 (F := Ideal) a b c d e f g k (ix2 ⟨128 * 2 + r.val, h⟩ l) = ∑ x : Fin 128, qtab a b c f r x * k (ix2 l x) := by
  refine (p9 a b c d e f g k _ l).trans (Finset.sum_congr rfl fun x _ => congrArg (· * _) ?_)
  dsimp only
  rw [dif_neg (by omega), dif_neg (by omega), dif_pos (by omega)]
  exact congrArg (fun r => qtab a b c f r x) (Fin.ext (by show 128 * 2 + r.val - 128 - 128 = r.val; omega))

theorem p9_3 (r : Fin 128) (l : Fin 640) (h : 128 * 3 + r.val < 512) :
    k0_pay9 (F := Ideal) a b c d e f g k (ix2 ⟨128 * 3 + r.val, h⟩ l) = ∑ x : Fin 128, qtab a b c g r x * k (ix2 l x) := by
  refine (p9 a b c d e f g k _ l).trans (Finset.sum_congr rfl fun x _ => congrArg (· * _) ?_)
  dsimp only
  rw [dif_neg (by omega), dif_neg (by omega), dif_neg (by omega)]
  exact congrArg (fun r => qtab a b c g r x) (Fin.ext (by show 128 * 3 + r.val - 128 - 128 - 128 = r.val; omega))
end

/-- Row `j` of the key window of query block `n`. -/
abbrev kwin (n : Fin 32) (j : Fin 640) : Fin 4096 := ⟨128 * n.val - 512 + j.val, by omega⟩

/-- A row of the key window of a scratch buffer. -/
theorem ld_win (i : grid0.Coords) (n : Fin 32) (hn : (i 2).val = n.val) (ks : Vec Ideal S4096x128 .bf16) (j : Fin 640) (l : Fin 128) :
    View.ld ks (rwin i) (ix2 j l) = ks (ix2 (kwin n j) l) := by
  refine congrArg ks (funext fun a => Fin.ext ?_)
  match a with
  | ⟨0, _⟩ =>
    show k0_off1 i 0 + 1 * j.val = 128 * n.val - 512 + j.val
    rw [koff_eq]
    show 128 * (i 2).val - 512 + 1 * j.val = 128 * n.val - 512 + j.val
    rw [hn]; omega
  | ⟨1, _⟩ =>
    show k0_off1 i 1 + 1 * l.val = l.val
    rw [koff_eq]
    show 0 + 1 * l.val = l.val
    omega

/-- The four heads' columns of the query block. -/
theorem ld_h0 (x : Vec Ideal S1x128x512 .f32) (r l : Fin 128) : View.ld x rh0 (ix3 0 r l) = x (ix3 0 r ⟨128 * 0 + l.val, by omega⟩) := by
  refine congrArg x (funext fun a => Fin.ext ?_)
  match a with
  | ⟨0, _⟩ => rfl
  | ⟨1, _⟩ => show 0 + 1 * r.val = r.val; omega
  | ⟨2, _⟩ => show 0 + 1 * l.val = 128 * 0 + l.val; omega
theorem ld_h1 (x : Vec Ideal S1x128x512 .f32) (r l : Fin 128) : View.ld x rh1 (ix3 0 r l) = x (ix3 0 r ⟨128 * 1 + l.val, by omega⟩) := by
  refine congrArg x (funext fun a => Fin.ext ?_)
  match a with
  | ⟨0, _⟩ => rfl
  | ⟨1, _⟩ => show 0 + 1 * r.val = r.val; omega
  | ⟨2, _⟩ => show 128 + 1 * l.val = 128 * 1 + l.val; omega
theorem ld_h2 (x : Vec Ideal S1x128x512 .f32) (r l : Fin 128) : View.ld x rh2 (ix3 0 r l) = x (ix3 0 r ⟨128 * 2 + l.val, by omega⟩) := by
  refine congrArg x (funext fun a => Fin.ext ?_)
  match a with
  | ⟨0, _⟩ => rfl
  | ⟨1, _⟩ => show 0 + 1 * r.val = r.val; omega
  | ⟨2, _⟩ => show 256 + 1 * l.val = 128 * 2 + l.val; omega
theorem ld_h3 (x : Vec Ideal S1x128x512 .f32) (r l : Fin 128) : View.ld x rh3 (ix3 0 r l) = x (ix3 0 r ⟨128 * 3 + l.val, by omega⟩) := by
  refine congrArg x (funext fun a => Fin.ext ?_)
  match a with
  | ⟨0, _⟩ => rfl
  | ⟨1, _⟩ => show 0 + 1 * r.val = r.val; omega
  | ⟨2, _⟩ => show 384 + 1 * l.val = 128 * 3 + l.val; omega

/-- A score of the stacked heads, by the rotated queries and the key scratch. -/
theorem score_at (i : grid0.Coords) (n : Fin 32) (hn : (i 2).val = n.val) (x0 : Vec Ideal S1x128x512 .f32) (x1 x2 x3 : Vec Ideal S1x128x128 .f32)
    (ks : Vec Ideal S4096x128 .bf16) (cs sn : Fin 128 → Fin 16 → EReal)
    (h1 : ∀ r l, x1 (ix3 0 r l) = tabC (cs r) l) (h2 : ∀ r l, x2 (ix3 0 r l) = tabA (sn r) l) (h3 : ∀ r l, x3 (ix3 0 r l) = tabB (sn r) l)
    (hh : Fin 4) (r : Fin 128) (j : Fin 640) :
    scoreOf (F := Ideal) i x0 x1 x2 x3 ks (ix2 ⟨128 * hh.val + r.val, by omega⟩ j)
      = (∑ l, rope (cs r) (sn r) (fun l => x0 (ix3 0 r ⟨128 * hh.val + l.val, by omega⟩)) l * ks (ix2 (kwin n j) l)) * scl := by
  obtain ⟨s, hs, es⟩ := scl_real
  rw [es, ← Cert.WinAtt.dot_scale _ _ hs, ← es]
  unfold scoreOf
  match hh with
  | ⟨0, _⟩ =>
    refine (p9_0 _ _ _ _ _ _ _ _ r j _).trans (Finset.sum_congr rfl fun l _ => congrArg₂ (· * ·) ?_ (ld_win i n hn ks j l))
    rw [p7, h1, h2, h3, ld_h0, ld_h0, ld_h0, ← rope_tabs (cs r) (sn r) _ l (Nat.mod_lt _ (by decide)) (Nat.mod_lt _ (by decide))]
  | ⟨1, _⟩ =>
    refine (p9_1 _ _ _ _ _ _ _ _ r j _).trans (Finset.sum_congr rfl fun l _ => congrArg₂ (· * ·) ?_ (ld_win i n hn ks j l))
    rw [p8, h1, h2, h3, ld_h1, ld_h1, ld_h1, ← rope_tabs (cs r) (sn r) _ l (Nat.mod_lt _ (by decide)) (Nat.mod_lt _ (by decide))]
  | ⟨2, _⟩ =>
    refine (p9_2 _ _ _ _ _ _ _ _ r j _).trans (Finset.sum_congr rfl fun l _ => congrArg₂ (· * ·) ?_ (ld_win i n hn ks j l))
    unfold qtab
    rw [p4, p5, p6, h1, h2, h3, ld_h2, ld_h2, ld_h2, ← rope_tabs (cs r) (sn r) _ l (Nat.mod_lt _ (by decide)) (Nat.mod_lt _ (by decide))]
  | ⟨3, _⟩ =>
    refine (p9_3 _ _ _ _ _ _ _ _ r j _).trans (Finset.sum_congr rfl fun l _ => congrArg₂ (· * ·) ?_ (ld_win i n hn ks j l))
    unfold qtab
    rw [p4, p5, p6, h1, h2, h3, ld_h3, ld_h3, ld_h3, ← rope_tabs (cs r) (sn r) _ l (Nat.mod_lt _ (by decide)) (Nat.mod_lt _ (by decide))]

/-! ### The attention over the key window -/

/-- The mask's constant stands for the bottom element. -/
theorem mask_bot : Named.named (F := Ideal) κ "mask" (φ := .f32) 4048155338#32 = ⊥ :=
  IdealRules.named_const.ideal_named_scalar _ _ _ _ rfl

/-- The softmax of one row, with the mask as a word, against a column of the values. -/
def rowAtt (M : Fin 640 → BitVec 1) (S v : Fin 640 → EReal) : EReal :=
  Ideal.div (∑ x, Scalar.select (M x) (Ideal.exp (Scalar.select (M x) (S x) (Named.named (F := Ideal) κ "mask" (φ := .f32) 4048155338#32)
      - Finset.fold max (Ideal.ofBits .f32 4286578688#32) (fun x => Scalar.select (M x) (S x) (Named.named (F := Ideal) κ "mask" (φ := .f32) 4048155338#32)) Finset.univ) * v x) 0)
    (max (∑ x, Scalar.select (M x) (Ideal.exp (Scalar.select (M x) (S x) (Named.named (F := Ideal) κ "mask" (φ := .f32) 4048155338#32)
      - Finset.fold max (Ideal.ofBits .f32 4286578688#32) (fun x => Scalar.select (M x) (S x) (Named.named (F := Ideal) κ "mask" (φ := .f32) 4048155338#32)) Finset.univ)) 0) eps)

/-- The mask's word for a query position word and a key position word. -/
def mword (q k : BitVec 32) : BitVec 1 :=
  IntOp.andi (IntOp.cmpi CmpIPredicate.sge (IntOp.subi q k) 0#32) (IntOp.cmpi CmpIPredicate.slt (IntOp.subi q k) 512#32)

theorem p12 (s : FVec Ideal S512x640 .f32) (a b : IVec S512x640 32) (v : Vec Ideal S640x128 .bf16) (r : Fin 512) (l : Fin 128) :
    k0_pay12 (F := Ideal) s a b v (ix2 r l)
      = rowAtt (fun x => mword (b (ix2 r x)) (a (ix2 r x))) (fun x => s (ix2 r x)) (fun x => v (ix2 x l)) := by
  unfold rowAtt mword eps
  pointwise [k0_pay12]

theorem p10 (w : BitVec 32) (r : Fin 512) (l : Fin 640) :
    k0_pay10 w (ix2 r l) = IntOp.addi (Scalar.maxsi (Scalar.subi (Scalar.muli w 128#32) 512#32) 0#32) (BitVec.ofNat 32 l.val) := by
  pointwise [k0_pay10]

theorem p11 (w : BitVec 32) (r : Fin 512) (l : Fin 640) :
    k0_pay11 w (ix2 r l) = IntOp.addi (Scalar.muli w 128#32) (IntOp.andi (BitVec.ofNat 32 r.val) 127#32) := by
  pointwise [k0_pay11]

/-- The key position's word. -/
theorem key_word (n : Fin 32) (j : Fin 640) :
    IntOp.addi (Scalar.maxsi (Scalar.subi (Scalar.muli (BitVec.ofNat 32 n.val) 128#32) 512#32) 0#32) (BitVec.ofNat 32 j.val)
      = BitVec.ofNat 32 (kwin n j).val := by
  have h : ∀ n : Fin 32, Scalar.maxsi (Scalar.subi (Scalar.muli (BitVec.ofNat 32 n.val) 128#32) 512#32) 0#32 = BitVec.ofNat 32 (128 * n.val - 512) := by
    decide +kernel
  rw [h n]
  exact (BitVec.ofNat_add _ _).symm

/-- The query position's word. -/
theorem qry_word (n : Fin 32) (r : Fin 512) :
    IntOp.addi (Scalar.muli (BitVec.ofNat 32 n.val) 128#32) (IntOp.andi (BitVec.ofNat 32 r.val) 127#32)
      = BitVec.ofNat 32 (128 * n.val + r.val % 128) := by
  have h : ∀ n : Fin 32, Scalar.muli (BitVec.ofNat 32 n.val) 128#32 = BitVec.ofNat 32 (128 * n.val) := by decide +kernel
  have h' : ∀ r : Fin 512, IntOp.andi (BitVec.ofNat 32 r.val) 127#32 = BitVec.ofNat 32 (r.val % 128) := by decide +kernel
  rw [h n, h' r]
  exact (BitVec.ofNat_add _ _).symm

theorem word_bot' : Ideal.ofBits .f32 4286578688#32 = ⊥ := by
  simp [Ideal.ofBits, Ideal.ieee]

/-- The row's softmax over the key window is the attention over all keys. -/
theorem rowAtt_eq (n : Fin 32) (t : Fin 4096) (r : Fin 128) (ht : t.val = 128 * n.val + r.val) (S v : Fin 4096 → EReal) (M : Fin 640 → BitVec 1)
    (hM : ∀ j, M j = if near t (kwin n j) then 1#1 else 0#1) :
    rowAtt M (fun j => S (kwin n j)) (fun j => v (kwin n j)) = attend (near t) eps S v := by
  obtain ⟨e, he, ee⟩ := eps_real
  have inj : Function.Injective (kwin n) := fun x y h => by
    have h' : 128 * n.val - 512 + x.val = 128 * n.val - 512 + y.val := congrArg Fin.val h
    exact Fin.ext (by omega)
  have cov : ∀ k, near t k → ∃ j, kwin n j = k := fun k hk => by
    have h1 : k.val ≤ t.val := hk.1
    have h2 : t.val < k.val + 512 := hk.2
    refine ⟨⟨k.val - (128 * n.val - 512), by omega⟩, Fin.ext ?_⟩
    show 128 * n.val - 512 + (k.val - (128 * n.val - 512)) = k.val
    omega
  rw [ee, ← Cert.WinAtt.attend_part (near t) S v (kwin n) inj cov he, ← ee]
  have hm : ∀ j, Scalar.select (M j) (S (kwin n j)) (Named.named (F := Ideal) κ "mask" (φ := .f32) 4048155338#32)
      = Cert.WinAtt.msk (fun j => near t (kwin n j)) (fun j => S (kwin n j)) j := fun j => by
    rw [hM, Cert.WinAtt.select_ite, mask_bot]; rfl
  unfold rowAtt
  rw [word_bot']
  simp only [hm]
  have hw : ∀ j, Ideal.exp (Cert.WinAtt.msk (fun j => near t (kwin n j)) (fun j => S (kwin n j)) j
      - Finset.fold max ⊥ (fun j => Cert.WinAtt.msk (fun j => near t (kwin n j)) (fun j => S (kwin n j)) j) Finset.univ)
      = Cert.WinAtt.wt (fun j => near t (kwin n j)) (fun j => S (kwin n j)) j := fun j => rfl
  simp only [hw]
  unfold Cert.WinAtt.den
  refine congrArg₂ Ideal.div (Finset.sum_congr rfl fun j _ => ?_) (congrArg (max · eps) (Finset.sum_congr rfl fun j _ => ?_))
  · rw [hM, Cert.WinAtt.select_ite]
    by_cases h : near t (kwin n j)
    · rw [if_pos h]
    · rw [if_neg h, Cert.WinAtt.wt_off (fun j => near t (kwin n j)) (fun j => S (kwin n j)) j h, zero_mul]
  · rw [hM, Cert.WinAtt.select_ite]
    by_cases h : near t (kwin n j)
    · rw [if_pos h]
    · rw [if_neg h, Cert.WinAtt.wt_off (fun j => near t (kwin n j)) (fun j => S (kwin n j)) j h]

/-- The attention of the stacked heads at row `r`: the attention of query position `t` over all keys. -/
theorem att_at (i : grid0.Coords) (n : Fin 32) (hn : (i 2).val = n.val) (s : FVec Ideal S512x640 .f32) (vs : Vec Ideal S4096x128 .bf16)
    (hh : Fin 4) (r d : Fin 128) (t : Fin 4096) (ht : t.val = 128 * n.val + r.val) (S v : Fin 4096 → EReal)
    (hS : ∀ j, s (ix2 ⟨128 * hh.val + r.val, by omega⟩ j) = S (kwin n j)) (hv : ∀ k, vs (ix2 k d) = v k) :
    attOf (F := Ideal) i s vs (ix2 ⟨128 * hh.val + r.val, by omega⟩ d) = attend (near t) eps S v := by
  unfold attOf
  rw [p12, ← rowAtt_eq n t r ht S v (fun x => mword (k0_pay11 (wT i) (ix2 ⟨128 * hh.val + r.val, by omega⟩ x)) (k0_pay10 (wT i) (ix2 ⟨128 * hh.val + r.val, by omega⟩ x))) ?_]
  · exact congrArg₂ (rowAtt _) (funext hS) (funext fun j => (ld_win i n hn vs j d).trans (hv _))
  · intro j
    rw [p10, p11, show wT i = BitVec.ofNat 32 n.val from congrArg (BitVec.ofNat 32) hn, key_word, qry_word]
    unfold mword
    rw [Cert.WinAtt.mask_word _ _ (by dsimp only; omega) (kwin n j).isLt, show 128 * n.val + (128 * hh.val + r.val) % 128 = t.val by omega]

/-! ### The gates and the output block -/

/-- A sum over the lanes that keeps lane `w`. -/
theorem lane_sum (f : Fin 128 → EReal) (w : BitVec 32) (n : Fin 128) (hw : w = BitVec.ofNat 32 n.val) :
    ∑ x : Fin 128, Scalar.select (IntOp.cmpi CmpIPredicate.eq (BitVec.ofNat 32 x.val) w) (f x) 0 = f n := by
  have h : ∀ x : Fin 128, IntOp.cmpi CmpIPredicate.eq (BitVec.ofNat 32 x.val) w = if x = n then 1#1 else 0#1 := fun x => by
    subst hw
    revert x n
    decide +kernel
  simp only [h, Cert.WinAtt.select_ite]
  rw [Finset.sum_ite_eq' Finset.univ n f, if_pos (Finset.mem_univ n)]

/-- The gate by the lane of the block of gates. -/
def lgate (x : Vec Ideal S1x128x128 .f32) (r n : Fin 128) : EReal := Ideal.div 1 (1 + Ideal.exp (-x (ix3 0 r n)))

section
variable (g : Fin 2) (o : FVec Ideal S512x128 .f32) (x9 : Vec Ideal S1x128x128 .f32) (r l : Fin 128)

theorem p16 (a : FVec Ideal S128x128 .f32) (q : FVec Ideal S128x1 .f32) :
    k0_pay16 (F := Ideal) a q (ix3 0 r l) = a (ix2 r l) * Ideal.div 1 (1 + Ideal.exp (q (ix2 r 0))) := by
  pointwise [k0_pay16]

theorem p14 (s : FVec Ideal S512x640 .f32) (a b : IVec S512x640 32) (v : Vec Ideal S640x128 .bf16) :
    k0_pay14 (F := Ideal) s a b v (ix2 r l) = k0_pay12 (F := Ideal) s a b v (ix2 ⟨r.val, by omega⟩ l) := by
  pointwise [k0_pay14, k0_pay12]

theorem p15 (w : BitVec 32) : k0_pay15 (F := Ideal) w x9 (ix2 r 0)
    = 0 - ∑ x : Fin 128, Scalar.select (IntOp.cmpi CmpIPredicate.eq (BitVec.ofNat 32 x.val) (Scalar.addi (Scalar.muli (Scalar.addi (Scalar.muli w 4#32) 0#32) 3#32) 2#32)) (x9 (ix3 0 r x)) 0 := by
  pointwise [k0_pay15, k0_pay13]

theorem p17 (w : BitVec 32) (v : FVec Ideal S128x128 .f32) : k0_pay17 (F := Ideal) w o v (ix3 0 r l)
    = o (ix2 ⟨128 + r.val, by omega⟩ l) * Ideal.div 1 (1 + Ideal.exp (0 - ∑ x : Fin 128, Scalar.select (IntOp.cmpi CmpIPredicate.eq (BitVec.ofNat 32 x.val)
        (Scalar.addi (Scalar.muli (Scalar.addi (Scalar.muli w 4#32) 1#32) 3#32) 2#32)) (v (ix2 r x)) 0)) := by
  pointwise [k0_pay17]

theorem p18 (w z : BitVec 32) (v : FVec Ideal S128x128 .f32) : k0_pay18 (F := Ideal) o v w z (ix3 0 r l)
    = o (ix2 ⟨256 + r.val, by omega⟩ l) * Ideal.div 1 (1 + Ideal.exp (0 - ∑ x : Fin 128, Scalar.select (IntOp.cmpi CmpIPredicate.eq (BitVec.ofNat 32 x.val)
        (Scalar.addi (Scalar.muli w z) 2#32)) (v (ix2 r x)) 0)) := by
  pointwise [k0_pay18]

theorem p1 (w : BitVec 32) (v : FVec Ideal S128x128 .f32) : k0_pay1 (F := Ideal) (k0_pay19 o) (k0_pay20 w v) k0_pay21 (ix3 0 r l)
    = o (ix2 ⟨384 + r.val, by omega⟩ l) * Ideal.div 1 (1 + Ideal.exp (0 - ∑ x : Fin 128, Scalar.select (IntOp.cmpi CmpIPredicate.eq (BitVec.ofNat 32 x.val)
        (Scalar.addi (Scalar.muli (Scalar.addi (Scalar.muli w 4#32) 3#32) 3#32) 2#32)) (v (ix2 r x)) 0)) := by
  pointwise [k0_pay1, k0_pay19, k0_pay20, k0_pay21]

/-- The gates' lanes as words. -/
theorem lane_word : ∀ (g : Fin 2) (hh : Fin 4),
    Scalar.addi (Scalar.muli (Scalar.addi (Scalar.muli (BitVec.ofNat 32 g.val) 4#32) (BitVec.ofNat 32 hh.val)) 3#32) 2#32 = BitVec.ofNat 32 ((g.val * 4 + hh.val) * 3 + 2) := by
  decide +kernel
end

/-- The lane of the gate of head `hh` of group `g`. -/
abbrev lane (g : Fin 2) (hh : Fin 4) : Fin 128 := ⟨(g.val * 4 + hh.val) * 3 + 2, by omega⟩

/-- Each head's store at an index: its attention times its gate. -/
theorem head_3 (g : Fin 2) (o : FVec Ideal S512x128 .f32) (x9 : Vec Ideal S1x128x128 .f32) (r l : Fin 128) :
    k0_pay1 (F := Ideal) (k0_pay19 o) (k0_pay20 (BitVec.ofNat 32 g.val) (k0_pay13 x9)) k0_pay21 (ix3 0 r l)
      = o (ix2 ⟨128 * (3 : Fin 4).val + r.val, by show 128 * 3 + r.val < 512; omega⟩ l) * lgate x9 r (lane g 3) := by
  rw [p1]
  simp only [p13]
  rw [lane_sum _ _ (lane g 3)
    (show Scalar.addi (Scalar.muli (Scalar.addi (Scalar.muli (BitVec.ofNat 32 g.val) 4#32) 3#32) 3#32) 2#32 = BitVec.ofNat 32 (lane g 3).val from lane_word g 3), zero_sub]
  rfl
theorem head_2 (g : Fin 2) (o : FVec Ideal S512x128 .f32) (x9 : Vec Ideal S1x128x128 .f32) (r l : Fin 128) :
    k0_pay18 (F := Ideal) o (k0_pay13 x9) (Scalar.addi (Scalar.muli (BitVec.ofNat 32 g.val) 4#32) 2#32) 3#32 (ix3 0 r l)
      = o (ix2 ⟨128 * (2 : Fin 4).val + r.val, by show 128 * 2 + r.val < 512; omega⟩ l) * lgate x9 r (lane g 2) := by
  rw [p18]
  simp only [p13]
  rw [lane_sum _ _ (lane g 2)
    (show Scalar.addi (Scalar.muli (Scalar.addi (Scalar.muli (BitVec.ofNat 32 g.val) 4#32) 2#32) 3#32) 2#32 = BitVec.ofNat 32 (lane g 2).val from lane_word g 2), zero_sub]
  rfl
theorem head_1 (g : Fin 2) (o : FVec Ideal S512x128 .f32) (x9 : Vec Ideal S1x128x128 .f32) (r l : Fin 128) :
    k0_pay17 (F := Ideal) (BitVec.ofNat 32 g.val) o (k0_pay13 x9) (ix3 0 r l)
      = o (ix2 ⟨128 * (1 : Fin 4).val + r.val, by show 128 * 1 + r.val < 512; omega⟩ l) * lgate x9 r (lane g 1) := by
  rw [p17]
  simp only [p13]
  rw [lane_sum _ _ (lane g 1)
    (show Scalar.addi (Scalar.muli (Scalar.addi (Scalar.muli (BitVec.ofNat 32 g.val) 4#32) 1#32) 3#32) 2#32 = BitVec.ofNat 32 (lane g 1).val from lane_word g 1), zero_sub]
  rfl
theorem head_0 (g : Fin 2) (s : FVec Ideal S512x640 .f32) (a b : IVec S512x640 32) (v : Vec Ideal S640x128 .bf16) (x9 : Vec Ideal S1x128x128 .f32) (r l : Fin 128) :
    k0_pay16 (F := Ideal) (k0_pay14 s a b v) (k0_pay15 (BitVec.ofNat 32 g.val) x9) (ix3 0 r l)
      = k0_pay12 (F := Ideal) s a b v (ix2 ⟨128 * (0 : Fin 4).val + r.val, by show 128 * 0 + r.val < 512; omega⟩ l) * lgate x9 r (lane g 0) := by
  rw [p16, p14, p15, lane_sum _ _ (lane g 0)
    (show Scalar.addi (Scalar.muli (Scalar.addi (Scalar.muli (BitVec.ofNat 32 g.val) 4#32) 0#32) 3#32) 2#32 = BitVec.ofNat 32 (lane g 0).val from lane_word g 0), zero_sub]
  exact congrArg (· * _) (congrArg (fun z => k0_pay12 (F := Ideal) s a b v (ix2 z l)) (Fin.ext (by show r.val = 128 * 0 + r.val; omega)))

/-- The output block at an index: the attention of the stacked heads times the head's gate. -/
theorem out_at (i : grid0.Coords) (g : Fin 2) (hg : (i 1).val = g.val) (s : FVec Ideal S512x640 .f32) (x9 : Vec Ideal S1x128x128 .f32) (vs : Vec Ideal S4096x128 .bf16)
    (T : S1x128x512.Idx → EReal)
    (hT : ∀ (hh : Fin 4) (r l : Fin 128), attOf (F := Ideal) i s vs (ix2 ⟨128 * hh.val + r.val, by omega⟩ l) * lgate x9 r (lane g hh)
      = T (ix3 0 r ⟨128 * hh.val + l.val, by omega⟩)) (y : S1x128x512.Idx) :
    View.canon (Val := Elt Ideal) (pieces (F := Ideal) i s x9 vs) y = T y := by
  have hw : wG i = BitVec.ofNat 32 g.val := congrArg (BitVec.ofNat 32) hg
  have ex : ∀ x : S1x128x128.Idx, x = ix3 0 (x 1) (x 2) := fun x =>
    (eq_ix3 x).trans (congrArg (fun z => ix3 z (x 1) (x 2)) (Fin.ext (Nat.lt_one_iff.mp (x 0).isLt)))
  have et : ∀ (x : S1x128x128.Idx) (off : Nat) (hh : Fin 4) (hoff : off = 128 * hh.val) (z : S1x128x512.Idx),
      (z 0).val = 0 + 1 * (x 0).val → (z 1).val = 0 + 1 * (x 1).val → (z 2).val = off + 1 * (x 2).val →
      T (ix3 0 (x 1) ⟨128 * hh.val + (x 2).val, by have h := hh.isLt; have h2 : (x 2).val < 128 := (x 2).isLt; omega⟩) = T z := fun x off hh hoff z h0 h1 h2 => by
    refine congrArg T (funext fun a => Fin.ext ?_)
    match a with
    | ⟨0, _⟩ => have : (x 0).val < 1 := (x 0).isLt; show 0 = (z 0).val; omega
    | ⟨1, _⟩ => show (x 1).val = (z 1).val; omega
    | ⟨2, _⟩ => show 128 * hh.val + (x 2).val = (z 2).val; omega
  refine View.canon_apply_of_pieces (Val := Elt Ideal) T _ (fun p hp => ?_) y (cover_out i s x9 vs y)
  unfold pieces at hp
  rw [hw] at hp
  simp only [List.mem_cons, List.not_mem_nil, or_false] at hp
  rcases hp with rfl | rfl | rfl | rfl
  · exact fun x : S1x128x128.Idx => (congrArg _ (ex x)).trans ((head_3 g _ x9 (x 1) (x 2)).trans ((hT 3 (x 1) (x 2)).trans (et x 384 3 rfl _ rfl rfl rfl)))
  · exact fun x : S1x128x128.Idx => (congrArg _ (ex x)).trans ((head_2 g _ x9 (x 1) (x 2)).trans ((hT 2 (x 1) (x 2)).trans (et x 256 2 rfl _ rfl rfl rfl)))
  · exact fun x : S1x128x128.Idx => (congrArg _ (ex x)).trans ((head_1 g _ x9 (x 1) (x 2)).trans ((hT 1 (x 1) (x 2)).trans (et x 128 1 rfl _ rfl rfl rfl)))
  · exact fun x : S1x128x128.Idx => (congrArg _ (ex x)).trans ((head_0 g s _ _ _ x9 (x 1) (x 2)).trans ((hT 0 (x 1) (x 2)).trans (et x 0 0 rfl _ rfl rfl rfl)))

end Cert.KernelIdeal.Win

end
-- ==== Proof.Layer.Rms.lean ====
/- The row norm the layer applies before its projections, at its end and before its experts, on the extended reals. -/
module

public import Idealize.ShloMosaic.PureOps.Ideal.Laws

@[expose] public section

noncomputable section

namespace Cert.Layer

open Idealize.ShloMosaic

/-- A row of 2048 numbers divided by the root of its mean square, the small constant added under the root. -/
def rms (s : Fin 2048 → EReal) (k : Fin 2048) : EReal :=
  s k * Ideal.rsqrt (Ideal.div (∑ j, s j * s j) (Ideal.ofBits .f32 0x45000000#32) + Ideal.ofBits .f32 0x358637BD#32)

/-- The range of an axis covered by one block. -/
theorem rng_one {q n x : ℕ} (hq : q = 0) (hx : x < n) : q * n ≤ x ∧ x < q * n + n := by subst hq; omega

end Cert.Layer

end
-- ==== Proof.Win.Value.lean ====
/- The window attention's result: the blocks of a grid point, the output block it leaves, the whole result array, and the
   kernel's run with it. -/
module

public import proofs.«01_k».proof.Proof.Win.Frame
public import proofs.«01_k».proof.Proof.Gen.ReferenceIdeal.Read
public import proofs.«01_k».proof.Proof.Win.Pay
public import proofs.«01_k».proof.Proof.Layer.Rms
public import Idealize.ShloMosaic.Lib.Pointwise

@[expose] public section

set_option maxRecDepth 16384

noncomputable section

open Idealize.ShloMosaic Idealize.ShloMosaic.TcCoe Idealize.ShloMosaic.Tactic Idealize.SL.Sem

namespace Cert.KernelIdeal.Win
open Cert.KernelIdeal Cert.KernelIdeal.Gen
open Idealize.ShloMosaic.Pipeline (Dat)
open Cert.WinAtt (rope tabC tabA tabB scl eps near attend)
open Cert.Layer (rng_one)
variable (m : (ℓ : Loc nD τ sig) → Buf (Elt Ideal) ℓ) (ρ : Dev nD → PrngReg)

/-- The tables of cosines and of sines. -/
abbrev csn (c : Dev nD) : S4x4096x16.Idx → EReal := Cert.ReferenceIdeal.Read.val_main_v16 (F := Ideal) (m ((c : Thread nD τ).loc main_arg1))
abbrev snn (c : Dev nD) : S4x4096x16.Idx → EReal := Cert.ReferenceIdeal.Read.val_main_v18 (F := Ideal) (m ((c : Thread nD τ).loc main_arg1))

/-- The three tables the kernel's blocks are cut from, as the host makes them. -/
theorem V_c (c : Dev nD) : V m c main_v20 = concatenate S4x4096x128 2 [⟨S4x4096x16, csn m c⟩, ⟨S4x4096x16, csn m c⟩,
    ⟨S4x4096x96, (broadcastInDim S4x4096x96 ![] bcast_S_S4x4096x96 (constant S_ .f32 0x3F800000#32 : FVec Ideal S_ .f32) : FVec Ideal S4x4096x96 .f32)⟩] concatenates_S4x4096x16_S4x4096x16_S4x4096x96_S4x4096x128_d2 := by
  unfold V; after_results <;> rfl

theorem V_a (c : Dev nD) : V m c main_v22 = concatenate S4x4096x128 2 [⟨S4x4096x16, Host.negf (F := Ideal) (φ := .f32) (snn m c)⟩,
    ⟨S4x4096x112, (broadcastInDim S4x4096x112 ![] bcast_S_S4x4096x112 (constant S_ .f32 0#32 : FVec Ideal S_ .f32) : FVec Ideal S4x4096x112 .f32)⟩] concatenates_S4x4096x16_S4x4096x112_S4x4096x128_d2 := by
  unfold V; after_results <;> rfl

theorem V_b (c : Dev nD) : V m c main_v25 = concatenate S4x4096x128 2 [⟨S4x4096x16, (broadcastInDim S4x4096x16 ![] bcast_S_S4x4096x16 (constant S_ .f32 0#32 : FVec Ideal S_ .f32) : FVec Ideal S4x4096x16 .f32)⟩,
    ⟨S4x4096x16, snn m c⟩, ⟨S4x4096x96, extractStridedSlice S4x4096x96 ![0, 0, 0] (broadcastInDim S4x4096x112 ![] bcast_S_S4x4096x112 (constant S_ .f32 0#32 : FVec Ideal S_ .f32) : FVec Ideal S4x4096x112 .f32) slices_S4x4096x112_S4x4096x96_0_0_0⟩] concatenates_S4x4096x16_S4x4096x16_S4x4096x96_S4x4096x128_d2 := by
  unfold V; after_results <;> rfl

/-- Those tables at an index. -/
theorem tab_c (C : FVec Ideal S4x4096x16 .f32) (b : Fin 4) (t : Fin 4096) (l : Fin 128) : (concatenate S4x4096x128 2 [⟨S4x4096x16, C⟩, ⟨S4x4096x16, C⟩,
    ⟨S4x4096x96, (broadcastInDim S4x4096x96 ![] bcast_S_S4x4096x96 (constant S_ .f32 0x3F800000#32 : FVec Ideal S_ .f32) : FVec Ideal S4x4096x96 .f32)⟩] concatenates_S4x4096x16_S4x4096x16_S4x4096x96_S4x4096x128_d2 : FVec Ideal S4x4096x128 .f32) (ix3 b t l)
      = tabC (fun j => C (ix3 b t j)) l := by
  pointwise [tabC]

theorem tab_a (C : FVec Ideal S4x4096x16 .f32) (b : Fin 4) (t : Fin 4096) (l : Fin 128) : (concatenate S4x4096x128 2 [⟨S4x4096x16, Host.negf C⟩,
    ⟨S4x4096x112, (broadcastInDim S4x4096x112 ![] bcast_S_S4x4096x112 (constant S_ .f32 0#32 : FVec Ideal S_ .f32) : FVec Ideal S4x4096x112 .f32)⟩] concatenates_S4x4096x16_S4x4096x112_S4x4096x128_d2 : FVec Ideal S4x4096x128 .f32) (ix3 b t l)
      = tabA (fun j => C (ix3 b t j)) l := by
  pointwise [tabA]

theorem tab_b (C : FVec Ideal S4x4096x16 .f32) (b : Fin 4) (t : Fin 4096) (l : Fin 128) : (concatenate S4x4096x128 2 [⟨S4x4096x16, (broadcastInDim S4x4096x16 ![] bcast_S_S4x4096x16 (constant S_ .f32 0#32 : FVec Ideal S_ .f32) : FVec Ideal S4x4096x16 .f32)⟩,
    ⟨S4x4096x16, C⟩, ⟨S4x4096x96, extractStridedSlice S4x4096x96 ![0, 0, 0] (broadcastInDim S4x4096x112 ![] bcast_S_S4x4096x112 (constant S_ .f32 0#32 : FVec Ideal S_ .f32) : FVec Ideal S4x4096x112 .f32) slices_S4x4096x112_S4x4096x96_0_0_0⟩] concatenates_S4x4096x16_S4x4096x16_S4x4096x96_S4x4096x128_d2 : FVec Ideal S4x4096x128 .f32) (ix3 b t l)
      = tabB (fun j => C (ix3 b t j)) l := by
  pointwise [tabB]

/-- The windows' block indices at a grid point. -/
theorem idx_a : ∀ t : Fin cfg0.N, (win0_0.index t 0 = t.val / 64 ∧ win0_0.index t 1 = t.val % 32 ∧ win0_0.index t 2 = t.val / 32 % 2)
    ∧ (win0_1.index t 0 = t.val / 64 ∧ win0_1.index t 1 = t.val % 32 ∧ win0_1.index t 2 = 0)
    ∧ (win0_2.index t 0 = t.val / 64 ∧ win0_2.index t 1 = t.val % 32 ∧ win0_2.index t 2 = 0)
    ∧ (win0_3.index t 0 = t.val / 64 ∧ win0_3.index t 1 = t.val % 32 ∧ win0_3.index t 2 = 0)
    ∧ (win0_9.index t 0 = t.val / 64 ∧ win0_9.index t 1 = t.val % 32 ∧ win0_9.index t 2 = 52)
    ∧ (win0_10.index t 0 = t.val / 64 ∧ win0_10.index t 1 = t.val % 32 ∧ win0_10.index t 2 = t.val / 32 % 2) :=
  (by decide +kernel : ∀ t : Fin grid0.N, (win0_0.index t 0 = t.val / 64 ∧ win0_0.index t 1 = t.val % 32 ∧ win0_0.index t 2 = t.val / 32 % 2)
    ∧ (win0_1.index t 0 = t.val / 64 ∧ win0_1.index t 1 = t.val % 32 ∧ win0_1.index t 2 = 0)
    ∧ (win0_2.index t 0 = t.val / 64 ∧ win0_2.index t 1 = t.val % 32 ∧ win0_2.index t 2 = 0)
    ∧ (win0_3.index t 0 = t.val / 64 ∧ win0_3.index t 1 = t.val % 32 ∧ win0_3.index t 2 = 0)
    ∧ (win0_9.index t 0 = t.val / 64 ∧ win0_9.index t 1 = t.val % 32 ∧ win0_9.index t 2 = 52)
    ∧ (win0_10.index t 0 = t.val / 64 ∧ win0_10.index t 1 = t.val % 32 ∧ win0_10.index t 2 = t.val / 32 % 2))

theorem idx_b : ∀ t : Fin cfg0.N, (win0_4.index t 0 = t.val / 64 ∧ win0_4.index t 1 = 0 ∧ win0_4.index t 2 = 0)
    ∧ (win0_5.index t 0 = t.val / 64 ∧ win0_5.index t 1 = 0 ∧ win0_5.index t 2 = 0)
    ∧ (win0_6.index t 0 = t.val / 64 ∧ win0_6.index t 1 = 0 ∧ win0_6.index t 2 = 0)
    ∧ (win0_7.index t 0 = t.val / 64 ∧ win0_7.index t 1 = 0 ∧ win0_7.index t 2 = 16 + t.val / 32 % 2)
    ∧ (win0_8.index t 0 = t.val / 64 ∧ win0_8.index t 1 = 0 ∧ win0_8.index t 2 = 18 + t.val / 32 % 2) :=
  (by decide +kernel : ∀ t : Fin grid0.N, (win0_4.index t 0 = t.val / 64 ∧ win0_4.index t 1 = 0 ∧ win0_4.index t 2 = 0)
    ∧ (win0_5.index t 0 = t.val / 64 ∧ win0_5.index t 1 = 0 ∧ win0_5.index t 2 = 0)
    ∧ (win0_6.index t 0 = t.val / 64 ∧ win0_6.index t 1 = 0 ∧ win0_6.index t 2 = 0)
    ∧ (win0_7.index t 0 = t.val / 64 ∧ win0_7.index t 1 = 0 ∧ win0_7.index t 2 = 16 + t.val / 32 % 2)
    ∧ (win0_8.index t 0 = t.val / 64 ∧ win0_8.index t 1 = 0 ∧ win0_8.index t 2 = 18 + t.val / 32 % 2))

theorem lt256 (t : Fin cfg0.N) : t.val < 256 := Nat.lt_of_lt_of_eq t.isLt N_0

/-- The batch, the key group and the query block of a grid point, and a query position in the block. -/
abbrev tb (t : Fin cfg0.N) : Fin 4 := ⟨t.val / 64, by have := lt256 t; omega⟩
abbrev tg (t : Fin cfg0.N) : Fin 2 := ⟨t.val / 32 % 2, by omega⟩
abbrev tn (t : Fin cfg0.N) : Fin 32 := ⟨t.val % 32, by omega⟩
abbrev tq (t : Fin cfg0.N) (r : Fin 128) : Fin 4096 := ⟨128 * (t.val % 32) + r.val, by omega⟩

theorem co1 (t : Fin cfg0.N) : (grid0.coords t 1).val = (tg t).val := Pipeline.Grid.coords_val t 1 (by decide) rfl
theorem co2 (t : Fin cfg0.N) : (grid0.coords t 2).val = (tn t).val :=
  (Pipeline.Grid.coords_val t 2 (by decide) rfl : _ = t.val / 1 % 32).trans (by rw [Nat.div_one])

/-- The projections' array. -/
abbrev xa (c : Dev nD) : S4x4096x6912.Idx → EReal := m ((c : Thread nD τ).loc main_arg0)

/-- The query block. -/
theorem blk0 (c : Dev nD) (t : Fin cfg0.N) (r : Fin 128) (l : Fin 512) :
    (X0_0 m c t : Vec Ideal S1x128x512 .f32) (ix3 0 r l) = xa m c (ix3 (tb t) (tq t r) ⟨512 * (t.val / 32 % 2) + l.val, by omega⟩) := by
  have e := (idx_a t).1
  unfold X0_0 Pipeline.Window.fill
  rw [dif_pos (moved0_0 t _)]
  unfold xa
  rw [← V_main_arg0 m c]
  show V m c main_arg0 _ = _
  refine congrArg _ (funext fun a => Fin.ext ?_)
  match a with
  | ⟨0, _⟩ => show win0_0.index t 0 * 1 + 1 * 0 = t.val / 64; rw [e.1]; omega
  | ⟨1, _⟩ => show win0_0.index t 1 * 128 + 1 * r.val = 128 * (t.val % 32) + r.val; rw [e.2.1]; omega
  | ⟨2, _⟩ => show win0_0.index t 2 * 512 + 1 * l.val = 512 * (t.val / 32 % 2) + l.val; rw [e.2.2]; omega

/-- The query rows of the three tables. -/
theorem blk1 (c : Dev nD) (t : Fin cfg0.N) (r : Fin 128) (l : Fin 128) :
    (iblk m c 1 t : Vec Ideal S1x128x128 .f32) (ix3 0 r l) = tabC (fun j => csn m c (ix3 (tb t) (tq t r) j)) l := by
  have e := (idx_a t).2.1
  rw [← tab_c, ← V_c]
  show V m c main_v20 _ = _
  refine congrArg _ (funext fun a => Fin.ext ?_)
  match a with
  | ⟨0, _⟩ => show win0_1.index t 0 * 1 + 1 * 0 = t.val / 64; rw [e.1]; omega
  | ⟨1, _⟩ => show win0_1.index t 1 * 128 + 1 * r.val = 128 * (t.val % 32) + r.val; rw [e.2.1]; omega
  | ⟨2, _⟩ => show win0_1.index t 2 * 128 + 1 * l.val = l.val; rw [e.2.2]; omega

theorem blk2 (c : Dev nD) (t : Fin cfg0.N) (r : Fin 128) (l : Fin 128) :
    (iblk m c 2 t : Vec Ideal S1x128x128 .f32) (ix3 0 r l) = tabA (fun j => snn m c (ix3 (tb t) (tq t r) j)) l := by
  have e := (idx_a t).2.2.1
  rw [← tab_a, ← V_a]
  show V m c main_v22 _ = _
  refine congrArg _ (funext fun a => Fin.ext ?_)
  match a with
  | ⟨0, _⟩ => show win0_2.index t 0 * 1 + 1 * 0 = t.val / 64; rw [e.1]; omega
  | ⟨1, _⟩ => show win0_2.index t 1 * 128 + 1 * r.val = 128 * (t.val % 32) + r.val; rw [e.2.1]; omega
  | ⟨2, _⟩ => show win0_2.index t 2 * 128 + 1 * l.val = l.val; rw [e.2.2]; omega

theorem blk3 (c : Dev nD) (t : Fin cfg0.N) (r : Fin 128) (l : Fin 128) :
    (iblk m c 3 t : Vec Ideal S1x128x128 .f32) (ix3 0 r l) = tabB (fun j => snn m c (ix3 (tb t) (tq t r) j)) l := by
  have e := (idx_a t).2.2.2.1
  rw [← tab_b, ← V_b]
  show V m c main_v25 _ = _
  refine congrArg _ (funext fun a => Fin.ext ?_)
  match a with
  | ⟨0, _⟩ => show win0_3.index t 0 * 1 + 1 * 0 = t.val / 64; rw [e.1]; omega
  | ⟨1, _⟩ => show win0_3.index t 1 * 128 + 1 * r.val = 128 * (t.val % 32) + r.val; rw [e.2.1]; omega
  | ⟨2, _⟩ => show win0_3.index t 2 * 128 + 1 * l.val = l.val; rw [e.2.2]; omega

/-- The three tables of the batch. -/
theorem blk4 (c : Dev nD) (t : Fin cfg0.N) (r : Fin 4096) (l : Fin 128) :
    (iblk m c 4 t : Vec Ideal S1x4096x128 .f32) (ix3 0 r l) = tabC (fun j => csn m c (ix3 (tb t) r j)) l := by
  have e := (idx_b t).1
  rw [← tab_c, ← V_c]
  show V m c main_v20 _ = _
  refine congrArg _ (funext fun a => Fin.ext ?_)
  match a with
  | ⟨0, _⟩ => show win0_4.index t 0 * 1 + 1 * 0 = t.val / 64; rw [e.1]; omega
  | ⟨1, _⟩ => show win0_4.index t 1 * 4096 + 1 * r.val = r.val; rw [e.2.1]; omega
  | ⟨2, _⟩ => show win0_4.index t 2 * 128 + 1 * l.val = l.val; rw [e.2.2]; omega

theorem blk5 (c : Dev nD) (t : Fin cfg0.N) (r : Fin 4096) (l : Fin 128) :
    (iblk m c 5 t : Vec Ideal S1x4096x128 .f32) (ix3 0 r l) = tabA (fun j => snn m c (ix3 (tb t) r j)) l := by
  have e := (idx_b t).2.1
  rw [← tab_a, ← V_a]
  show V m c main_v22 _ = _
  refine congrArg _ (funext fun a => Fin.ext ?_)
  match a with
  | ⟨0, _⟩ => show win0_5.index t 0 * 1 + 1 * 0 = t.val / 64; rw [e.1]; omega
  | ⟨1, _⟩ => show win0_5.index t 1 * 4096 + 1 * r.val = r.val; rw [e.2.1]; omega
  | ⟨2, _⟩ => show win0_5.index t 2 * 128 + 1 * l.val = l.val; rw [e.2.2]; omega

theorem blk6 (c : Dev nD) (t : Fin cfg0.N) (r : Fin 4096) (l : Fin 128) :
    (iblk m c 6 t : Vec Ideal S1x4096x128 .f32) (ix3 0 r l) = tabB (fun j => snn m c (ix3 (tb t) r j)) l := by
  have e := (idx_b t).2.2.1
  rw [← tab_b, ← V_b]
  show V m c main_v25 _ = _
  refine congrArg _ (funext fun a => Fin.ext ?_)
  match a with
  | ⟨0, _⟩ => show win0_6.index t 0 * 1 + 1 * 0 = t.val / 64; rw [e.1]; omega
  | ⟨1, _⟩ => show win0_6.index t 1 * 4096 + 1 * r.val = r.val; rw [e.2.1]; omega
  | ⟨2, _⟩ => show win0_6.index t 2 * 128 + 1 * l.val = l.val; rw [e.2.2]; omega

/-- The keys and the values of the batch and key group. -/
theorem blk7 (c : Dev nD) (t : Fin cfg0.N) (r : Fin 4096) (l : Fin 128) :
    (iblk m c 7 t : Vec Ideal S1x4096x128 .f32) (ix3 0 r l) = xa m c (ix3 (tb t) r ⟨2048 + (t.val / 32 % 2 * 128 + l.val), by omega⟩) := by
  have e := (idx_b t).2.2.2.1
  unfold xa
  rw [← V_main_arg0 m c]
  show V m c main_arg0 _ = _
  refine congrArg _ (funext fun a => Fin.ext ?_)
  match a with
  | ⟨0, _⟩ => show win0_7.index t 0 * 1 + 1 * 0 = t.val / 64; rw [e.1]; omega
  | ⟨1, _⟩ => show win0_7.index t 1 * 4096 + 1 * r.val = r.val; rw [e.2.1]; omega
  | ⟨2, _⟩ => show win0_7.index t 2 * 128 + 1 * l.val = 2048 + (t.val / 32 % 2 * 128 + l.val); rw [e.2.2]; omega

theorem blk8 (c : Dev nD) (t : Fin cfg0.N) (r : Fin 4096) (l : Fin 128) :
    (iblk m c 8 t : Vec Ideal S1x4096x128 .f32) (ix3 0 r l) = xa m c (ix3 (tb t) r ⟨2304 + (t.val / 32 % 2 * 128 + l.val), by omega⟩) := by
  have e := (idx_b t).2.2.2.2
  unfold xa
  rw [← V_main_arg0 m c]
  show V m c main_arg0 _ = _
  refine congrArg _ (funext fun a => Fin.ext ?_)
  match a with
  | ⟨0, _⟩ => show win0_8.index t 0 * 1 + 1 * 0 = t.val / 64; rw [e.1]; omega
  | ⟨1, _⟩ => show win0_8.index t 1 * 4096 + 1 * r.val = r.val; rw [e.2.1]; omega
  | ⟨2, _⟩ => show win0_8.index t 2 * 128 + 1 * l.val = 2304 + (t.val / 32 % 2 * 128 + l.val); rw [e.2.2]; omega

/-- The gates' block. -/
theorem blk9 (c : Dev nD) (t : Fin cfg0.N) (r : Fin 128) (l : Fin 128) :
    (iblk m c 9 t : Vec Ideal S1x128x128 .f32) (ix3 0 r l) = xa m c (ix3 (tb t) (tq t r) ⟨6656 + l.val, by omega⟩) := by
  have e := (idx_a t).2.2.2.2.1
  unfold xa
  rw [← V_main_arg0 m c]
  show V m c main_arg0 _ = _
  refine congrArg _ (funext fun a => Fin.ext ?_)
  match a with
  | ⟨0, _⟩ => show win0_9.index t 0 * 1 + 1 * 0 = t.val / 64; rw [e.1]; omega
  | ⟨1, _⟩ => show win0_9.index t 1 * 128 + 1 * r.val = 128 * (t.val % 32) + r.val; rw [e.2.1]; omega
  | ⟨2, _⟩ => show win0_9.index t 2 * 128 + 1 * l.val = 6656 + l.val; rw [e.2.2]; omega

/-- The key scratch holds the rotated keys, the value scratch the values. -/
theorem KS_at (c : Dev nD) (t : Fin cfg0.N) (k : Fin 4096) (l : Fin 128) :
    KS m c t (ix2 k l) = Cert.WinAtt.key (xa m c) (csn m c) (snn m c) (tb t) k (tg t) l := by
  unfold KS
  rw [p2, blk4, blk5, blk6, blk7, blk7, blk7]
  unfold Cert.WinAtt.key
  rw [← Cert.WinAtt.rope_tabs _ _ _ l (Nat.mod_lt _ (by decide)) (Nat.mod_lt _ (by decide))]
theorem VS_at (c : Dev nD) (t : Fin cfg0.N) (k : Fin 4096) (l : Fin 128) :
    VS m c t (ix2 k l) = Cert.WinAtt.val (xa m c) (tb t) k (tg t) l := by
  unfold VS
  rw [p3, blk8]
  rfl

/-- The scores of a grid point. -/
theorem S_at (c : Dev nD) (t : Fin cfg0.N) (hh : Fin 4) (r : Fin 128) (j : Fin 640) :
    scoreOf (F := Ideal) (grid0.coords t) (X0_0 m c t) (iblk m c 1 t) (iblk m c 2 t) (iblk m c 3 t) (KS m c t) (ix2 ⟨128 * hh.val + r.val, by omega⟩ j)
      = Cert.WinAtt.score (xa m c) (csn m c) (snn m c) (tb t) (tg t) hh (tq t r) (kwin (tn t) j) := by
  rw [score_at (grid0.coords t) (tn t) (co2 t) _ _ _ _ _ _ _ (blk1 m c t) (blk2 m c t) (blk3 m c t) hh r j]
  unfold Cert.WinAtt.score
  refine congrArg (· * scl) (Finset.sum_congr rfl fun l _ => congrArg₂ (· * ·) ?_ (KS_at m c t _ l))
  unfold Cert.WinAtt.qry
  refine congrArg (fun f => rope _ _ f l) (funext fun l => ?_)
  rw [blk0]
  refine congrArg (fun z => xa m c (ix3 (tb t) (tq t r) z)) (Fin.ext ?_)
  show 512 * (t.val / 32 % 2) + (128 * hh.val + l.val) = (t.val / 32 % 2 * 4 + hh.val) * 128 + l.val
  omega

/-- The result array the kernel leaves. -/
abbrev res (c : Dev nD) : Buf (Elt Ideal) ((c : Thread nD τ).loc main_v26) :=
  Cert.WinAtt.G (xa m c) (csn m c) (snn m c)

/-- The output block of a grid point at head `hh` of the block, row `r` and column `l`. -/
theorem head_out (c : Dev nD) (t : Fin cfg0.N) (hh : Fin 4) (r l : Fin 128) :
    attOf (F := Ideal) (grid0.coords t) (scoreOf (grid0.coords t) (X0_0 m c t) (iblk m c 1 t) (iblk m c 2 t) (iblk m c 3 t) (KS m c t)) (VS m c t)
        (ix2 ⟨128 * hh.val + r.val, by omega⟩ l) * lgate (iblk m c 9 t) r (lane (tg t) hh)
      = Cert.WinAtt.out (xa m c) (csn m c) (snn m c) (tb t) (tq t r) ⟨512 * (t.val / 32 % 2) + (128 * hh.val + l.val), by omega⟩ := by
  rw [att_at (grid0.coords t) (tn t) (co2 t) _ _ hh r l (tq t r) rfl (Cert.WinAtt.score (xa m c) (csn m c) (snn m c) (tb t) (tg t) hh (tq t r))
    (fun k => Cert.WinAtt.val (xa m c) (tb t) k (tg t) l) (S_at m c t hh r) (fun k => VS_at m c t k l)]
  have a1 : (512 * (t.val / 32 % 2) + (128 * hh.val + l.val)) / 128 = t.val / 32 % 2 * 4 + hh.val := by omega
  have a2 : (512 * (t.val / 32 % 2) + (128 * hh.val + l.val)) % 128 = l.val := by omega
  unfold Cert.WinAtt.out
  have b0 : ∀ h, (⟨(512 * (t.val / 32 % 2) + (128 * hh.val + l.val)) / 128, h⟩ : Fin 8) = ⟨t.val / 32 % 2 * 4 + hh.val, by omega⟩ := fun h => Fin.ext a1
  have b1 : ∀ h, (⟨(512 * (t.val / 32 % 2) + (128 * hh.val + l.val)) / 128 / 4, h⟩ : Fin 2) = tg t := fun h => Fin.ext (by
    show (512 * (t.val / 32 % 2) + (128 * hh.val + l.val)) / 128 / 4 = t.val / 32 % 2; omega)
  have b2 : ∀ h, (⟨(512 * (t.val / 32 % 2) + (128 * hh.val + l.val)) / 128 % 4, h⟩ : Fin 4) = hh := fun h => Fin.ext (by
    show (512 * (t.val / 32 % 2) + (128 * hh.val + l.val)) / 128 % 4 = hh.val; omega)
  have b3 : ∀ h, (⟨(512 * (t.val / 32 % 2) + (128 * hh.val + l.val)) % 128, h⟩ : Fin 128) = l := fun h => Fin.ext a2
  dsimp only
  rw [b0, b1, b2, b3]
  unfold Cert.WinAtt.att Cert.WinAtt.gate lgate
  rw [blk9, mul_comm]

/-- The output block of a grid point, at an index of the block. -/
theorem OUT_at (c : Dev nD) (t : Fin cfg0.N) (y : S1x128x512.Idx) :
    OUT m c t y = Cert.WinAtt.out (xa m c) (csn m c) (snn m c) (tb t) (tq t (y 1)) ⟨512 * (t.val / 32 % 2) + (y 2).val, by have h : (y 2).val < 512 := (y 2).isLt; omega⟩ := by
  unfold OUT PCS
  exact out_at (grid0.coords t) (tg t) (co1 t) _ _ _
    (fun y => Cert.WinAtt.out (xa m c) (csn m c) (snn m c) (tb t) (tq t (y 1)) ⟨512 * (t.val / 32 % 2) + (y 2).val, by have h : (y 2).val < 512 := (y 2).isLt; omega⟩)
    (head_out m c t) y

/-- What a grid point writes back is its block of the result. -/
theorem flushed_eq (c : Dev nD) (t : Fin cfg0.N) : (dats m 0 c).flushed 10 t = (win0_10.blk t).view.read (Elt Ideal) (res m c) := by
  have hf : (dats m 0 c).flushed 10 t = (cfg0.win 10).cut (grid0.coords t) (OUT m c t) := by
    show (cfg0.win 10).cut (grid0.coords t) ((dats m 0 c).after 10 t) = _
    rw [after0_10]
  rw [hf]
  have e := (idx_a t).2.2.2.2.2
  funext y
  have e0 : (((cfg0.win 10).blk t).view.emb y) 0 = tb t := Fin.ext (by
    have h : (y 0).val < 1 := (y 0).isLt
    show win0_10.index t 0 * 1 + 1 * (y 0).val = t.val / 64; rw [e.1]; omega)
  have e1 : (((cfg0.win 10).blk t).view.emb y) 1 = tq t (y 1) := Fin.ext (by
    show win0_10.index t 1 * 128 + 1 * (y 1).val = 128 * (t.val % 32) + (y 1).val; rw [e.2.1]; omega)
  have e2 : (((cfg0.win 10).blk t).view.emb y) 2 = (⟨512 * (t.val / 32 % 2) + (y 2).val, by have h : (y 2).val < 512 := (y 2).isLt; omega⟩ : Fin 1024) := Fin.ext (by
    show win0_10.index t 2 * 512 + 1 * (y 2).val = 512 * (t.val / 32 % 2) + (y 2).val; rw [e.2.2]; omega)
  show OUT m c t y = Cert.WinAtt.out _ _ _ ((((cfg0.win 10).blk t).view.emb y) 0) ((((cfg0.win 10).blk t).view.emb y) 1) ((((cfg0.win 10).blk t).view.emb y) 2)
  rw [e0, e1, e2]
  exact OUT_at m c t y

/-- The point whose block holds index `i`. -/
theorem point (i : S4x4096x1024.Idx) : ∃ t : Fin cfg0.N, t.val / 64 = (i 0).val ∧ t.val % 32 = (i 1).val / 128 ∧ t.val / 32 % 2 = (i 2).val / 512 := by
  have h0 : (i 0).val < 4 := (i 0).isLt
  have h1 : (i 1).val < 4096 := (i 1).isLt
  have h2 : (i 2).val < 1024 := (i 2).isLt
  have hN : cfg0.N = 256 := N_0
  obtain ⟨t, ht⟩ : ∃ t : Fin cfg0.N, t.val = 64 * (i 0).val + 32 * ((i 2).val / 512) + (i 1).val / 128 := ⟨⟨64 * (i 0).val + 32 * ((i 2).val / 512) + (i 1).val / 128, by omega⟩, rfl⟩
  exact ⟨t, by omega, by omega, by omega⟩

theorem mem_blk (t : Fin cfg0.N) (i : S4x4096x1024.Idx) (h : t.val / 64 = (i 0).val ∧ t.val % 32 = (i 1).val / 128 ∧ t.val / 32 % 2 = (i 2).val / 512) :
    i ∈ ((cfg0.win 10).blk t).view.set := by
  have e := (idx_a t).2.2.2.2.2
  show i ∈ ((View.whole main_v26).slice (win0_10.rect t)).set
  rw [View.set_slice_whole, Rect.mem_set_unit]
  intro a
  match a with
  | ⟨0, _⟩ =>
    show win0_10.index t 0 * 1 ≤ (i 0).val ∧ (i 0).val < win0_10.index t 0 * 1 + 1
    rw [e.1]; omega
  | ⟨1, _⟩ =>
    show win0_10.index t 1 * 128 ≤ (i 1).val ∧ (i 1).val < win0_10.index t 1 * 128 + 128
    rw [e.2.1]; omega
  | ⟨2, _⟩ =>
    show win0_10.index t 2 * 512 ≤ (i 2).val ∧ (i 2).val < win0_10.index t 2 * 512 + 512
    rw [e.2.2]; omega

/-- The result array after the launch. -/
theorem final (c : Dev nD) : (dats m 0 c).arrAt 10 cfg0.N = res m c :=
  (dats m 0 c).arrAt_eq_of_cover 10 (res m c) (fun t _ => flushed_eq m c t) fun i =>
    (point i).elim fun t h => ⟨t, flush0_10 t, mem_blk t i h⟩

/-- The kernel's run: its result is `G` of the projections and the tables, and the arguments end unchanged. -/
theorem run : θ_run defs (onTc (τ := τ) (main (F := Ideal))) ⟨m, fun _ => 0, ρ⟩ fun r => ∀ c : Dev nD,
      r.2.mem ((c : Thread nD τ).loc main_v26) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 10).trans (final m c),
      ((h c).1 9).trans (((dats m 0 c).arrAt_in 9 rfl _).trans ((A_eq m c 9).trans (V_main_arg0 m c))),
      ((h c).2 main_arg1 (Pipeline.mem_restRefs_of main_arg1 (by decide) (by decide))).trans (V_main_arg1 m c)⟩) (run_main m ρ)

end Cert.KernelIdeal.Win
end
-- ==== Proof.Win.Ref.lean ====
/- The window attention's reference at an index: each result is the gate times the attention of its row. -/
module

public import proofs.«01_k».proof.Proof.Win.Guard
public import proofs.«01_k».proof.Proof.Gen.ReferenceIdeal.Run
public import proofs.«01_k».proof.Proof.Gen.ReferenceIdeal.Read
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

namespace Cert.WinAtt

open Cert.ReferenceIdeal Cert.ReferenceIdeal.Read

variable (x : S4x4096x6912.Idx → EReal) (y : BufTy.Contents (Elt Idealize.ShloMosaic.Ideal) { shape := S4x4096, elt := EltTy.i32 })

/-- The reference's queries. -/
theorem ref_qry (b : Fin 4) (t : Fin 4096) (h : Fin 8) (l : Fin 128) :
    val_main_v35 (F := Ideal) x y (ix4 b t h l) = qry x (val_main_v16 (F := Ideal) y) (val_main_v18 (F := Ideal) y) b t h l := by
  have e : ∀ l : Fin 128, val_main_v21 (F := Ideal) x (ix4 b t h l) = x (ix3 b t ⟨h.val * 128 + l.val, by omega⟩) := fun l => by
    pointwise [val_main_v21, val_main_v20]
  unfold val_main_v35 val_main_v34 val_main_v33 val_main_v32 val_main_v31 val_main_v30 val_main_v29 val_main_v28 val_main_v27 val_main_v26 val_main_v25 val_main_v24 val_main_v23 val_main_v22 val_main_v19 val_main_v17
  unfold qry
  simp only [← e]
  generalize val_main_v16 (F := Ideal) y = C
  generalize val_main_v18 (F := Ideal) y = D
  generalize val_main_v21 (F := Ideal) x = E
  pointwise [rope]

/-- The unrotated keys, and the columns of them that the rotation takes apart. -/
theorem k39 (b : Fin 4) (t : Fin 4096) (h : Fin 2) (l : Fin 128) :
    val_main_v39 (F := Ideal) x (ix4 b t h l) = x (ix3 b t ⟨2048 + (h.val * 128 + l.val), by omega⟩) := by
  pointwise [val_main_v39, val_main_v38, val_main_v37, val_main_v36]

theorem k40 (b : Fin 4) (g : Fin 2) (t : Fin 4096) (l : Fin 16) : val_main_v40 (F := Ideal) x (ix4 b t g l) = val_main_v39 (F := Ideal) x (ix4 b t g ⟨l.val, by omega⟩) := by
  refine (val_main_v40_apply (F := Ideal) x _).trans (congrArg _ (funext fun a => ?_))
  match a with
  | ⟨0, _⟩ => rfl
  | ⟨1, _⟩ => rfl
  | ⟨2, _⟩ => rfl
  | ⟨3, _⟩ => rfl

theorem k41 (b : Fin 4) (g : Fin 2) (t : Fin 4096) (l : Fin 16) : val_main_v41 (F := Ideal) x (ix4 b t g l) = val_main_v39 (F := Ideal) x (ix4 b t g ⟨16 + l.val, by omega⟩) := by
  refine (val_main_v41_apply (F := Ideal) x _).trans (congrArg _ (funext fun a => ?_))
  match a with
  | ⟨0, _⟩ => rfl
  | ⟨1, _⟩ => rfl
  | ⟨2, _⟩ => rfl
  | ⟨3, _⟩ => rfl

theorem k42 (b : Fin 4) (g : Fin 2) (t : Fin 4096) (l : Fin 96) : val_main_v42 (F := Ideal) x (ix4 b t g l) = val_main_v39 (F := Ideal) x (ix4 b t g ⟨32 + l.val, by omega⟩) := by
  refine (val_main_v42_apply (F := Ideal) x _).trans (congrArg _ (funext fun a => ?_))
  match a with
  | ⟨0, _⟩ => rfl
  | ⟨1, _⟩ => rfl
  | ⟨2, _⟩ => rfl
  | ⟨3, _⟩ => rfl

/-- The reference's keys. -/
theorem ref_key (b : Fin 4) (t : Fin 4096) (g : Fin 2) (l : Fin 128) :
    val_main_v53 (F := Ideal) x y (ix4 b t g l) = key x (val_main_v16 (F := Ideal) y) (val_main_v18 (F := Ideal) y) b t g l := by
  have lo : ∀ l : Fin 16, val_main_v47 (F := Ideal) x y (ix4 b t g l)
      = val_main_v39 (F := Ideal) x (ix4 b t g ⟨l.val, by omega⟩) * val_main_v16 (F := Ideal) y (ix3 b t l)
        - val_main_v39 (F := Ideal) x (ix4 b t g ⟨16 + l.val, by omega⟩) * val_main_v18 (F := Ideal) y (ix3 b t l) := fun l => by
    rw [← k40, ← k41]
    unfold val_main_v47 val_main_v44 val_main_v46 val_main_v43 val_main_v45 val_main_v17 val_main_v19
    generalize val_main_v40 (F := Ideal) x = A
    generalize val_main_v41 (F := Ideal) x = B
    generalize val_main_v16 (F := Ideal) y = C
    generalize val_main_v18 (F := Ideal) y = D
    pointwise
  have hi : ∀ l : Fin 16, val_main_v52 (F := Ideal) x y (ix4 b t g l)
      = val_main_v39 (F := Ideal) x (ix4 b t g ⟨l.val, by omega⟩) * val_main_v18 (F := Ideal) y (ix3 b t l)
        + val_main_v39 (F := Ideal) x (ix4 b t g ⟨16 + l.val, by omega⟩) * val_main_v16 (F := Ideal) y (ix3 b t l) := fun l => by
    rw [← k40, ← k41]
    unfold val_main_v52 val_main_v49 val_main_v51 val_main_v48 val_main_v50 val_main_v17 val_main_v19
    generalize val_main_v40 (F := Ideal) x = A
    generalize val_main_v41 (F := Ideal) x = B
    generalize val_main_v16 (F := Ideal) y = C
    generalize val_main_v18 (F := Ideal) y = D
    pointwise
  have cat : val_main_v53 (F := Ideal) x y (ix4 b t g l)
      = if h : l.val < 16 then val_main_v47 (F := Ideal) x y (ix4 b t g ⟨l.val, h⟩)
        else if h : l.val - 16 < 16 then val_main_v52 (F := Ideal) x y (ix4 b t g ⟨l.val - 16, h⟩)
        else val_main_v42 (F := Ideal) x (ix4 b t g ⟨l.val - 16 - 16, by omega⟩) := by
    unfold val_main_v53
    generalize val_main_v47 (F := Ideal) x y = A
    generalize val_main_v52 (F := Ideal) x y = B
    generalize val_main_v42 (F := Ideal) x = C
    pointwise
  unfold key
  simp only [← k39]
  rw [cat]
  unfold rope
  split_ifs with h1 h2
  · exact lo _
  · exact hi _
  · exact k42 x b g t _

/-- The reference's values. -/
theorem ref_val (b : Fin 4) (t : Fin 4096) (h : Fin 2) (l : Fin 128) :
    val_main_v55 (F := Ideal) x (ix4 b t h l) = val x b t h l := by
  unfold val
  rw [show (⟨2304 + (h.val * 128 + l.val), by omega⟩ : Fin 6912) = ⟨2048 + (256 + h.val * 128 + l.val), by omega⟩ from Fin.ext (by show 2304 + (h.val * 128 + l.val) = 2048 + (256 + h.val * 128 + l.val); omega)]
  pointwise [val_main_v55, val_main_v54, val_main_v37, val_main_v36]

/-- The scalar products of queries and keys. -/
theorem ref_dot (b : Fin 4) (g : Fin 2) (r : Fin 4) (t k : Fin 4096) :
    val_main_v58 (F := Ideal) x y (ix5 b g r t k)
      = ∑ l, val_main_v57 (F := Ideal) x y (ix5 b g r t l) * val_main_v53 (F := Ideal) x y (ix4 b k g l) := by
  unfold val_main_v58
  generalize val_main_v57 (F := Ideal) x y = C
  generalize val_main_v53 (F := Ideal) x y = D
  pointwise

/-- The reshape of eight heads to two groups of four. -/
theorem cast_heads (C : S4x4096x8x128.Idx → EReal) (H : S4x4096x8x128.ShapeCasts S4x4096x2x4x128) (b : Fin 4) (g : Fin 2) (r : Fin 4) (t : Fin 4096) (l : Fin 128) :
    shapeCast S4x4096x2x4x128 C H (ix5 b t g r l) = C (ix4 b t ⟨g.val * 4 + r.val, by omega⟩ l) := by
  refine shapeCast_apply _ _ _ _ ?_
  rw [Shape.rowMajor_val_four, Shape.rowMajor_val_five]
  show ((b.val * 4096 + t.val) * 8 + (g.val * 4 + r.val)) * 128 + l.val = (((b.val * 4096 + t.val) * 2 + g.val) * 4 + r.val) * 128 + l.val
  omega

/-- The queries by group. -/
theorem ref_heads (b : Fin 4) (g : Fin 2) (r : Fin 4) (t : Fin 4096) (l : Fin 128) :
    val_main_v57 (F := Ideal) x y (ix5 b g r t l) = val_main_v35 (F := Ideal) x y (ix4 b t ⟨g.val * 4 + r.val, by omega⟩ l) := by
  have h : val_main_v57 (F := Ideal) x y (ix5 b g r t l) = val_main_v56 (F := Ideal) x y (ix5 b t g r l) := by
    unfold val_main_v57
    generalize val_main_v56 (F := Ideal) x y = C
    exact transpose_apply _ _ _ _ _ fun a => match a with
      | ⟨0, _⟩ => rfl
      | ⟨1, _⟩ => rfl
      | ⟨2, _⟩ => rfl
      | ⟨3, _⟩ => rfl
      | ⟨4, _⟩ => rfl
  rw [h]
  unfold val_main_v56
  exact cast_heads _ _ b g r t l

/-- The reference's scores. -/
theorem ref_score (b : Fin 4) (g : Fin 2) (r : Fin 4) (t k : Fin 4096) :
    val_main_v60 (F := Ideal) x y (ix5 b g r t k) = score x (val_main_v16 (F := Ideal) y) (val_main_v18 (F := Ideal) y) b g r t k := by
  have h : val_main_v60 (F := Ideal) x y (ix5 b g r t k) = val_main_v58 (F := Ideal) x y (ix5 b g r t k) * scl := by
    rw [val_main_v60_apply, val_main_v59_apply]
    rfl
  rw [h, ref_dot]
  unfold score
  exact congrArg (· * scl) (Finset.sum_congr rfl fun l _ => congrArg₂ (· * ·) ((ref_heads x y b g r t l).trans (ref_qry x y b t _ l)) (ref_key x y b k g l))

/-- The reference's mask. -/
theorem ref_mask (t k : Fin 4096) : val_main_v72 (F := Ideal) (ix2 t k) = if near t k then 1#1 else 0#1 := by
  rw [← mask_word t.val k.val t.isLt k.isLt]
  pointwise [val_main_v72, val_main_v71, val_main_v70, val_main_v69, val_main_v68, val_main_v67, val_main_v66, val_main_v65, val_main_v64, val_main_v63, val_main_v62, val_main_v61, val_main_c, val_main_c_4]

/-- The float word of minus infinity. -/
theorem word_bot : Ideal.ofBits .f32 4286578688#32 = ⊥ := by
  simp [Ideal.ofBits, Ideal.ieee]

/-- The float words of plus infinity and of zero. -/
theorem word_top : Ideal.ofBits .f32 2139095040#32 = ⊤ := by
  simp [Ideal.ofBits, Ideal.ieee]
theorem word_zero : Ideal.ofBits .f32 0#32 = 0 := by
  simp [Ideal.ofBits, Ideal.ieee]

/-- The reference's masked scores. -/
theorem ref_msk (b : Fin 4) (g : Fin 2) (r : Fin 4) (t k : Fin 4096) :
    val_main_v73 (F := Ideal) x y (ix5 b g r t k) = msk (near t) (score x (val_main_v16 (F := Ideal) y) (val_main_v18 (F := Ideal) y) b g r t) k := by
  have h : val_main_v73 (F := Ideal) x y (ix5 b g r t k)
      = Scalar.select (val_main_v72 (F := Ideal) (ix2 t k)) (val_main_v60 (F := Ideal) x y (ix5 b g r t k)) (Ideal.ofBits .f32 4286578688#32) := by
    unfold val_main_v73 val_main_call0_v1 val_main_call0_v2 val_main_call0_v0 val_main_cst_5
    generalize val_main_v60 (F := Ideal) x y = C
    generalize val_main_v72 (F := Ideal) = D
    pointwise
    rfl
  rw [h, ref_mask, ref_score, word_bot, select_ite]
  rfl

/-- A row's greatest masked score, with a unit axis. -/
theorem ref_75 (b : Fin 4) (g : Fin 2) (r : Fin 4) (t : Fin 4096) :
    val_main_v75 (F := Ideal) x y (ix5 b g r t 0) = val_main_v74 (F := Ideal) x y (ix4 b g r t) := by
  rw [val_main_v75_apply]
  generalize val_main_v74 (F := Ideal) x y = C
  refine congrArg C (funext fun a => ?_)
  match a with
  | ⟨0, _⟩ => rfl
  | ⟨1, _⟩ => rfl
  | ⟨2, _⟩ => rfl
  | ⟨3, _⟩ => rfl

/-- The reference's greatest masked score, as it is subtracted: zero in place of an infinity. -/
theorem ref_top (b : Fin 4) (g : Fin 2) (r : Fin 4) (t : Fin 4096) :
    val_main_v79 (F := Ideal) x y (ix5 b g r t 0) = fin0 (top (near t) (score x (val_main_v16 (F := Ideal) y) (val_main_v18 (F := Ideal) y) b g r t)) := by
  have h2 : val_main_v75 (F := Ideal) x y (ix5 b g r t 0) = top (near t) (score x (val_main_v16 (F := Ideal) y) (val_main_v18 (F := Ideal) y) b g r t) := by
    unfold top
    have h : msk (near t) (score x (val_main_v16 (F := Ideal) y) (val_main_v18 (F := Ideal) y) b g r t) = fun n => val_main_v73 (F := Ideal) x y (ix5 b g r t n) := funext fun n => (ref_msk x y b g r t n).symm
    rw [h, ← word_bot]
    rw [ref_75]
    unfold val_main_v74
    generalize val_main_v73 (F := Ideal) x y = C
    pointwise [val_main_cst_6]
  have h : val_main_v79 (F := Ideal) x y (ix5 b g r t 0)
      = Scalar.select (Ideal.cmp .olt (max (val_main_v75 (F := Ideal) x y (ix5 b g r t 0)) (-val_main_v75 (F := Ideal) x y (ix5 b g r t 0))) (Ideal.ofBits .f32 2139095040#32)) (val_main_v75 (F := Ideal) x y (ix5 b g r t 0)) (Ideal.ofBits .f32 0#32) := by
    rw [val_main_v79_apply, val_main_v78_apply, val_main_v77_apply, val_main_v76_apply, val_main_call1_v1_apply, val_main_call1_v0_apply]
    generalize val_main_v75 (F := Ideal) x y = C
    rfl
  rw [h, h2, word_top, word_zero]
  generalize top (near t) (score x (val_main_v16 (F := Ideal) y) (val_main_v18 (F := Ideal) y) b g r t) = M
  unfold Scalar.select Ideal.cmp fin0
  by_cases e : max M (-M) < ⊤ <;> simp [e]

/-- The reference's unnormalised weights. -/
theorem ref_wt (b : Fin 4) (g : Fin 2) (r : Fin 4) (t : Fin 4096) (n : Fin 4096) :
    val_main_v82 (F := Ideal) x y (ix5 b g r t n) = wtG (near t) (score x (val_main_v16 (F := Ideal) y) (val_main_v18 (F := Ideal) y) b g r t) n := by
  unfold wtG
  rw [← ref_top, ← ref_msk]
  unfold val_main_v82 val_main_v81 val_main_v80
  generalize val_main_v73 (F := Ideal) x y = C
  generalize val_main_v79 (F := Ideal) x y = D
  pointwise

/-- The reference's normalised weights. -/
theorem ref_prob (b : Fin 4) (g : Fin 2) (r : Fin 4) (t : Fin 4096) (n : Fin 4096) :
    val_main_v88 (F := Ideal) x y (ix5 b g r t n) = Ideal.div (wt (near t) (score x (val_main_v16 (F := Ideal) y) (val_main_v18 (F := Ideal) y) b g r t) n) (den (near t) eps (score x (val_main_v16 (F := Ideal) y) (val_main_v18 (F := Ideal) y) b g r t)) := by
  rw [← prob_guard]
  have h : wtG (near t) (score x (val_main_v16 (F := Ideal) y) (val_main_v18 (F := Ideal) y) b g r t) = fun n => val_main_v82 (F := Ideal) x y (ix5 b g r t n) := funext fun n => (ref_wt x y b g r t n).symm
  rw [h]
  unfold val_main_v88 val_main_v87 val_main_v86 val_main_v85 val_main_v84 val_main_v83
  generalize val_main_v82 (F := Ideal) x y = C
  pointwise [val_main_cst_9, val_main_cst_10, eps]

/-- The reference's gates. -/
theorem ref_gate (b : Fin 4) (t : Fin 4096) (h : Fin 8) : val_main_v100 (F := Ideal) x (ix4 b t h 0) = gate x b t h := by
  unfold gate
  pointwise [val_main_v100, val_main_v99, val_main_v98, val_main_v97, val_main_v96, val_main_v95, val_main_v94, val_main_v93, val_main_v92, val_main_cst_11, val_main_cst_12]

/-- The weights against the values. -/
theorem ref_av (b : Fin 4) (g : Fin 2) (r : Fin 4) (t : Fin 4096) (d : Fin 128) :
    val_main_v89 (F := Ideal) x y (ix5 b g r t d) = ∑ k, val_main_v88 (F := Ideal) x y (ix5 b g r t k) * val_main_v55 (F := Ideal) x (ix4 b k g d) := by
  unfold val_main_v89
  generalize val_main_v88 (F := Ideal) x y = C
  generalize val_main_v55 (F := Ideal) x = D
  pointwise

/-- The attention's output by position. -/
theorem ref_90 (b : Fin 4) (g : Fin 2) (r : Fin 4) (t : Fin 4096) (d : Fin 128) :
    val_main_v90 (F := Ideal) x y (ix5 b t g r d) = val_main_v89 (F := Ideal) x y (ix5 b g r t d) := by
  unfold val_main_v90
  generalize val_main_v89 (F := Ideal) x y = C
  exact transpose_apply _ _ _ _ _ fun a => match a with
    | ⟨0, _⟩ => rfl
    | ⟨1, _⟩ => rfl
    | ⟨2, _⟩ => rfl
    | ⟨3, _⟩ => rfl
    | ⟨4, _⟩ => rfl

/-- The reshape of two groups of four heads to eight heads. -/
theorem cast_flat (C : S4x4096x2x4x128.Idx → EReal) (H : S4x4096x2x4x128.ShapeCasts S4x4096x8x128) (b : Fin 4) (t : Fin 4096) (h : Fin 8) (l : Fin 128) :
    shapeCast S4x4096x8x128 C H (ix4 b t h l) = C (ix5 b t ⟨h.val / 4, by omega⟩ ⟨h.val % 4, by omega⟩ l) := by
  refine shapeCast_apply _ _ _ _ ?_
  rw [Shape.rowMajor_val_four, Shape.rowMajor_val_five]
  show (((b.val * 4096 + t.val) * 2 + h.val / 4) * 4 + h.val % 4) * 128 + l.val = ((b.val * 4096 + t.val) * 8 + h.val) * 128 + l.val
  omega

/-- The reshape of eight heads to a row. -/
theorem ref_104 (b : Fin 4) (t : Fin 4096) (n : Fin 1024) :
    val_main_v104 (F := Ideal) x y (ix3 b t n) = val_main_v102 (F := Ideal) x y (ix4 b t ⟨n.val / 128, by omega⟩ ⟨n.val % 128, by omega⟩) := by
  unfold val_main_v104 val_main_v103
  generalize val_main_v102 (F := Ideal) x y = E
  pointwise

/-- The gate. -/
theorem ref_102 (b : Fin 4) (t : Fin 4096) (h : Fin 8) (l : Fin 128) :
    val_main_v102 (F := Ideal) x y (ix4 b t h l) = val_main_v100 (F := Ideal) x (ix4 b t h 0) * val_main_v91 (F := Ideal) x y (ix4 b t h l) := by
  unfold val_main_v102 val_main_v101
  generalize val_main_v100 (F := Ideal) x = E
  generalize val_main_v91 (F := Ideal) x y = D
  pointwise

/-- The reference's result. -/
theorem ref_out (b : Fin 4) (t : Fin 4096) (n : Fin 1024) :
    val_main_v104 (F := Ideal) x y (ix3 b t n) = out x (val_main_v16 (F := Ideal) y) (val_main_v18 (F := Ideal) y) b t n := by
  rw [ref_104, ref_102, ref_gate]
  have h : val_main_v91 (F := Ideal) x y (ix4 b t ⟨n.val / 128, by omega⟩ ⟨n.val % 128, by omega⟩)
      = val_main_v89 (F := Ideal) x y (ix5 b ⟨n.val / 128 / 4, by omega⟩ ⟨n.val / 128 % 4, by omega⟩ t ⟨n.val % 128, by omega⟩) := by
    rw [← ref_90]
    unfold val_main_v91
    exact cast_flat _ _ b t _ _
  rw [h, ref_av]
  unfold out att attend
  exact congrArg _ (Finset.sum_congr rfl fun k _ => congrArg₂ (· * ·) (ref_prob x y b _ _ t k) (ref_val x b k _ _))

theorem ref_eq : val_main_v104 (F := Ideal) x y = G x (val_main_v16 (F := Ideal) y) (val_main_v18 (F := Ideal) y) := by
  funext i
  exact (congrArg (val_main_v104 (F := Ideal) x y) (eq_ix3 i)).trans (ref_out x y (i 0) (i 1) (i 2))

/-- The reference's run, its result as `G` of the projections and the tables. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104)
        = G (m ((c.tc : Thread nD τ).loc main_arg0)) (val_main_v16 (F := Ideal) (m ((c.tc : Thread nD τ).loc main_arg1))) (val_main_v18 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v104_eq _ _).trans (ref_eq _ _)), (h c).2⟩) (Value.run m ρ)

end Cert.WinAtt

end
-- ==== Proof.InProj.Host.lean ====
/- The input projection: the two payloads at an index, and the host's rearranged weight. -/
module

public import proofs.«01_k».proof.Proof.Layer.Rms
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.InProj

open Cert.Layer (rms)

section kernel
open Cert.Kernel2Ideal Cert.Kernel2Ideal.Gen

/-- The normalised block. -/
theorem pay1 (x : Vec Ideal S512x2048 .f32) (w : Vec Ideal S1x2048 .f32) (r : Fin 512) (k : Fin 2048) :
    k0_pay1 (F := Ideal) x w (ix2 r k) = rms (fun k => x (ix2 r k)) k * w (ix2 0 k) := by
  pointwise [k0_pay1, rms]

/-- The product of a block with a block of weight columns. -/
theorem pay2 (h : Vec Ideal S512x2048 .bf16) (w : Vec Ideal S2048x768 .bf16) (r : Fin 512) (n : Fin 768) :
    k0_pay2 (F := Ideal) h w (ix2 r n) = ∑ k : Fin 2048, h (ix2 r k) * w (ix2 k n) := by
  pointwise [k0_pay2]

variable (m : (ℓ : Loc nD τ sig) → Buf (Elt Ideal) ℓ) (ρ : Dev nD → PrngReg)

/-- The column of the given weight that the kernel's column `n` comes from; none in the padding. -/
def src (n : Fin 6912) : Option (Fin 6696) :=
  if h : n.val < 1024 then some ⟨n.val, by omega⟩
  else if h : n.val - 1024 < 1536 then some ⟨1024 + (n.val - 1024), by omega⟩
  else if h : n.val - 1024 - 1536 < 3072 then some ⟨2584 + (n.val - 1024 - 1536), by omega⟩
  else if h : n.val - 1024 - 1536 - 3072 < 1024 then some ⟨5672 + (n.val - 1024 - 1536 - 3072), by omega⟩
  else if h : n.val - 1024 - 1536 - 3072 - 1024 < 24 then some ⟨2560 + (n.val - 1024 - 1536 - 3072 - 1024), by omega⟩
  else if h : n.val - 1024 - 1536 - 3072 - 1024 - 24 < 8 then some ⟨5656 + (n.val - 1024 - 1536 - 3072 - 1024 - 24), by omega⟩
  else if h : n.val - 1024 - 1536 - 3072 - 1024 - 24 - 8 < 8 then some ⟨5664 + (n.val - 1024 - 1536 - 3072 - 1024 - 24 - 8), by omega⟩
  else none

/-- A weight column of the rearranged weight: the column of the given weight it comes from, or zero in the padding. -/
def col (w : (⟨3, ![1, 2048, 6696]⟩ : Shape).Idx → EReal) (n : Fin 6912) (k : Fin 2048) : EReal :=
  (src n).elim 0 fun s => w (ix3 0 k s)

/-- The reshape that drops the weight's leading unit axis. -/
theorem cast_w (W : S1x2048x6696.Idx → EReal) (h : S1x2048x6696.ShapeCasts S2048x6696) (k : Fin 2048) (n : Fin 6696) :
    shapeCast S2048x6696 W h (ix2 k n) = W (ix3 0 k n) := by
  refine shapeCast_apply _ _ _ _ ?_
  rw [Shape.rowMajor_val_three, Shape.rowMajor_val_two]
  show (0 * 2048 + k.val) * 6696 + n.val = k.val * 6696 + n.val
  omega

/-- The host's rearranged weight, in the order of the kernel's columns. -/
theorem V_w (c : Dev nD) : V m c main_v12 = (truncf .bf16 (concatenate S2048x6912 1
      [⟨S2048x1024, extractStridedSlice S2048x1024 ![0, 0] (shapeCast S2048x6696 (m ((c : Thread nD τ).loc main_arg2)) shapeCasts_S1x2048x6696_S2048x6696) slices_S2048x6696_S2048x1024_0_0⟩,
       ⟨S2048x1536, extractStridedSlice S2048x1536 ![0, 1024] (shapeCast S2048x6696 (m ((c : Thread nD τ).loc main_arg2)) shapeCasts_S1x2048x6696_S2048x6696) slices_S2048x6696_S2048x1536_0_1024⟩,
       ⟨S2048x3072, extractStridedSlice S2048x3072 ![0, 2584] (shapeCast S2048x6696 (m ((c : Thread nD τ).loc main_arg2)) shapeCasts_S1x2048x6696_S2048x6696) slices_S2048x6696_S2048x3072_0_2584⟩,
       ⟨S2048x1024, extractStridedSlice S2048x1024 ![0, 5672] (shapeCast S2048x6696 (m ((c : Thread nD τ).loc main_arg2)) shapeCasts_S1x2048x6696_S2048x6696) slices_S2048x6696_S2048x1024_0_5672⟩,
       ⟨S2048x24, extractStridedSlice S2048x24 ![0, 2560] (shapeCast S2048x6696 (m ((c : Thread nD τ).loc main_arg2)) shapeCasts_S1x2048x6696_S2048x6696) slices_S2048x6696_S2048x24_0_2560⟩,
       ⟨S2048x8, extractStridedSlice S2048x8 ![0, 5656] (shapeCast S2048x6696 (m ((c : Thread nD τ).loc main_arg2)) shapeCasts_S1x2048x6696_S2048x6696) slices_S2048x6696_S2048x8_0_5656⟩,
       ⟨S2048x8, extractStridedSlice S2048x8 ![0, 5664] (shapeCast S2048x6696 (m ((c : Thread nD τ).loc main_arg2)) shapeCasts_S1x2048x6696_S2048x6696) slices_S2048x6696_S2048x8_0_5664⟩,
       ⟨S2048x216, broadcastInDim S2048x216 ![] bcast_S_S2048x216 (constant (F := Ideal) S_ .f32 0x00000000#32)⟩]
      concatenates_S2048x1024_S2048x1536_S2048x3072_S2048x1024_S2048x24_S2048x8_S2048x8_S2048x216_S2048x6912_d1 : FVec Ideal S2048x6912 .f32) bitsLt_bf16_f32 : FVec Ideal S2048x6912 .bf16) := by
  unfold V; after_results <;> rfl

theorem V_w_apply (c : Dev nD) (k : Fin 2048) (n : Fin 6912) :
    V m c main_v12 (ix2 k n) = col (m ((c : Thread nD τ).loc main_arg2)) n k := by
  rw [V_w]
  unfold col
  have e := cast_w (m ((c : Thread nD τ).loc main_arg2)) shapeCasts_S1x2048x6696_S2048x6696 k
  revert e
  generalize shapeCast S2048x6696 (m ((c : Thread nD τ).loc main_arg2)) shapeCasts_S1x2048x6696_S2048x6696 = Y
  generalize (m ((c : Thread nD τ).loc main_arg2)) = W
  intro e
  pointwise [src]
  split_ifs <;> first | rfl | exact e _

/-- The reshape that joins the batch and the position. -/
theorem cast_x (X : S4x4096x2048.Idx → EReal) (h : S4x4096x2048.ShapeCasts S16384x2048) (r : Fin 16384) (k : Fin 2048) :
    shapeCast S16384x2048 X h (ix2 r k) = X (ix3 ⟨r.val / 4096, by omega⟩ ⟨r.val % 4096, by omega⟩ k) := by
  refine shapeCast_apply _ _ _ _ ?_
  rw [Shape.rowMajor_val_three, Shape.rowMajor_val_two]
  show (r.val / 4096 * 4096 + r.val % 4096) * 2048 + k.val = r.val * 2048 + k.val
  omega

theorem V_x (c : Dev nD) (r : Fin 16384) (k : Fin 2048) :
    V m c main_v0 (ix2 r k) = m ((c : Thread nD τ).loc main_arg0) (ix3 ⟨r.val / 4096, by omega⟩ ⟨r.val % 4096, by omega⟩ k) := by
  have : V m c main_v0 = shapeCast S16384x2048 (m ((c : Thread nD τ).loc main_arg0)) shapeCasts_S4x4096x2048_S16384x2048 := by
    unfold V; after_results <;> rfl
  rw [this]
  exact cast_x _ _ r k

theorem V_n (c : Dev nD) (k : Fin 2048) : V m c main_v13 (ix2 0 k) = m ((c : Thread nD τ).loc main_arg1) (ix2 0 k) := by
  have : V m c main_v13 = shapeCast S1x2048 (shapeCast S2048 (m ((c : Thread nD τ).loc main_arg1)) shapeCasts_S1x2048_S2048) shapeCasts_S2048_S1x2048 := by
    unfold V; after_results <;> rfl
  rw [this]
  pointwise
end kernel

section reference
open Cert.Reference2Ideal Cert.Reference2Ideal.Read

theorem ref_rms (x : S4x4096x2048.Idx → EReal) (w : S1x2048.Idx → EReal) (b : Fin 4) (t : Fin 4096) (k : Fin 2048) :
    val_main_v13 (F := Ideal) x w (ix3 b t k) = rms (fun k => x (ix3 b t k)) k * w (ix2 0 k) := by
  have e0 : ∀ k : Fin 2048, val_main_v0 (F := Ideal) w (ix1 k) = w (ix2 0 k) := fun k => by
    unfold val_main_v0; pointwise
  unfold val_main_v13 val_main_v12 val_main_v11 val_main_v10 val_main_v9 val_main_v8 val_main_v7 val_main_v6 val_main_v5 val_main_v4 val_main_v3 val_main_v2 val_main_v1 val_main_cst val_main_cst_0 val_main_cst_1
  revert e0
  generalize val_main_v0 (F := Ideal) w = w0
  intro e0
  pointwise [rms]
  rw [e0]

/-- The projection at a column of the given weight. -/
theorem ref_proj (x : S4x4096x2048.Idx → EReal) (w : S1x2048.Idx → EReal) (W : S1x2048x6696.Idx → EReal) (b : Fin 4) (t : Fin 4096) (n : Fin 6696) :
    val_main_v15 (F := Ideal) x w W (ix3 b t n) = ∑ k : Fin 2048, (rms (fun k => x (ix3 b t k)) k * w (ix2 0 k)) * W (ix3 0 k n) := by
  unfold val_main_v15
  pointwise
  refine Finset.sum_congr rfl fun k _ => congrArg₂ (· * ·) (ref_rms x w b t k) ?_
  unfold val_main_v14
  refine shapeCast_apply _ _ _ _ ?_
  rw [Shape.rowMajor_val_three, Shape.rowMajor_val_two]
  show (0 * 2048 + k.val) * 6696 + n.val = k.val * 6696 + n.val
  omega

/-- The reference's result at an index. -/
theorem ref_at (x : S4x4096x2048.Idx → EReal) (w : S1x2048.Idx → EReal) (W : S1x2048x6696.Idx → EReal) (r : Fin 16384) (n : Fin 6912) :
    val_main_v25 (F := Ideal) x w W (ix2 r n) = ∑ k : Fin 2048, (rms (fun k => x (ix3 ⟨r.val / 4096, by omega⟩ ⟨r.val % 4096, by omega⟩ k)) k * w (ix2 0 k)) * col W n k := by
  have e := ref_proj x w W ⟨r.val / 4096, by omega⟩ ⟨r.val % 4096, by omega⟩
  have e1 : val_main_v25 (F := Ideal) x w W (ix2 r n) = (src n).elim 0 fun s => val_main_v15 (F := Ideal) x w W (ix3 ⟨r.val / 4096, by omega⟩ ⟨r.val % 4096, by omega⟩ s) := by
    unfold val_main_v25 val_main_v24 val_main_v16 val_main_v17 val_main_v18 val_main_v19 val_main_v20 val_main_v21 val_main_v22 val_main_v23 val_main_cst_2
    generalize val_main_v15 (F := Ideal) x w W = Y
    pointwise [src]
    split_ifs <;> rfl
  rw [e1]
  unfold col
  cases src n with
  | none => simp only [Option.elim_none, mul_zero, Finset.sum_const_zero]
  | some s => exact e s
end reference

end Cert.InProj

end
-- ==== Proof.InProj.Value.lean ====
/- The input projection's kernel against its reference: at row `r` and column `n` both leave the normalised row times
   the weight column that column `n` comes from. -/
module

public import proofs.«01_k».proof.Proof.InProj.Host

@[expose] public section

set_option maxRecDepth 16384

noncomputable section

open Idealize.ShloMosaic Idealize.ShloMosaic.TcCoe Idealize.ShloMosaic.Tactic Idealize.SL.Sem
open Idealize.ShloMosaic.Pipeline (Dat)

namespace Cert.InProj

open Cert.Layer (rms)

/-- The normalised row `r`, times the norm's weight. -/
def hrow (x : (⟨3, ![4, 4096, 2048]⟩ : Shape).Idx → EReal) (w : (⟨2, ![1, 2048]⟩ : Shape).Idx → EReal) (r : Fin 16384) (k : Fin 2048) : EReal :=
  rms (fun k => x (ix3 ⟨r.val / 4096, by omega⟩ ⟨r.val % 4096, by omega⟩ k)) k * w (ix2 0 k)

/-- The result both programs leave. -/
def G (x : (⟨3, ![4, 4096, 2048]⟩ : Shape).Idx → EReal) (w : (⟨2, ![1, 2048]⟩ : Shape).Idx → EReal) (W : (⟨3, ![1, 2048, 6696]⟩ : Shape).Idx → EReal) :
    (⟨2, ![16384, 6912]⟩ : Shape).Idx → EReal := fun i => ∑ k : Fin 2048, hrow x w (i 0) k * col W (i 1) k

section kernel
open Cert.Kernel2Ideal Cert.Kernel2Ideal.Gen

section pieces
variable {F : FTy → Type} [FloatOps F]

theorem z2 : (![0, 0] : Fin 2 → Nat) = fun _ => 0 := funext fun a => by fin_cases a <;> rfl

theorem pay1_congr {a x : Vec F S512x2048 .f32} {b w : Vec F S1x2048 .f32} (h : a = x) (h' : b = w) : k0_pay1 a b = k0_pay1 x w := by subst h h'; rfl
theorem pay2_congr {a x : Vec F S512x2048 .bf16} {b w : Vec F S2048x768 .bf16} (h : a = x) (h' : b = w) : k0_pay2 a b = k0_pay2 x w := by subst h h'; rfl

/-- A whole store into the scratch, read back. -/
theorem read_scr (v : View sig .tc .vmem S512x2048 .bf16) (f : v.ty.Contents (Elt F)) (w : Vec F S512x2048 .bf16) :
    v.read (Elt F) (v.writes (Elt F) f [⟨Rect.unit (s := S512x2048) ![0, 0] S512x2048.size inb_S512x2048_S512x2048_0_0, w⟩]) = w := by
  rw [View.read_writes_eq_canon v f _ (View.cover_of_tiledL _ S512x2048.size (by sl_kernel_rfl)), View.canon_unit_zero z2]

/-- A whole store into the output block, read back. -/
theorem read_out (v : View sig .tc .vmem S512x768 .f32) (f : v.ty.Contents (Elt F)) (w : Vec F S512x768 .f32) :
    v.read (Elt F) (v.writes (Elt F) f [⟨Rect.unit (s := S512x768) ![0, 0] S512x768.size inb_S512x768_S512x768_0_0, w⟩]) = w := by
  rw [View.read_writes_eq_canon v f _ (View.cover_of_tiledL _ S512x768.size (by sl_kernel_rfl)), View.canon_unit_zero z2]

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x768 .bf16) (harg4 : arg4.IsWhole) (arg5 : Memref sig .tc .vmem S512x768 .f32) (harg5 : arg5.IsWhole) (arg6 : Memref sig .tc .vmem S512x2048 .bf16) (harg6 : arg6.IsWhole)
    (x0 : Vec F S512x2048 .f32) (x1 : Vec F S1x2048 .f32) (x2 : Vec F S2048x768 .bf16)

/-- What the scratch holds where the row block is new: the normalised block. -/
theorem soutA (hc : cond0_0 i) : sout0_A_0 c i arg2 harg2 arg3 harg3 arg4 harg4 arg5 harg5 arg6 harg6 hc x0 x1 x2 = k0_pay1 x0 x1 := by
  have e : (kernelRun0_A c i arg2 harg2 arg3 harg3 arg4 harg4 arg5 harg5 arg6 harg6 hc x0 x1 x2).2.1
      = [⟨Rect.unit (s := S512x2048) ![0, 0] S512x2048.size inb_S512x2048_S512x2048_0_0, k0_pay1 x0 x1⟩] := by
    unfold kernelRun0_A; dsimp only
    sl_unfold_words
    simp only [View.readAt_eq_ld, harg2.read_unread, harg3.read_unread]
    exact congrArg (fun z => [(⟨Rect.unit (s := S512x2048) ![0, 0] S512x2048.size inb_S512x2048_S512x2048_0_0, z⟩ : View.Piece (Elt F) S512x2048 .bf16)])
      (pay1_congr (View.ld_unit_zero z2 _ x0) (View.ld_unit_zero z2 _ x1))
  unfold sout0_A_0
  rw [e]
  exact read_scr _ _ _

/-- What the output block holds there: that block times the block of weight columns. -/
theorem outA (hc : cond0_0 i) : out0_A_3 c i arg2 harg2 arg3 harg3 arg4 harg4 arg5 harg5 arg6 harg6 hc x0 x1 x2 = k0_pay2 (k0_pay1 x0 x1) x2 := by
  have e : (kernelRun0_A c i arg2 harg2 arg3 harg3 arg4 harg4 arg5 harg5 arg6 harg6 hc x0 x1 x2).1
      = [⟨Rect.unit (s := S512x768) ![0, 0] S512x768.size inb_S512x768_S512x768_0_0, k0_pay2 (k0_pay1 x0 x1) x2⟩] := by
    unfold kernelRun0_A; dsimp only
    sl_unfold_words
    simp only [View.readAt_eq_ld, harg2.read_unread, harg3.read_unread, harg4.read_unread]
    exact congrArg (fun z => [(⟨Rect.unit (s := S512x768) ![0, 0] S512x768.size inb_S512x768_S512x768_0_0, z⟩ : View.Piece (Elt F) S512x768 .f32)])
      (pay2_congr ((View.ld_unit_zero z2 _ _).trans ((read_scr _ _ _).trans (pay1_congr (View.ld_unit_zero z2 _ x0) (View.ld_unit_zero z2 _ x1)))) (View.ld_unit_zero z2 _ x2))
  unfold out0_A_3
  rw [e]
  exact read_out _ _ _

/-- What the output block holds elsewhere: the scratch's block times the block of weight columns. -/
theorem outB (hc : ¬cond0_0 i) (s : Vec F S512x2048 .bf16) : out0_B_3 c i arg2 harg2 arg3 harg3 arg4 harg4 arg5 harg5 arg6 harg6 hc x0 x1 x2 s = k0_pay2 s x2 := by
  have e : (kernelRun0_B c i arg2 harg2 arg3 harg3 arg4 harg4 arg5 harg5 arg6 harg6 hc x0 x1 x2 s).1
      = [⟨Rect.unit (s := S512x768) ![0, 0] S512x768.size inb_S512x768_S512x768_0_0, k0_pay2 s x2⟩] := by
    unfold kernelRun0_B; dsimp only
    sl_unfold_words
    simp only [View.readAt_eq_ld, harg4.read_unread, harg6.read_unread]
    exact congrArg (fun z => [(⟨Rect.unit (s := S512x768) ![0, 0] S512x768.size inb_S512x768_S512x768_0_0, z⟩ : View.Piece (Elt F) S512x768 .f32)])
      (pay2_congr (View.ld_unit_zero z2 _ s) (View.ld_unit_zero z2 _ x2))
  unfold out0_B_3
  rw [e]
  exact read_out _ _ _
end pieces

variable (m : (ℓ : Loc nD τ sig) → Buf (Elt Ideal) ℓ) (ρ : Dev nD → PrngReg)

theorem idx_cf : ∀ t : Fin cfg0.N, (win0_0.index t 0 = t.val / 9 ∧ win0_0.index t 1 = 0 ∧ win0_1.index t 0 = 0 ∧ win0_1.index t 1 = 0)
    ∧ (win0_2.index t 0 = 0 ∧ win0_2.index t 1 = t.val % 9 ∧ win0_3.index t 0 = t.val / 9 ∧ win0_3.index t 1 = t.val % 9) :=
  (by decide +kernel : ∀ t : Fin grid0.N, (win0_0.index t 0 = t.val / 9 ∧ win0_0.index t 1 = 0 ∧ win0_1.index t 0 = 0 ∧ win0_1.index t 1 = 0)
    ∧ (win0_2.index t 0 = 0 ∧ win0_2.index t 1 = t.val % 9 ∧ win0_3.index t 0 = t.val / 9 ∧ win0_3.index t 1 = t.val % 9))

theorem lt288 (t : Fin cfg0.N) : t.val < 288 := Nat.lt_of_lt_of_eq t.isLt N_0

/-- Row `r` of the row block at point `t`, column `n` of the column block. -/
abbrev row (t : Fin cfg0.N) (r : Fin 512) : Fin 16384 := ⟨512 * (t.val / 9) + r.val, by have := lt288 t; omega⟩
abbrev cln (t : Fin cfg0.N) (n : Fin 768) : Fin 6912 := ⟨768 * (t.val % 9) + n.val, by omega⟩

theorem blk0 (c : Dev nD) (t : Fin cfg0.N) (r : Fin 512) (k : Fin 2048) :
    (iblk m c 0 t : Vec Ideal S512x2048 .f32) (ix2 r k)
      = m ((c : Thread nD τ).loc main_arg0) (ix3 ⟨(row t r).val / 4096, by omega⟩ ⟨(row t r).val % 4096, by omega⟩ k) := by
  have e := idx_cf t
  rw [← V_x m c (row t r) k]
  show V m c main_v0 _ = _
  refine congrArg _ (funext fun a => Fin.ext ?_)
  match a with
  | ⟨0, _⟩ => show win0_0.index t 0 * 512 + 1 * r.val = 512 * (t.val / 9) + r.val; rw [e.1.1]; omega
  | ⟨1, _⟩ => show win0_0.index t 1 * 2048 + 1 * k.val = k.val; rw [e.1.2.1]; omega

theorem blk1 (c : Dev nD) (t : Fin cfg0.N) (k : Fin 2048) :
    (iblk m c 1 t : Vec Ideal S1x2048 .f32) (ix2 0 k) = m ((c : Thread nD τ).loc main_arg1) (ix2 0 k) := by
  have e := idx_cf t
  rw [← V_n m c k]
  show V m c main_v13 _ = _
  refine congrArg _ (funext fun a => Fin.ext ?_)
  match a with
  | ⟨0, _⟩ => show win0_1.index t 0 * 1 + 1 * 0 = 0; rw [e.1.2.2.1]
  | ⟨1, _⟩ => show win0_1.index t 1 * 2048 + 1 * k.val = k.val; rw [e.1.2.2.2]; omega

theorem blk2 (c : Dev nD) (t : Fin cfg0.N) (k : Fin 2048) (n : Fin 768) :
    (iblk m c 2 t : Vec Ideal S2048x768 .bf16) (ix2 k n) = col (m ((c : Thread nD τ).loc main_arg2)) (cln t n) k := by
  have e := idx_cf t
  rw [← V_w_apply m c k (cln t n)]
  show V m c main_v12 _ = _
  refine congrArg _ (funext fun a => Fin.ext ?_)
  match a with
  | ⟨0, _⟩ => show win0_2.index t 0 * 2048 + 1 * k.val = k.val; rw [e.2.1]; omega
  | ⟨1, _⟩ => show win0_2.index t 1 * 768 + 1 * n.val = 768 * (t.val % 9) + n.val; rw [e.2.2.1]; omega

/-- The normalised row block of point `t`. -/
abbrev hblk (c : Dev nD) (t : Fin cfg0.N) (r : Fin 512) (k : Fin 2048) : EReal :=
  hrow (m ((c : Thread nD τ).loc main_arg0)) (m ((c : Thread nD τ).loc main_arg1)) (row t r) k

theorem scr_A (c : Dev nD) (t : Fin cfg0.N) (r : Fin 512) (k : Fin 2048) :
    k0_pay1 (F := Ideal) (iblk m c 0 t) (iblk m c 1 t) (ix2 r k) = hblk m c t r k := by
  refine (pay1 _ _ r k).trans ?_
  rw [blk1 m c t k]
  unfold hblk hrow
  exact congrArg (fun f : Fin 2048 → EReal => rms f k * _) (funext fun k => blk0 m c t r k)

/-- What the scratch holds after each point: the normalised row block. -/
theorem scr_eq (c : Dev nD) : ∀ (n : ℕ) (hn : n < cfg0.N) (r : Fin 512) (k : Fin 2048),
    (outsAt0 m c n hn).2 (ix2 r k) = hblk m c ⟨n, hn⟩ r k := by
  intro n
  induction n with
  | zero =>
    intro hn r k
    rw [outsAt0_A m c ⟨0, hn⟩ (Nat.zero_mod _)]
    dsimp only
    rw [soutA]
    exact scr_A m c ⟨0, hn⟩ r k
  | succ n ih =>
    intro hn r k
    by_cases h0 : (n + 1) % 9 = 0
    · rw [outsAt0_A m c ⟨n + 1, hn⟩ h0]
      dsimp only
      rw [soutA]
      exact scr_A m c ⟨n + 1, hn⟩ r k
    · rw [outsAt0_B m c ⟨n + 1, hn⟩ h0]
      dsimp only
      refine (ih (Nat.lt_of_succ_lt hn) r k).trans ?_
      have e : row ⟨n, Nat.lt_of_succ_lt hn⟩ r = row ⟨n + 1, hn⟩ r := Fin.ext (by
        show 512 * (n / 9) + r.val = 512 * ((n + 1) / 9) + r.val; omega)
      show hrow _ _ (row ⟨n, Nat.lt_of_succ_lt hn⟩ r) k = hrow _ _ (row ⟨n + 1, hn⟩ r) k
      rw [e]

/-- The result array the kernel leaves. -/
abbrev res (c : Dev nD) : Buf (Elt Ideal) ((c : Thread nD τ).loc main_v14) :=
  G (m ((c : Thread nD τ).loc main_arg0)) (m ((c : Thread nD τ).loc main_arg1)) (m ((c : Thread nD τ).loc main_arg2))

/-- What the output block holds after point `t`. -/
theorem out_eq (c : Dev nD) (t : Fin cfg0.N) (r : Fin 512) (n : Fin 768) :
    (outsAt0 m c t.val t.isLt).1 (ix2 r n) = ∑ k : Fin 2048, hblk m c t r k * col (m ((c : Thread nD τ).loc main_arg2)) (cln t n) k := by
  by_cases h0 : t.val % 9 = 0
  · rw [outsAt0_A m c t h0]
    dsimp only
    rw [outA]
    refine (pay2 _ _ r n).trans (Finset.sum_congr rfl fun k _ => ?_)
    exact congrArg₂ (· * ·) (scr_A m c t r k) (blk2 m c t k n)
  · rw [outsAt0_B m c t h0]
    dsimp only
    rw [outB]
    refine (pay2 _ _ r n).trans (Finset.sum_congr rfl fun k _ => ?_)
    refine congrArg₂ (· * ·) ((scr_eq m c (t.val - 1) _ r k).trans ?_) (blk2 m c t k n)
    have e : ∀ h, row ⟨t.val - 1, h⟩ r = row t r := fun h => Fin.ext (by
      show 512 * ((t.val - 1) / 9) + r.val = 512 * (t.val / 9) + r.val; omega)
    show hrow _ _ (row ⟨t.val - 1, _⟩ r) k = hrow _ _ (row t r) k
    rw [e]

theorem flushed_eq (c : Dev nD) (t : Fin cfg0.N) :
    (dats m 0 c).flushed 3 t = (win0_3.blk t).view.read (Elt Ideal) (res m c) := by
  rw [Value.flushed3]
  have e := idx_cf t
  funext y
  have e0 : (((cfg0.win 3).blk t).view.emb y) 0 = row t (y 0) := Fin.ext (by
    show win0_3.index t 0 * 512 + 1 * (y 0).val = 512 * (t.val / 9) + (y 0).val; rw [e.2.2.2.1]; omega)
  have e1 : (((cfg0.win 3).blk t).view.emb y) 1 = cln t (y 1) := Fin.ext (by
    show win0_3.index t 1 * 768 + 1 * (y 1).val = 768 * (t.val % 9) + (y 1).val; rw [e.2.2.2.2]; omega)
  have ey : y = ix2 (y 0) (y 1) := eq_ix2 y
  show (outsAt0 m c t.val t.isLt).1 y = ∑ k : Fin 2048, hrow _ _ ((((cfg0.win 3).blk t).view.emb y) 0) k * col _ ((((cfg0.win 3).blk t).view.emb y) 1) k
  rw [e0, e1]
  exact (congrArg (outsAt0 m c t.val t.isLt).1 ey).trans (out_eq m c t (y 0) (y 1))

theorem final (c : Dev nD) : (dats m 0 c).arrAt 3 cfg0.N = res m c :=
  (dats m 0 c).arrAt_eq_of_cover 3 (res m c) (fun t _ => flushed_eq m c t) fun i =>
    (Value.covered_iff3 i).mpr ⟨Nat.zero_le _, (i 0).isLt, Nat.zero_le _, (i 1).isLt⟩

/-- The kernel's run: its result is `G` of the arguments, which end unchanged. -/
theorem run : θ_run defs (onTc (τ := τ) (main (F := Ideal))) ⟨m, fun _ => 0, ρ⟩ fun r => ∀ c : Dev nD,
      r.2.mem ((c : Thread nD τ).loc main_v14) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)
end kernel

section reference
open Cert.Reference2Ideal Cert.Reference2Ideal.Read

theorem ref_eq (x : S4x4096x2048.Idx → EReal) (w : S1x2048.Idx → EReal) (W : S1x2048x6696.Idx → EReal) :
    val_main_v25 (F := Ideal) x w W = G x w W := by
  funext i
  exact (congrArg (val_main_v25 (F := Ideal) x w W) (eq_ix2 i)).trans (ref_at x w W (i 0) (i 1))

/-- The reference's run, its result as `G`. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v25_eq m c).trans (ref_eq _ _ _)), (h c).2⟩) (Value.run m ρ)
end reference

end Cert.InProj

end
-- ==== Proof.Comb.Value.lean ====
/- The combine kernel against its reference: both leave, at row `r` and column `k`, the row norm of the residual plus
   the two halves of the experts' output, times the final norm's weight. -/
module

public import proofs.«01_k».proof.Proof.Layer.Rms
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Value
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Comb

open Cert.Kernel3Ideal (S16384x2048 S32768x2048 S2048 S1x2048)
open Cert.Layer (rms)

/-- The index (row, column) of each array. -/
abbrev ixH (r : Fin 16384) (k : Fin 2048) : S16384x2048.Idx := fun a => match a with | ⟨0, _⟩ => r | ⟨1, _⟩ => k
abbrev ixY (r : Fin 32768) (k : Fin 2048) : S32768x2048.Idx := fun a => match a with | ⟨0, _⟩ => r | ⟨1, _⟩ => k
abbrev ixW (k : Fin 2048) : S2048.Idx := fun a => match a with | ⟨0, _⟩ => k

/-- Row `r` of the sum: the residual plus the two halves of the experts' output. -/
def srow (h : S16384x2048.Idx → EReal) (y : S32768x2048.Idx → EReal) (r : Fin 16384) (k : Fin 2048) : EReal :=
  h (ixH r k) + (y (ixY ⟨r.val, by omega⟩ k) + y (ixY ⟨r.val + 16384, by omega⟩ k))

/-- The result both programs leave. -/
def G (h : S16384x2048.Idx → EReal) (y : S32768x2048.Idx → EReal) (w : S2048.Idx → EReal) : S16384x2048.Idx → EReal := fun i =>
  rms (srow h y (i 0)) (i 1) * w (ixW (i 1))

section reference
open Cert.Reference3Ideal.Read

variable (x0 : S16384x2048.Idx → EReal) (x1 : S32768x2048.Idx → EReal) (x2 : S2048.Idx → EReal)

theorem ref_sum (i : S16384x2048.Idx) : val_main_v2 (F := Ideal) x0 x1 i = srow x0 x1 (i 0) (i 1) := by
  have h0 : (i 0).val < 16384 := (i 0).isLt
  have h1 : (i 1).val < 2048 := (i 1).isLt
  rw [val_main_v2_apply, val_main_v1_apply, Fin.sum_univ_two, val_main_v0_apply, val_main_v0_apply, val_main_cst_apply]
  simp only [Ideal.addf_def, Ideal.ofBits_def, Ideal.ofBits_zero_f32, zero_add]
  unfold srow
  congr 1
  · refine congrArg x0 (funext fun a => ?_)
    match a with | ⟨0, _⟩ => rfl | ⟨1, _⟩ => rfl
  · congr 1
    · refine congrArg x1 (funext fun a => Fin.ext ?_)
      match a with
      | ⟨0, _⟩ => show ((0 * 16384 + (i 0).val) * 2048 + (i 1).val) / 2048 = (i 0).val; omega
      | ⟨1, _⟩ => show ((0 * 16384 + (i 0).val) * 2048 + (i 1).val) % 2048 = (i 1).val; omega
    · refine congrArg x1 (funext fun a => Fin.ext ?_)
      match a with
      | ⟨0, _⟩ => show ((1 * 16384 + (i 0).val) * 2048 + (i 1).val) / 2048 = (i 0).val + 16384; omega
      | ⟨1, _⟩ => show ((1 * 16384 + (i 0).val) * 2048 + (i 1).val) % 2048 = (i 1).val; omega

/-- The reference's result is `G`. -/
theorem ref_eq : val_main_v15 (F := Ideal) x0 x1 x2 = G x0 x1 x2 := by
  funext i
  rw [val_main_v15_apply, val_main_v12_apply, val_main_v11_apply, val_main_v10_apply, val_main_v9_apply, val_main_v7_apply,
    val_main_v5_apply, val_main_v4_apply, val_main_v6_apply, val_main_v8_apply, val_main_v14_apply, val_main_v13_apply,
    val_main_cst_1_apply, val_main_cst_2_apply, val_main_cst_0_apply, ref_sum]
  simp only [val_main_v3_apply, ref_sum, Ideal.mulf_def, Ideal.addf_def, Ideal.ofBits_def, Ideal.hostDivf_def, Ideal.hostUnary_rsqrt_def, Ideal.ofBits_zero_f32, zero_add]
  unfold G rms
  refine congrArg₂ (· * ·) rfl (congrArg x2 (funext fun a => ?_))
  match a with | ⟨0, _⟩ => rfl
end reference

section kernel
open Cert.Kernel3Ideal Cert.Kernel3Ideal.Gen

variable (m : (ℓ : Loc nD τ sig) → Buf (Elt Ideal) ℓ) (ρ : Dev nD → PrngReg)

theorem idx_cf : ∀ t : Fin cfg0.N, (win0_0.index t 0 = t.val ∧ win0_0.index t 1 = 0 ∧ win0_1.index t 0 = t.val ∧ win0_1.index t 1 = 0)
    ∧ (win0_2.index t 0 = t.val + 64 ∧ win0_2.index t 1 = 0 ∧ win0_3.index t 0 = 0 ∧ win0_3.index t 1 = 0)
    ∧ win0_4.index t 0 = t.val ∧ win0_4.index t 1 = 0 :=
  (by decide +kernel : ∀ t : Fin grid0.N, (win0_0.index t 0 = t.val ∧ win0_0.index t 1 = 0 ∧ win0_1.index t 0 = t.val ∧ win0_1.index t 1 = 0)
    ∧ (win0_2.index t 0 = t.val + 64 ∧ win0_2.index t 1 = 0 ∧ win0_3.index t 0 = 0 ∧ win0_3.index t 1 = 0)
    ∧ win0_4.index t 0 = t.val ∧ win0_4.index t 1 = 0)

theorem lt64 (t : Fin cfg0.N) : t.val < 64 := Nat.lt_of_lt_of_eq t.isLt N_0

/-- The rows of a block at point `t`. -/
abbrev row (t : Fin cfg0.N) (r : Fin 256) : Fin 16384 := ⟨256 * t.val + r.val, by have := lt64 t; omega⟩

theorem blk0 (c : Dev nD) (t : Fin cfg0.N) (y : S256x2048.Idx) :
    (iblk m c 0 t : Vec Ideal S256x2048 .f32) y = m ((c : Thread nD τ).loc main_arg0) (ixH (row t (y 0)) (y 1)) := by
  have e := idx_cf t
  show V m c main_arg0 _ = _
  rw [V_main_arg0]
  refine congrArg _ (funext fun a => Fin.ext ?_)
  match a with
  | ⟨0, _⟩ => show win0_0.index t 0 * 256 + 1 * (y 0).val = 256 * t.val + (y 0).val; rw [e.1.1]; omega
  | ⟨1, _⟩ => show win0_0.index t 1 * 2048 + 1 * (y 1).val = (y 1).val; rw [e.1.2.1]; omega

theorem blk1 (c : Dev nD) (t : Fin cfg0.N) (y : S256x2048.Idx) :
    (iblk m c 1 t : Vec Ideal S256x2048 .f32) y = m ((c : Thread nD τ).loc main_arg1) (ixY ⟨(row t (y 0)).val, by omega⟩ (y 1)) := by
  have e := idx_cf t
  show V m c main_arg1 _ = _
  rw [V_main_arg1]
  refine congrArg _ (funext fun a => Fin.ext ?_)
  match a with
  | ⟨0, _⟩ => show win0_1.index t 0 * 256 + 1 * (y 0).val = 256 * t.val + (y 0).val; rw [e.1.2.2.1]; omega
  | ⟨1, _⟩ => show win0_1.index t 1 * 2048 + 1 * (y 1).val = (y 1).val; rw [e.1.2.2.2]; omega

theorem blk2 (c : Dev nD) (t : Fin cfg0.N) (y : S256x2048.Idx) :
    (iblk m c 2 t : Vec Ideal S256x2048 .f32) y = m ((c : Thread nD τ).loc main_arg1) (ixY ⟨(row t (y 0)).val + 16384, by omega⟩ (y 1)) := by
  have e := idx_cf t
  show V m c main_arg1 _ = _
  rw [V_main_arg1]
  refine congrArg _ (funext fun a => Fin.ext ?_)
  match a with
  | ⟨0, _⟩ => show win0_2.index t 0 * 256 + 1 * (y 0).val = 256 * t.val + (y 0).val + 16384; rw [e.2.1.1]; omega
  | ⟨1, _⟩ => show win0_2.index t 1 * 2048 + 1 * (y 1).val = (y 1).val; rw [e.2.1.2.1]; omega

/-- The weight, reshaped to one row on the host, as its window finds it. -/
theorem V_v0 (c : Dev nD) (k : S1x2048.Idx) : V m c main_v0 k = m ((c : Thread nD τ).loc main_arg2) (ixW (k 1)) := by
  have : V m c main_v0 = shapeCast S1x2048 (m ((c : Thread nD τ).loc main_arg2)) shapeCasts_S2048_S1x2048 := by
    unfold V; after_results <;> rfl
  rw [this]
  refine (shapeCast_apply _ _ k (ixW (k 1)) ?_)
  rw [Shape.rowMajor_val_one, Shape.rowMajor_val_two]
  have h0 : (k 0).val < 1 := (k 0).isLt
  show (k 1).val = (k 0).val * 2048 + (k 1).val
  omega

theorem blk3 (c : Dev nD) (t : Fin cfg0.N) (y : S1x2048.Idx) :
    (iblk m c 3 t : Vec Ideal S1x2048 .f32) y = m ((c : Thread nD τ).loc main_arg2) (ixW (y 1)) := by
  have e := idx_cf t
  show V m c main_v0 _ = _
  rw [V_v0]
  refine congrArg _ (funext fun a => Fin.ext ?_)
  match a with
  | ⟨0, _⟩ => show win0_3.index t 1 * 2048 + 1 * (y 1).val = (y 1).val; rw [e.2.1.2.2.2]; omega

/-- The result array the kernel leaves. -/
abbrev res (c : Dev nD) : Buf (Elt Ideal) ((c : Thread nD τ).loc main_v1) :=
  G (m ((c : Thread nD τ).loc main_arg0)) (m ((c : Thread nD τ).loc main_arg1)) (m ((c : Thread nD τ).loc main_arg2))

/-- The block function at a block index, as the row norm of the sum's row. -/
theorem E4_eq (P0 P1 P2 : Vec Ideal S256x2048 .f32) (P3 : Vec Ideal S1x2048 .f32) (s : Fin 256 → Fin 2048 → EReal) (w : Fin 2048 → EReal)
    (hs : ∀ y : S256x2048.Idx, P0 y + (P1 y + P2 y) = s (y 0) (y 1)) (hw : ∀ y : S1x2048.Idx, P3 y = w (y 1)) (y : S256x2048.Idx) :
    Value.E4 P0 P1 P2 P3 y = rms (s (y 0)) (y 1) * w (y 1) := by
  unfold Value.E4
  set_option backward.isDefEq.respectTransparency false in
  rw [Ideal.multiReduction_add_single]
  simp only [mulf, addf, Ideal.mulf_def, Ideal.addf_def, Ideal.divf_def, Ideal.rsqrt_def]
  rw [show P3 (Value.ix4_4 y) = w (y 1) from hw _, show P0 (Value.ix4_0 y) + (P1 (Value.ix4_1 y) + P2 (Value.ix4_2 y)) = s (y 0) (y 1) from hs _]
  unfold rms
  refine congrArg (fun z => s (y 0) (y 1) * Ideal.rsqrt (Ideal.div z _ + _) * w (y 1)) (Finset.sum_congr rfl fun k _ => ?_)
  exact congrArg₂ (· * ·) (hs _) (hs _)

theorem flushed_eq (c : Dev nD) (t : Fin cfg0.N) :
    (dats m 0 c).flushed 4 t = (win0_4.blk t).view.read (Elt Ideal) (res m c) := by
  rw [Value.flushed4]
  funext y
  have e := idx_cf t
  show out0_4 (iblk m c 0 t) (iblk m c 1 t) (iblk m c 2 t) (iblk m c 3 t) y = res m c _
  unfold out0_4
  rw [View.ld_unit_zero (funext fun a => by fin_cases a <;> rfl), View.ld_unit_zero (funext fun a => by fin_cases a <;> rfl),
    View.ld_unit_zero (funext fun a => by fin_cases a <;> rfl), View.ld_unit_zero (funext fun a => by fin_cases a <;> rfl)]
  refine (Value.canon4_eq _ _ _ _ y).trans ?_
  rw [E4_eq _ _ _ _ (fun r k => srow (m ((c : Thread nD τ).loc main_arg0)) (m ((c : Thread nD τ).loc main_arg1)) (row t r) k)
    (fun k => m ((c : Thread nD τ).loc main_arg2) (ixW k))
    (fun y => by rw [blk0, blk1, blk2]; rfl) (fun y => blk3 m c t y)]
  unfold res G
  have e0 : (((cfg0.win 4).blk t).view.emb y) 0 = row t (y 0) := Fin.ext (by
    show win0_4.index t 0 * 256 + 1 * (y 0).val = 256 * t.val + (y 0).val; rw [e.2.2.1]; omega)
  have e1 : (((cfg0.win 4).blk t).view.emb y) 1 = y 1 := Fin.ext (by
    show win0_4.index t 1 * 2048 + 1 * (y 1).val = (y 1).val; rw [e.2.2.2]; omega)
  show _ = rms (srow _ _ ((((cfg0.win 4).blk t).view.emb y) 0)) ((((cfg0.win 4).blk t).view.emb y) 1) * _
  rw [e0, e1]

theorem mem_blk (t : Fin cfg0.N) (i : S16384x2048.Idx) :
    i ∈ ((cfg0.win 4).blk t).view.set ↔ t.val * 256 ≤ (i 0 : Nat) ∧ (i 0 : Nat) < t.val * 256 + 256 := by
  have e := idx_cf t
  show i ∈ ((View.whole main_v1).slice (win0_4.rect t)).set ↔ _
  rw [View.set_slice_whole, Rect.mem_set_unit]
  constructor
  · intro H
    have h0 : win0_4.index t 0 * 256 ≤ (i 0 : Nat) ∧ (i 0 : Nat) < win0_4.index t 0 * 256 + 256 := H 0
    rw [e.2.2.1] at h0; exact h0
  · intro H a
    have h1 : (i 1).val < 2048 := (i 1).isLt
    match a with
    | ⟨0, _⟩ =>
      show win0_4.index t 0 * 256 ≤ (i 0).val ∧ (i 0).val < win0_4.index t 0 * 256 + 256
      rw [e.2.2.1]; exact H
    | ⟨1, _⟩ =>
      show win0_4.index t 1 * 2048 ≤ (i 1).val ∧ (i 1).val < win0_4.index t 1 * 2048 + 2048
      exact Cert.Layer.rng_one e.2.2.2 h1

/-- The blocks tile the array. -/
theorem cover (i : S16384x2048.Idx) :
    ∃ t : Fin cfg0.N, (cfg0.win 4).flush t = true ∧ i ∈ ((cfg0.win 4).blk t).view.set := by
  have h0 : (i 0).val < 16384 := (i 0).isLt
  have h1 : (i 1).val < 2048 := (i 1).isLt
  have hN : cfg0.N = 64 := N_0
  obtain ⟨t, ht⟩ : ∃ t : Fin cfg0.N, t.val = (i 0).val / 256 := ⟨⟨(i 0).val / 256, by omega⟩, rfl⟩
  exact ⟨t, flush0_4 t, (mem_blk t i).mpr (by omega)⟩

theorem final (c : Dev nD) : (dats m 0 c).arrAt 4 cfg0.N = res m c :=
  (dats m 0 c).arrAt_eq_of_cover 4 (res m c) (fun t _ => flushed_eq m c t) cover

/-- The kernel's run: its result is `G` of the arguments, which end unchanged. -/
theorem run : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)
end kernel

/-- The reference's run, its result as `G`. -/
theorem run_ref (m : (ℓ : Loc Cert.Reference3Ideal.nD Cert.Reference3Ideal.τ Cert.Reference3Ideal.sig) → Buf (Elt Ideal) ℓ) (ρ : Dev Cert.Reference3Ideal.nD → PrngReg) :
    θ_run Cert.Reference3Ideal.defs (onTc (τ := Cert.Reference3Ideal.τ) (Cert.Reference3Ideal.main (F := Ideal))) ⟨m, fun _ => 0, ρ⟩ fun r => ∀ c : Dev Cert.Reference3Ideal.nD,
      r.2.mem ((c.tc : Thread Cert.Reference3Ideal.nD Cert.Reference3Ideal.τ).loc Cert.Reference3Ideal.main_v15)
        = G (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2) :=
  (θ_run Cert.Reference3Ideal.defs _ _).mono (fun _ h c => ⟨(h c).1.trans ((Cert.Reference3Ideal.Read.val_main_v15_eq _ _ _).trans (ref_eq _ _ _)), (h c).2⟩)
    (Cert.Reference3Ideal.Value.run m ρ)

end Cert.Comb

end
-- ==== Proof.OutP.Value.lean ====
/- The output projection: the residual plus the two halves' products, and that sum normalised. At row `r` and column `n`
   kernel and reference leave the same numbers. -/
module

public import proofs.«01_k».proof.Proof.Layer.Rms
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise

@[expose] public section

set_option maxRecDepth 16384

noncomputable section

open Idealize.ShloMosaic Idealize.ShloMosaic.TcCoe Idealize.ShloMosaic.Tactic Idealize.SL.Sem
open Idealize.ShloMosaic.Pipeline (Dat)

namespace Cert.OutP

open Cert.Layer (rms)

/-- The residual stream after the projection, at row `r` and column `n`: the sum of the three attention outputs meets the
    weight's upper half, the recurrence's output its lower half. -/
def hsum (a b d e : (⟨2, ![16384, 1024]⟩ : Shape).Idx → EReal) (x : (⟨2, ![16384, 2048]⟩ : Shape).Idx → EReal)
    (W : (⟨3, ![1, 2048, 2048]⟩ : Shape).Idx → EReal) (r : Fin 16384) (n : Fin 2048) : EReal :=
  x (ix2 r n) + ∑ k : Fin 1024, (a (ix2 r k) + b (ix2 r k) + d (ix2 r k)) * W (ix3 0 ⟨k.val, by omega⟩ n)
    + ∑ k : Fin 1024, e (ix2 r k) * W (ix3 0 ⟨1024 + k.val, by omega⟩ n)

/-- The first result. -/
def G (a b d e : (⟨2, ![16384, 1024]⟩ : Shape).Idx → EReal) (x : (⟨2, ![16384, 2048]⟩ : Shape).Idx → EReal)
    (W : (⟨3, ![1, 2048, 2048]⟩ : Shape).Idx → EReal) : (⟨2, ![16384, 2048]⟩ : Shape).Idx → EReal :=
  fun i => hsum a b d e x W (i 0) (i 1)

/-- The second result: the first, normalised. -/
def H (a b d e : (⟨2, ![16384, 1024]⟩ : Shape).Idx → EReal) (x : (⟨2, ![16384, 2048]⟩ : Shape).Idx → EReal)
    (W : (⟨3, ![1, 2048, 2048]⟩ : Shape).Idx → EReal) (w : (⟨2, ![1, 2048]⟩ : Shape).Idx → EReal) : (⟨2, ![16384, 2048]⟩ : Shape).Idx → EReal :=
  fun i => rms (hsum a b d e x W (i 0)) (i 1) * w (ix2 0 (i 1))

section kernel
open Cert.Kernel4Ideal Cert.Kernel4Ideal.Gen

/-- The block of the residual stream. -/
theorem pay2 (a b d : Vec Ideal S256x1024 .bf16) (x : Vec Ideal S256x2048 .f32) (W : Vec Ideal S1024x2048 .bf16) (e : Vec Ideal S256x1024 .bf16)
    (W' : Vec Ideal S1024x2048 .bf16) (r : Fin 256) (n : Fin 2048) :
    k0_pay2 (F := Ideal) a b d x W e W' (ix2 r n)
      = x (ix2 r n) + ∑ k : Fin 1024, (a (ix2 r k) + b (ix2 r k) + d (ix2 r k)) * W (ix2 k n) + ∑ k : Fin 1024, e (ix2 r k) * W' (ix2 k n) := by
  pointwise [k0_pay2]

/-- The normalised block. -/
theorem pay3 (a b d : Vec Ideal S256x1024 .bf16) (x : Vec Ideal S256x2048 .f32) (W : Vec Ideal S1024x2048 .bf16) (e : Vec Ideal S256x1024 .bf16)
    (W' : Vec Ideal S1024x2048 .bf16) (w : Vec Ideal S1x2048 .f32) (r : Fin 256) (n : Fin 2048) :
    k0_pay3 (F := Ideal) a b d x W e W' w (ix2 r n)
      = rms (fun n => k0_pay2 (F := Ideal) a b d x W e W' (ix2 r n)) n * w (ix2 0 n) := by
  unfold k0_pay3
  generalize k0_pay2 (F := Ideal) a b d x W e W' = h
  pointwise [rms]

theorem z2 : (![0, 0] : Fin 2 → Nat) = fun _ => 0 := funext fun a => by fin_cases a <;> rfl

/-- A row of the weight's upper half. -/
theorem ld_top (x : Vec Ideal S2048x2048 .bf16) (k : Fin 1024) (n : Fin 2048) : View.ld x r0_2 (ix2 k n) = x (ix2 ⟨k.val, by omega⟩ n) := by
  refine congrArg x (funext fun a => Fin.ext ?_)
  match a with
  | ⟨0, _⟩ => show 0 + 1 * k.val = k.val; omega
  | ⟨1, _⟩ => show 0 + 1 * n.val = n.val; omega

/-- A row of the weight's lower half. -/
theorem ld_bot (x : Vec Ideal S2048x2048 .bf16) (k : Fin 1024) (n : Fin 2048) : View.ld x r0_3 (ix2 k n) = x (ix2 ⟨1024 + k.val, by omega⟩ n) := by
  refine congrArg x (funext fun a => Fin.ext ?_)
  match a with
  | ⟨0, _⟩ => show 1024 + 1 * k.val = 1024 + k.val; omega
  | ⟨1, _⟩ => show 0 + 1 * n.val = n.val; omega

variable (m : (ℓ : Loc nD τ sig) → Buf (Elt Ideal) ℓ) (ρ : Dev nD → PrngReg)

/-- The reshape that drops the weight's leading unit axis. -/
theorem cast_w (W : S1x2048x2048.Idx → EReal) (h : S1x2048x2048.ShapeCasts S2048x2048) (k n : Fin 2048) :
    shapeCast S2048x2048 W h (ix2 k n) = W (ix3 0 k n) := by
  refine shapeCast_apply _ _ _ _ ?_
  rw [Shape.rowMajor_val_three, Shape.rowMajor_val_two]
  show (0 * 2048 + k.val) * 2048 + n.val = k.val * 2048 + n.val
  omega

theorem V_w (c : Dev nD) (k n : Fin 2048) : V m c main_v10 (ix2 k n) = m ((c : Thread nD τ).loc main_arg5) (ix3 0 k n) := by
  have : V m c main_v10 = truncf .bf16 (shapeCast S2048x2048 (m ((c : Thread nD τ).loc main_arg5)) shapeCasts_S1x2048x2048_S2048x2048 : FVec Ideal S2048x2048 .f32) bitsLt_bf16_f32 := by
    unfold V; after_results <;> rfl
  rw [this]
  exact cast_w _ _ k n

theorem V_n (c : Dev nD) (k : Fin 2048) : V m c main_v12 (ix2 0 k) = m ((c : Thread nD τ).loc main_arg6) (ix2 0 k) := by
  have : V m c main_v12 = shapeCast S1x2048 (shapeCast S2048 (m ((c : Thread nD τ).loc main_arg6)) shapeCasts_S1x2048_S2048) shapeCasts_S2048_S1x2048 := by
    unfold V; after_results <;> rfl
  rw [this]
  pointwise

theorem idx_in : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0))

theorem idx_w : ∀ t : Fin cfg0.N, (win0_5.index t 0 = 0 ∧ win0_5.index t 1 = 0) ∧ (win0_6.index t 0 = 0 ∧ win0_6.index t 1 = 0)
    ∧ (win0_9.index t 0 = t.val ∧ win0_9.index t 1 = 0) ∧ (win0_10.index t 0 = t.val ∧ win0_10.index t 1 = 0) :=
  (by decide +kernel : ∀ t : Fin grid0.N, (win0_5.index t 0 = 0 ∧ win0_5.index t 1 = 0) ∧ (win0_6.index t 0 = 0 ∧ win0_6.index t 1 = 0)
    ∧ (win0_9.index t 0 = t.val ∧ win0_9.index t 1 = 0) ∧ (win0_10.index t 0 = t.val ∧ win0_10.index t 1 = 0))

theorem lt64 (t : Fin cfg0.N) : t.val < 64 := Nat.lt_of_lt_of_eq t.isLt N_0

/-- Row `r` of the row block at point `t`. -/
abbrev row (t : Fin cfg0.N) (r : Fin 256) : Fin 16384 := ⟨256 * t.val + r.val, by have := lt64 t; omega⟩

theorem blk0 (c : Dev nD) (t : Fin cfg0.N) (r : Fin 256) (k : Fin 1024) :
    (iblk m c 0 t : Vec Ideal S256x1024 .bf16) (ix2 r k) = m ((c : Thread nD τ).loc main_arg0) (ix2 (row t r) k) := by
  have e := (idx_in t).1
  rw [← V_main_arg0 m c]
  show V m c main_arg0 _ = _
  refine congrArg _ (funext fun a => Fin.ext ?_)
  match a with
  | ⟨0, _⟩ => show win0_0.index t 0 * 256 + 1 * r.val = 256 * t.val + r.val; rw [e.1]; omega
  | ⟨1, _⟩ => show win0_0.index t 1 * 1024 + 1 * k.val = k.val; rw [e.2]; omega

theorem blk1 (c : Dev nD) (t : Fin cfg0.N) (r : Fin 256) (k : Fin 1024) :
    (iblk m c 1 t : Vec Ideal S256x1024 .bf16) (ix2 r k) = m ((c : Thread nD τ).loc main_arg1) (ix2 (row t r) k) := by
  have e := (idx_in t).2.1
  rw [← V_main_arg1 m c]
  show V m c main_arg1 _ = _
  refine congrArg _ (funext fun a => Fin.ext ?_)
  match a with
  | ⟨0, _⟩ => show win0_1.index t 0 * 256 + 1 * r.val = 256 * t.val + r.val; rw [e.1]; omega
  | ⟨1, _⟩ => show win0_1.index t 1 * 1024 + 1 * k.val = k.val; rw [e.2]; omega

theorem blk2 (c : Dev nD) (t : Fin cfg0.N) (r : Fin 256) (k : Fin 1024) :
    (iblk m c 2 t : Vec Ideal S256x1024 .bf16) (ix2 r k) = m ((c : Thread nD τ).loc main_arg2) (ix2 (row t r) k) := by
  have e := (idx_in t).2.2.1
  rw [← V_main_arg2 m c]
  show V m c main_arg2 _ = _
  refine congrArg _ (funext fun a => Fin.ext ?_)
  match a with
  | ⟨0, _⟩ => show win0_2.index t 0 * 256 + 1 * r.val = 256 * t.val + r.val; rw [e.1]; omega
  | ⟨1, _⟩ => show win0_2.index t 1 * 1024 + 1 * k.val = k.val; rw [e.2]; omega

theorem blk3 (c : Dev nD) (t : Fin cfg0.N) (r : Fin 256) (k : Fin 1024) :
    (iblk m c 3 t : Vec Ideal S256x1024 .bf16) (ix2 r k) = m ((c : Thread nD τ).loc main_arg3) (ix2 (row t r) k) := by
  have e := (idx_in t).2.2.2.1
  rw [← V_main_arg3 m c]
  show V m c main_arg3 _ = _
  refine congrArg _ (funext fun a => Fin.ext ?_)
  match a with
  | ⟨0, _⟩ => show win0_3.index t 0 * 256 + 1 * r.val = 256 * t.val + r.val; rw [e.1]; omega
  | ⟨1, _⟩ => show win0_3.index t 1 * 1024 + 1 * k.val = k.val; rw [e.2]; omega

theorem blk4 (c : Dev nD) (t : Fin cfg0.N) (r : Fin 256) (k : Fin 2048) :
    (iblk m c 4 t : Vec Ideal S256x2048 .f32) (ix2 r k) = m ((c : Thread nD τ).loc main_arg4) (ix2 (row t r) k) := by
  have e := (idx_in t).2.2.2.2
  rw [← V_main_arg4 m c]
  show V m c main_arg4 _ = _
  refine congrArg _ (funext fun a => Fin.ext ?_)
  match a with
  | ⟨0, _⟩ => show win0_4.index t 0 * 256 + 1 * r.val = 256 * t.val + r.val; rw [e.1]; omega
  | ⟨1, _⟩ => show win0_4.index t 1 * 2048 + 1 * k.val = k.val; rw [e.2]; omega

theorem blk5 (c : Dev nD) (t : Fin cfg0.N) (k n : Fin 2048) :
    (iblk m c 5 t : Vec Ideal S2048x2048 .bf16) (ix2 k n) = m ((c : Thread nD τ).loc main_arg5) (ix3 0 k n) := by
  have e := (idx_w t).1
  rw [← V_w m c k n]
  show V m c main_v10 _ = _
  refine congrArg _ (funext fun a => Fin.ext ?_)
  match a with
  | ⟨0, _⟩ => show win0_5.index t 0 * 2048 + 1 * k.val = k.val; rw [e.1]; omega
  | ⟨1, _⟩ => show win0_5.index t 1 * 2048 + 1 * n.val = n.val; rw [e.2]; omega

theorem blk6 (c : Dev nD) (t : Fin cfg0.N) (k : Fin 2048) :
    (iblk m c 6 t : Vec Ideal S1x2048 .f32) (ix2 0 k) = m ((c : Thread nD τ).loc main_arg6) (ix2 0 k) := by
  have e := (idx_w t).2.1
  rw [← V_n m c k]
  show V m c main_v12 _ = _
  refine congrArg _ (funext fun a => Fin.ext ?_)
  match a with
  | ⟨0, _⟩ => show win0_6.index t 0 * 1 + 1 * 0 = 0; rw [e.1]
  | ⟨1, _⟩ => show win0_6.index t 1 * 2048 + 1 * k.val = k.val; rw [e.2]; omega

/-- The residual stream at a row of point `t`'s block. -/
abbrev hrow (c : Dev nD) (t : Fin cfg0.N) (r : Fin 256) : Fin 2048 → EReal :=
  hsum (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (row t r)

theorem sum_eq (c : Dev nD) (t : Fin cfg0.N) (r : Fin 256) (n : Fin 2048) :
    k0_pay2 (F := Ideal) (View.ld (iblk m c 0 t : Vec Ideal S256x1024 .bf16) r0_0) (View.ld (iblk m c 1 t : Vec Ideal S256x1024 .bf16) r0_0) (View.ld (iblk m c 2 t : Vec Ideal S256x1024 .bf16) r0_0)
      (View.ld (iblk m c 4 t : Vec Ideal S256x2048 .f32) r0_1) (View.ld (iblk m c 5 t : Vec Ideal S2048x2048 .bf16) r0_2) (View.ld (iblk m c 3 t : Vec Ideal S256x1024 .bf16) r0_0)
      (View.ld (iblk m c 5 t : Vec Ideal S2048x2048 .bf16) r0_3) (ix2 r n) = hrow m c t r n := by
  refine (pay2 _ _ _ _ _ _ _ r n).trans ?_
  have l0 : ∀ x : Vec Ideal S256x1024 .bf16, View.ld x r0_0 = x := fun x => View.ld_unit_zero z2 _ x
  have l1 : ∀ x : Vec Ideal S256x2048 .f32, View.ld x r0_1 = x := fun x => View.ld_unit_zero z2 _ x
  rw [l0, l0, l0, l0, l1]
  refine congrArg₂ (· + ·) (congrArg₂ (· + ·) (blk4 m c t r n) (Finset.sum_congr rfl fun k _ => ?_)) (Finset.sum_congr rfl fun k _ => ?_)
  · exact congrArg₂ (· * ·) (congrArg₂ (· + ·) (congrArg₂ (· + ·) (blk0 m c t r k) (blk1 m c t r k)) (blk2 m c t r k)) ((ld_top _ k n).trans (blk5 m c t _ n))
  · exact congrArg₂ (· * ·) (blk3 m c t r k) ((ld_bot _ k n).trans (blk5 m c t _ n))

/-- The two result arrays the kernel leaves. -/
abbrev res (c : Dev nD) : Buf (Elt Ideal) ((c : Thread nD τ).loc main_v13_0) :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))
abbrev resN (c : Dev nD) : Buf (Elt Ideal) ((c : Thread nD τ).loc main_v13_1) :=
  H (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem canon1 (w : Vec Ideal S256x2048 .f32) : View.canon [(⟨r0_1, w⟩ : View.Piece (Elt Ideal) S256x2048 .f32)] = w :=
  View.canon_unit_zero z2 _ w

theorem out9 (c : Dev nD) (t : Fin cfg0.N) (r : Fin 256) (n : Fin 2048) :
    out0_9 (F := Ideal) (iblk m c 0 t) (iblk m c 1 t) (iblk m c 2 t) (iblk m c 3 t) (iblk m c 4 t) (iblk m c 5 t) (iblk m c 6 t) (iblk m c 7 t) (iblk m c 8 t) (ix2 r n)
      = hrow m c t r n := by
  unfold out0_9
  rw [canon1]
  exact sum_eq m c t r n

theorem out10 (c : Dev nD) (t : Fin cfg0.N) (r : Fin 256) (n : Fin 2048) :
    out0_10 (F := Ideal) (iblk m c 0 t) (iblk m c 1 t) (iblk m c 2 t) (iblk m c 3 t) (iblk m c 4 t) (iblk m c 5 t) (iblk m c 6 t) (iblk m c 7 t) (iblk m c 8 t) (ix2 r n)
      = rms (hrow m c t r) n * m ((c : Thread nD τ).loc main_arg6) (ix2 0 n) := by
  unfold out0_10
  rw [canon1]
  unfold k0_pay21
  refine (pay3 _ _ _ _ _ _ _ _ r n).trans ?_
  have l4 : ∀ x : Vec Ideal S1x2048 .f32, View.ld x r0_4 = x := fun x => View.ld_unit_zero z2 _ x
  rw [l4]
  exact congrArg₂ (· * ·) (congrArg (fun f : Fin 2048 → EReal => rms f n) (funext fun n => sum_eq m c t r n)) (blk6 m c t n)

theorem flushed_eq (c : Dev nD) (t : Fin cfg0.N) : (dats m 0 c).flushed 9 t = (win0_9.blk t).view.read (Elt Ideal) (res m c) := by
  rw [Value.flushed9]
  have e := (idx_w t).2.2.1
  funext y
  have e0 : (((cfg0.win 9).blk t).view.emb y) 0 = row t (y 0) := Fin.ext (by
    show win0_9.index t 0 * 256 + 1 * (y 0).val = 256 * t.val + (y 0).val; rw [e.1]; omega)
  have e1 : (((cfg0.win 9).blk t).view.emb y) 1 = y 1 := Fin.ext (by
    show win0_9.index t 1 * 2048 + 1 * (y 1).val = (y 1).val; rw [e.2]; omega)
  have ey : y = ix2 (y 0) (y 1) := eq_ix2 y
  show out0_9 (F := Ideal) _ _ _ _ _ _ _ _ _ y = hsum _ _ _ _ _ _ ((((cfg0.win 9).blk t).view.emb y) 0) ((((cfg0.win 9).blk t).view.emb y) 1)
  rw [e0, e1]
  exact (congrArg (out0_9 (F := Ideal) _ _ _ _ _ _ _ _ _) ey).trans (out9 m c t (y 0) (y 1))

theorem flushedN_eq (c : Dev nD) (t : Fin cfg0.N) : (dats m 0 c).flushed 10 t = (win0_10.blk t).view.read (Elt Ideal) (resN m c) := by
  rw [Value.flushed10]
  have e := (idx_w t).2.2.2
  funext y
  have e0 : (((cfg0.win 10).blk t).view.emb y) 0 = row t (y 0) := Fin.ext (by
    show win0_10.index t 0 * 256 + 1 * (y 0).val = 256 * t.val + (y 0).val; rw [e.1]; omega)
  have e1 : (((cfg0.win 10).blk t).view.emb y) 1 = y 1 := Fin.ext (by
    show win0_10.index t 1 * 2048 + 1 * (y 1).val = (y 1).val; rw [e.2]; omega)
  have ey : y = ix2 (y 0) (y 1) := eq_ix2 y
  show out0_10 (F := Ideal) _ _ _ _ _ _ _ _ _ y
    = rms (hsum _ _ _ _ _ _ ((((cfg0.win 10).blk t).view.emb y) 0)) ((((cfg0.win 10).blk t).view.emb y) 1) * m ((c : Thread nD τ).loc main_arg6) (ix2 0 ((((cfg0.win 10).blk t).view.emb y) 1))
  rw [e0, e1]
  exact (congrArg (out0_10 (F := Ideal) _ _ _ _ _ _ _ _ _) ey).trans (out10 m c t (y 0) (y 1))

/-- The point whose block holds row `i 0`. -/
theorem point (i : S16384x2048.Idx) : ∃ t : Fin cfg0.N, t.val * 256 ≤ (i 0 : Nat) ∧ (i 0 : Nat) < t.val * 256 + 256 := by
  have h0 : (i 0).val < 16384 := (i 0).isLt
  have hN : cfg0.N = 64 := N_0
  obtain ⟨t, ht⟩ : ∃ t : Fin cfg0.N, t.val = (i 0).val / 256 := ⟨⟨(i 0).val / 256, by omega⟩, rfl⟩
  exact ⟨t, by omega⟩

theorem mem_blk (t : Fin cfg0.N) (i : S16384x2048.Idx) (h : t.val * 256 ≤ (i 0 : Nat) ∧ (i 0 : Nat) < t.val * 256 + 256) :
    i ∈ ((cfg0.win 9).blk t).view.set := by
  have e := (idx_w t).2.2.1
  show i ∈ ((View.whole main_v13_0).slice (win0_9.rect t)).set
  rw [View.set_slice_whole, Rect.mem_set_unit]
  intro a
  have h1 : (i 1).val < 2048 := (i 1).isLt
  match a with
  | ⟨0, _⟩ =>
    show win0_9.index t 0 * 256 ≤ (i 0).val ∧ (i 0).val < win0_9.index t 0 * 256 + 256
    rw [e.1]; exact h
  | ⟨1, _⟩ =>
    show win0_9.index t 1 * 2048 ≤ (i 1).val ∧ (i 1).val < win0_9.index t 1 * 2048 + 2048
    exact Cert.Layer.rng_one e.2 h1

theorem mem_blkN (t : Fin cfg0.N) (i : S16384x2048.Idx) (h : t.val * 256 ≤ (i 0 : Nat) ∧ (i 0 : Nat) < t.val * 256 + 256) :
    i ∈ ((cfg0.win 10).blk t).view.set := by
  have e := (idx_w t).2.2.2
  show i ∈ ((View.whole main_v13_1).slice (win0_10.rect t)).set
  rw [View.set_slice_whole, Rect.mem_set_unit]
  intro a
  have h1 : (i 1).val < 2048 := (i 1).isLt
  match a with
  | ⟨0, _⟩ =>
    show win0_10.index t 0 * 256 ≤ (i 0).val ∧ (i 0).val < win0_10.index t 0 * 256 + 256
    rw [e.1]; exact h
  | ⟨1, _⟩ =>
    show win0_10.index t 1 * 2048 ≤ (i 1).val ∧ (i 1).val < win0_10.index t 1 * 2048 + 2048
    exact Cert.Layer.rng_one e.2 h1

theorem final (c : Dev nD) : (dats m 0 c).arrAt 9 cfg0.N = res m c :=
  (dats m 0 c).arrAt_eq_of_cover 9 (res m c) (fun t _ => flushed_eq m c t) fun i =>
    (point i).elim fun t h => ⟨t, flush0_9 t, mem_blk t i h⟩

theorem finalN (c : Dev nD) : (dats m 0 c).arrAt 10 cfg0.N = resN m c :=
  (dats m 0 c).arrAt_eq_of_cover 10 (resN m c) (fun t _ => flushedN_eq m c t) fun i =>
    (point i).elim fun t h => ⟨t, flush0_10 t, mem_blkN t i h⟩

/-- The kernel's run: its two results are `G` and `H` of the arguments, which end unchanged. -/
theorem run : θ_run defs (onTc (τ := τ) (main (F := Ideal))) ⟨m, fun _ => 0, ρ⟩ fun r => ∀ c : Dev nD,
      r.2.mem ((c : Thread nD τ).loc main_v13_0) = res m c
      ∧ r.2.mem ((c : Thread nD τ).loc main_v13_1) = resN m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2.1.trans (finalN m c), (h c).2.2.2.2⟩) (Value.run_blocks m ρ)
end kernel

section reference
open Cert.Reference4Ideal Cert.Reference4Ideal.Read

theorem ref_sum (a b d e : S16384x1024.Idx → EReal) (x : S16384x2048.Idx → EReal) (W : S1x2048x2048.Idx → EReal) (r : Fin 16384) (n : Fin 2048) :
    val_main_v9 (F := Ideal) a b d e x W (ix2 r n) = hsum a b d e x W r n := by
  unfold val_main_v9 val_main_v8 val_main_v7 hsum
  generalize hY : shapeCast S2048x2048 W _ = Y
  have h : ∀ k n : Fin 2048, Y (ix2 k n) = W (ix3 0 k n) := fun k n => by subst hY; exact cast_w W _ k n
  rw [add_assoc]
  simp only [← h]
  pointwise [val_main_v6, val_main_v5, val_main_v4, val_main_v3, val_main_v2, val_main_v1, val_main_v0]

theorem ref_norm (a b d e : S16384x1024.Idx → EReal) (x : S16384x2048.Idx → EReal) (W : S1x2048x2048.Idx → EReal) (w : S1x2048.Idx → EReal) (r : Fin 16384) (n : Fin 2048) :
    val_main_v23 (F := Ideal) a b d e x W w (ix2 r n) = rms (hsum a b d e x W r) n * w (ix2 0 n) := by
  have h := ref_sum a b d e x W r
  unfold val_main_v23 val_main_v20 val_main_v19 val_main_v18 val_main_v17 val_main_v15 val_main_v13 val_main_v12 val_main_v11
  revert h
  generalize val_main_v9 (F := Ideal) a b d e x W = Y
  intro h
  rw [show hsum a b d e x W r = fun n => Y (ix2 r n) from funext fun n => (h n).symm]
  pointwise [val_main_v22, val_main_v21, val_main_v10, val_main_v14, val_main_v16, val_main_cst, val_main_cst_0, val_main_cst_1, rms]

theorem ref_eq (a b d e : S16384x1024.Idx → EReal) (x : S16384x2048.Idx → EReal) (W : S1x2048x2048.Idx → EReal) :
    val_main_v9 (F := Ideal) a b d e x W = G a b d e x W := by
  funext i
  exact (congrArg (val_main_v9 (F := Ideal) a b d e x W) (eq_ix2 i)).trans (ref_sum a b d e x W (i 0) (i 1))

theorem refN_eq (a b d e : S16384x1024.Idx → EReal) (x : S16384x2048.Idx → EReal) (W : S1x2048x2048.Idx → EReal) (w : S1x2048.Idx → EReal) :
    val_main_v23 (F := Ideal) a b d e x W w = H a b d e x W w := by
  funext i
  exact (congrArg (val_main_v23 (F := Ideal) a b d e x W w) (eq_ix2 i)).trans (ref_norm a b d e x W w (i 0) (i 1))

/-- The reference's run, its results as `G` and `H`. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9)
        = G (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_v23)
        = H (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans ((val_main_v9_eq _ _ _ _ _ _).trans (ref_eq _ _ _ _ _ _)),
    (h c).2.1.trans ((val_main_v23_eq _ _ _ _ _ _ _).trans (refN_eq _ _ _ _ _ _ _)), (h c).2.2⟩) (Value.run m ρ)
end reference

end Cert.OutP

end
-- ==== Proof.Cmp.Pieces.lean ====
/- What the compressed attention's body stores at a grid point, as a function of the blocks it loads. -/
module

public import proofs.«01_k».proof.Proof.Gen.Kernel5Ideal.Value
public import Idealize.ShloMosaic.Lib.Pipeline.Value

@[expose] public section

set_option maxRecDepth 16384

noncomputable section

namespace Cert.Kernel5Ideal.Cmp

open Cert.Kernel5Ideal Cert.Kernel5Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The four heads' columns of a block of four heads. -/
abbrev rh0 : Rect S1x128x512 := Rect.unit ![0, 0, 0] S1x128x128.size inb_S1x128x512_S1x128x128_0_0_0
abbrev rh1 : Rect S1x128x512 := Rect.unit ![0, 0, 128] S1x128x128.size inb_S1x128x512_S1x128x128_0_0_128
abbrev rh2 : Rect S1x128x512 := Rect.unit ![0, 0, 256] S1x128x128.size inb_S1x128x512_S1x128x128_0_0_256
abbrev rh3 : Rect S1x128x512 := Rect.unit ![0, 0, 384] S1x128x128.size inb_S1x128x512_S1x128x128_0_0_384

/-- The key group's number and the query block's number as the body's words. -/
abbrev wG (i : grid0.Coords) : BitVec 32 := BitVec.ofNat 32 (i 1).val
abbrev wT (i : grid0.Coords) : BitVec 32 := BitVec.ofNat 32 (i 2).val

/-- The scores before the mask, of the four heads stacked. -/
def scoreOf (x0 : Vec F S1x128x512 .f32) (x1 x2 x3 : Vec F S1x128x128 .f32) (x4 : Vec F S1x1x1x256x128 .bf16) : FVec F S512x256 .f32 :=
  k0_pay9 (k0_pay2 x1) (k0_pay3 x2) (k0_pay4 x3) (k0_pay5 x1 x2 x3 (View.ld x0 rh0)) (k0_pay6 x1 x2 x3 (View.ld x0 rh1)) (k0_pay7 (View.ld x0 rh2)) (k0_pay8 x1 (View.ld x0 rh2)) (View.ld x0 rh3) x4

/-- The attention's output before the gates, of the four heads stacked. -/
def attOf (i : grid0.Coords) (s : FVec F S512x256 .f32) (x5 : Vec F S1x1x1x256x128 .bf16) : FVec F S512x128 .f32 :=
  k0_pay12 s (k0_pay10 (wT i)) x5

/-- The four stores into the output block, the last one first. -/
def pieces (i : grid0.Coords) (s : FVec F S512x256 .f32) (x5 : Vec F S1x1x1x256x128 .bf16) (x6 : Vec F S1x128x128 .f32) :
    List (View.Piece (Elt F) S1x128x512 .bf16) :=
  [⟨rh3, k0_pay20 (k0_pay19 (wG i) (attOf i s x5) (k0_pay13 x6))⟩,
   ⟨rh2, k0_pay18 (attOf i s x5) (k0_pay13 x6) (Scalar.addi (Scalar.muli (Scalar.addi (Scalar.muli (wG i) 4#32) 2#32) 3#32) 0#32) (iota .tc S128x128 32 [1] iota_S128x128_d1_w32)⟩,
   ⟨rh1, k0_pay17 (wG i) (attOf i s x5) (k0_pay13 x6)⟩,
   ⟨rh0, k0_pay16 (k0_pay14 s (k0_pay10 (wT i)) x5) (k0_pay15 (wG i) x6)⟩]

theorem z3 : (![0, 0, 0] : Fin 3 → Nat) = fun _ => 0 := funext fun a => by fin_cases a <;> rfl
theorem z5 : (![0, 0, 0, 0, 0] : Fin 5 → Nat) = fun _ => 0 := funext fun a => by fin_cases a <;> rfl

/-- A load of a whole small block is the block. -/
theorem ld_blk (x : Vec F S1x128x128 .f32) :
    View.ld x (Rect.unit (s := S1x128x128) ![0, 0, 0] S1x128x128.size inb_S1x128x128_S1x128x128_0_0_0) = x :=
  View.ld_unit_zero z3 _ x

/-- A load of a whole block of compressed keys or values is the block. -/
theorem ld_kv (x : Vec F S1x1x1x256x128 .bf16) :
    View.ld x (Rect.unit (s := S1x1x1x256x128) ![0, 0, 0, 0, 0] S1x1x1x256x128.size inb_S1x1x1x256x128_S1x1x1x256x128_0_0_0_0_0) = x :=
  View.ld_unit_zero z5 _ x

/-- The four stores cover the output block. -/
theorem cover_out (i : grid0.Coords) (s : FVec F S512x256 .f32) (x5 : Vec F S1x1x1x256x128 .bf16) (x6 : Vec F S1x128x128 .f32)
    (y : S1x128x512.Idx) : ∃ p ∈ pieces i s x5 x6, y ∈ p.1.set :=
  View.cover_of_tiledL (pieces i s x5 x6) S1x128x128.size (by sl_kernel_rfl) y

/-- The output's stores written out, at equal blocks. -/
theorem pieces_congr (i : grid0.Coords) (x0 : Vec F S1x128x512 .f32) {y1 y2 y3 y6 x1 x2 x3 x6 : Vec F S1x128x128 .f32} {y4 y5 x4 x5 : Vec F S1x1x1x256x128 .bf16}
    (h1 : y1 = x1) (h2 : y2 = x2) (h3 : y3 = x3) (h4 : y4 = x4) (h5 : y5 = x5) (h6 : y6 = x6) :
    ([⟨rh3, k0_pay20 (k0_pay19 (wG i) (k0_pay12 (k0_pay9 (k0_pay2 y1) (k0_pay3 y2) (k0_pay4 y3) (k0_pay5 y1 y2 y3 (View.ld x0 rh0)) (k0_pay6 y1 y2 y3 (View.ld x0 rh1)) (k0_pay7 (View.ld x0 rh2)) (k0_pay8 y1 (View.ld x0 rh2)) (View.ld x0 rh3) y4) (k0_pay10 (wT i)) y5) (k0_pay13 y6))⟩,
   ⟨rh2, k0_pay18 (k0_pay12 (k0_pay9 (k0_pay2 y1) (k0_pay3 y2) (k0_pay4 y3) (k0_pay5 y1 y2 y3 (View.ld x0 rh0)) (k0_pay6 y1 y2 y3 (View.ld x0 rh1)) (k0_pay7 (View.ld x0 rh2)) (k0_pay8 y1 (View.ld x0 rh2)) (View.ld x0 rh3) y4) (k0_pay10 (wT i)) y5) (k0_pay13 y6) (Scalar.addi (Scalar.muli (Scalar.addi (Scalar.muli (wG i) 4#32) 2#32) 3#32) 0#32) (iota .tc S128x128 32 [1] iota_S128x128_d1_w32)⟩,
   ⟨rh1, k0_pay17 (wG i) (k0_pay12 (k0_pay9 (k0_pay2 y1) (k0_pay3 y2) (k0_pay4 y3) (k0_pay5 y1 y2 y3 (View.ld x0 rh0)) (k0_pay6 y1 y2 y3 (View.ld x0 rh1)) (k0_pay7 (View.ld x0 rh2)) (k0_pay8 y1 (View.ld x0 rh2)) (View.ld x0 rh3) y4) (k0_pay10 (wT i)) y5) (k0_pay13 y6)⟩,
   ⟨rh0, k0_pay16 (k0_pay14 (k0_pay9 (k0_pay2 y1) (k0_pay3 y2) (k0_pay4 y3) (k0_pay5 y1 y2 y3 (View.ld x0 rh0)) (k0_pay6 y1 y2 y3 (View.ld x0 rh1)) (k0_pay7 (View.ld x0 rh2)) (k0_pay8 y1 (View.ld x0 rh2)) (View.ld x0 rh3) y4) (k0_pay10 (wT i)) y5) (k0_pay15 (wG i) y6)⟩] : List (View.Piece (Elt F) S1x128x512 .bf16))
      = pieces i (scoreOf x0 x1 x2 x3 x4) x5 x6 := by
  subst h1 h2 h3 h4 h5 h6; rfl

section
variable (c : Dev nD) (i : grid0.Coords) (arg3 : Memref sig .tc .vmem S1x128x512 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x1x1x256x128 .bf16) (harg7 : arg7.IsWhole) (arg8 : Memref sig .tc .vmem S1x1x1x256x128 .bf16) (harg8 : arg8.IsWhole) (arg9 : Memref sig .tc .vmem S1x128x128 .f32) (harg9 : arg9.IsWhole) (arg10 : Memref sig .tc .vmem S1x128x512 .bf16) (harg10 : arg10.IsWhole) (arg11 : Memref sig .tc .vmem S1x1x128x128 .bf16) (harg11 : arg11.IsWhole)
    (x0 : Vec F S1x128x512 .f32) (x1 x2 x3 : Vec F S1x128x128 .f32) (x4 x5 : Vec F S1x1x1x256x128 .bf16) (x6 : Vec F S1x128x128 .f32)

set_option maxHeartbeats 400000 in
/-- The stores into the output, off the blocks. -/
theorem run_out :
    (kernelRun0_A c i arg3 harg3 arg4 harg4 arg5 harg5 arg6 harg6 arg7 harg7 arg8 harg8 arg9 harg9 arg10 harg10 arg11 harg11 x0 x1 x2 x3 x4 x5 x6).1
      = pieces i (scoreOf x0 x1 x2 x3 x4) x5 x6 := by
  unfold kernelRun0_A; dsimp only
  sl_unfold_words
  simp only [View.readAt_eq_ld, harg3.read_unread, harg4.read_unread, harg5.read_unread, harg6.read_unread, harg7.read_unread, harg8.read_unread, harg9.read_unread]
  exact pieces_congr i x0 (ld_blk x1) (ld_blk x2) (ld_blk x3) (ld_kv x4) (ld_kv x5) (ld_blk x6)

/-- The output block the body leaves. -/
theorem out_eq : out0_A_7 c i arg3 harg3 arg4 harg4 arg5 harg5 arg6 harg6 arg7 harg7 arg8 harg8 arg9 harg9 arg10 harg10 arg11 harg11 x0 x1 x2 x3 x4 x5 x6
    = View.canon (pieces i (scoreOf x0 x1 x2 x3 x4) x5 x6) := by
  unfold out0_A_7
  rw [run_out]
  exact View.read_writes_eq_canon _ _ _ (cover_out i _ x5 x6)
end

end Cert.Kernel5Ideal.Cmp

end
-- ==== Proof.Cmp.Spec.lean ====
/- What the attention over the compressed keys computes: each result is the gate times the attention of its row over the
   blocks that end at or before the row's position. -/
module

public import proofs.«01_k».proof.Proof.Win.Guard

@[expose] public section

set_option maxRecDepth 16384

noncomputable section

open Idealize.ShloMosaic Idealize.ShloMosaic.TcCoe Idealize.SL.Sem

namespace Cert.CmpAtt
open Cert.WinAtt

/-- The compressed keys and values. -/
abbrev KV := (⟨5, ![4, 2, 2, 256, 128]⟩ : Shape).Idx → EReal

/-- The blocks of 32 keys, 16 apart, that end at or before position `t`. -/
abbrev seen (t : Fin 4096) (n : Fin 255) : Prop := n.val * 16 + 31 ≤ t.val

/-- A block's number among the 256 rows of the compressed keys. -/
abbrev up (n : Fin 255) : Fin 256 := ⟨n.val, by omega⟩

/-- The scores of query `t` of head `4g + r`, over all the rows of the compressed keys. -/
def scoreF (x : Arr) (cs sn : Tab) (z : KV) (b : Fin 4) (g : Fin 2) (r : Fin 4) (t : Fin 4096) (n : Fin 256) : EReal :=
  (∑ l, qry x cs sn b t ⟨g.val * 4 + r.val, by omega⟩ l * z (ix5 b 0 g n l)) * scl

/-- The scores over the blocks. -/
def score (x : Arr) (cs sn : Tab) (z : KV) (b : Fin 4) (g : Fin 2) (r : Fin 4) (t : Fin 4096) (n : Fin 255) : EReal :=
  scoreF x cs sn z b g r t (up n)

/-- The gate of query `t` of head `h`. -/
def gate (x : Arr) (b : Fin 4) (t : Fin 4096) (h : Fin 8) : EReal :=
  Ideal.div 1 (1 + Ideal.exp (-x (ix3 b t ⟨6656 + h.val * 3, by omega⟩)))

/-- The attention of query `t` of head `4g + r`, at column `d` of the head. -/
def att (x : Arr) (cs sn : Tab) (z : KV) (b : Fin 4) (g : Fin 2) (r : Fin 4) (t : Fin 4096) (d : Fin 128) : EReal :=
  attend (seen t) eps (score x cs sn z b g r t) (fun n => z (ix5 b 1 g (up n) d))

/-- The result at column `n`, which is column `n % 128` of head `n / 128`. -/
def out (x : Arr) (cs sn : Tab) (z : KV) (b : Fin 4) (t : Fin 4096) (n : Fin 1024) : EReal :=
  gate x b t ⟨n.val / 128, by omega⟩
    * att x cs sn z b ⟨n.val / 128 / 4, by omega⟩ ⟨n.val / 128 % 4, by omega⟩ t ⟨n.val % 128, by omega⟩

/-- The result's array. -/
def G (x : Arr) (cs sn : Tab) (z : KV) : Res := fun i => out x cs sn z (i 0) (i 1) (i 2)

/-! ### The softmax over the blocks -/

/-- The mask over all 256 rows: a block, ending at or before position `t`. -/
abbrev seenF (t : Fin 4096) (n : Fin 256) : Prop := n.val * 16 + 31 ≤ t.val ∧ n.val < 255

/-- The softmax over all rows with the last one masked is the softmax over the blocks. -/
theorem attend_rows (t : Fin 4096) (S v : Fin 256 → EReal) :
    attend (seenF t) eps S v = attend (seen t) eps (fun n => S (up n)) (fun n => v (up n)) := by
  have inj : Function.Injective up := fun a b h => Fin.ext (congrArg (fun z : Fin 256 => z.val) h)
  have cov : ∀ k, seenF t k → ∃ j, up j = k := fun k hk => ⟨⟨k.val, hk.2⟩, rfl⟩
  have pr : (fun j => seenF t (up j)) = seen t := funext fun j => propext ⟨fun h => h.1, fun h => ⟨h, j.isLt⟩⟩
  have hm : msk (fun j => seenF t (up j)) (fun n => S (up n)) = msk (seen t) (fun n => S (up n)) := funext fun j => by
    unfold msk
    exact if_congr (iff_of_eq (congrFun pr j)) rfl rfl
  have ht : top (seen t) (fun n => S (up n)) = top (seenF t) S := by
    rw [← top_part (seenF t) S up cov]
    unfold top; rw [hm]
  have hw : ∀ j, wt (seen t) (fun n => S (up n)) j = wt (seenF t) S (up j) := fun j => by
    rw [← wt_part (seenF t) S up cov j]
    unfold wt top; rw [hm]
  have out : ∀ k, k ∉ Set.range up → wt (seenF t) S k = 0 := fun k hk => wt_off (seenF t) S k fun h => hk (cov k h)
  have hl : ∑ j, wt (seen t) (fun n => S (up n)) j = ∑ k, wt (seenF t) S k :=
    Fintype.sum_of_injective up inj _ _ out hw
  have hd : den (seen t) eps (fun n => S (up n)) = den (seenF t) eps S := by
    unfold den; rw [hl]
  unfold attend
  refine (Fintype.sum_of_injective up inj _ _ (fun k hk => ?_) fun j => ?_).symm
  · rw [out k hk]
    obtain ⟨e, he, ee⟩ := eps_real
    obtain ⟨L, hL, eL⟩ := den_real (seenF t) S he
    rw [ee, eL, Ideal.div_coe hL.ne', zero_mul, zero_mul]
  · rw [hw, hd]

/-! ### The mask's words -/

/-- A small number's word read as a signed one. -/
theorem toInt_low (n : Nat) (h : n < 65536) : (BitVec.ofNat 32 n).toInt = n := by
  have e : (BitVec.ofNat 32 n).toNat = n := by rw [BitVec.toNat_ofNat]; omega
  rw [BitVec.toInt_eq_toNat_of_lt (by rw [e]; omega), e]

/-- The comparison of two small numbers' words. -/
theorem sle_word (a b : Nat) (ha : a < 65536) (hb : b < 65536) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    rw [BitVec.sle_eq_decide, toInt_low a ha, toInt_low b hb]
    exact decide_eq_decide.mpr (by omega)
  show BitVec.ofBool ((BitVec.ofNat 32 a).sle (BitVec.ofNat 32 b)) = _
  rw [h]
  by_cases c : a ≤ b <;> simp [c]

/-- The last position of a block, as the reference's words make it and as the kernel's do. -/
theorem last_ref : ∀ n : Fin 255, IntOp.subi (IntOp.addi (IntOp.muli (BitVec.ofNat 32 n.val) 16#32) 32#32) 1#32 = BitVec.ofNat 32 (n.val * 16 + 31) := by
  decide +kernel
theorem last_ker : ∀ n : Fin 256, IntOp.addi (IntOp.muli (BitVec.ofNat 32 n.val) 16#32) 31#32 = BitVec.ofNat 32 (n.val * 16 + 31) := by
  decide +kernel
theorem lt_word : ∀ n : Fin 256, IntOp.cmpi CmpIPredicate.slt (BitVec.ofNat 32 n.val) 255#32 = if n.val < 255 then 1#1 else 0#1 := by
  decide +kernel

/-- Both conditions of the kernel's mask. -/
theorem and_word (p q : Prop) [Decidable p] [Decidable q] :
    IntOp.andi (if p then 1#1 else 0#1 : BitVec 1) (if q then 1#1 else 0#1) = if p ∧ q then 1#1 else 0#1 := by
  by_cases a : p <;> by_cases b : q <;> simp [a, b, IntOp.andi]

end Cert.CmpAtt

end
-- ==== Proof.Cmp.Pay.lean ====
/- The compressed attention's body at an index: the scores, the attention over the blocks and the gated output block, in
   the terms of the specification. -/
module

public import proofs.«01_k».proof.Proof.Cmp.Pieces
public import proofs.«01_k».proof.Proof.Cmp.Spec
public import Idealize.ShloMosaic.Lib.Pointwise

@[expose] public section

set_option maxRecDepth 16384

noncomputable section

open Idealize.ShloMosaic Idealize.ShloMosaic.TcCoe Idealize.SL.Sem

namespace Cert.Kernel5Ideal.Cmp
open Cert.Kernel5Ideal Cert.Kernel5Ideal.Gen
open Cert.WinAtt (rope tabC tabA tabB rope_tabs scl eps attend)
open Cert.CmpAtt (seen seenF)

/-! ### The rotation -/

/-- A row of the first head's rotated and scaled queries, by the tables. -/
theorem p5 (a b c d : Vec Ideal S1x128x128 .f32) (r l : Fin 128) :
    k0_pay5 (F := Ideal) a b c d (ix2 r l)
      = (d (ix3 0 r l) * a (ix3 0 r l) + d (ix3 0 r ⟨(l.val + 128 - 112) % 128, Nat.mod_lt _ (by decide)⟩) * b (ix3 0 r l)
        + d (ix3 0 r ⟨(l.val + 128 - 16) % 128, Nat.mod_lt _ (by decide)⟩) * c (ix3 0 r l)) * scl := by
  unfold scl
  pointwise [k0_pay5, k0_pay2, k0_pay3, k0_pay4]

/-- The second head's. -/
theorem p6 (a b c d : Vec Ideal S1x128x128 .f32) (r l : Fin 128) :
    k0_pay6 (F := Ideal) a b c d (ix2 r l)
      = (d (ix3 0 r l) * a (ix3 0 r l) + d (ix3 0 r ⟨(l.val + 128 - 112) % 128, Nat.mod_lt _ (by decide)⟩) * b (ix3 0 r l)
        + d (ix3 0 r ⟨(l.val + 128 - 16) % 128, Nat.mod_lt _ (by decide)⟩) * c (ix3 0 r l)) * scl := by
  unfold scl
  pointwise [k0_pay6, k0_pay2, k0_pay3, k0_pay4]

theorem p2 (a : Vec Ideal S1x128x128 .f32) (r l : Fin 128) : k0_pay2 (F := Ideal) a (ix2 r l) = a (ix3 0 r l) := by
  pointwise [k0_pay2]
theorem p3 (a : Vec Ideal S1x128x128 .f32) (r l : Fin 128) : k0_pay3 (F := Ideal) a (ix2 r l) = a (ix3 0 r l) := by
  pointwise [k0_pay3]
theorem p4 (a : Vec Ideal S1x128x128 .f32) (r l : Fin 128) : k0_pay4 (F := Ideal) a (ix2 r l) = a (ix3 0 r l) := by
  pointwise [k0_pay4]
theorem p7 (a : Vec Ideal S1x128x128 .f32) (r l : Fin 128) : k0_pay7 (F := Ideal) a (ix2 r l) = a (ix3 0 r l) := by
  pointwise [k0_pay7]
theorem p13 (a : Vec Ideal S1x128x128 .f32) (r l : Fin 128) : k0_pay13 (F := Ideal) a (ix2 r l) = a (ix3 0 r l) := by
  pointwise [k0_pay13]
theorem p8 (a f : Vec Ideal S1x128x128 .f32) (r l : Fin 128) : k0_pay8 (F := Ideal) a f (ix2 r l) = f (ix3 0 r l) * a (ix3 0 r l) := by
  pointwise [k0_pay8, k0_pay7, k0_pay2]

/-- A row of the block of compressed keys or values. -/
theorem kv_cast (k : Vec Ideal S1x1x1x256x128 .bf16) (n : Fin 256) (l : Fin 128) :
    shapeCast S256x128 k shapeCasts_S1x1x1x256x128_S256x128 (ix2 n l) = k (ix5 0 0 0 n l) := by
  refine shapeCast_apply k _ _ _ ?_
  rw [Shape.rowMajor_val_five, Shape.rowMajor_val_two]
  show (((0 * 1 + 0) * 1 + 0) * 256 + n.val) * 128 + l.val = n.val * 128 + l.val
  omega

/-! ### The scores -/

section
variable (a b c : FVec Ideal S128x128 .f32) (d e : FVec Ideal S128x128 .bf16) (u w : FVec Ideal S128x128 .f32) (g : Vec Ideal S1x128x128 .f32) (k : Vec Ideal S1x1x1x256x128 .bf16)

/-- A rotated and scaled query by tables without the unit axis. -/
def qtab (f : Vec Ideal S1x128x128 .f32) (r x : Fin 128) : EReal :=
  (f (ix3 0 r x) * a (ix2 r x) + f (ix3 0 r ⟨(x.val + 128 - 112) % 128, Nat.mod_lt _ (by decide)⟩) * b (ix2 r x)
    + f (ix3 0 r ⟨(x.val + 128 - 16) % 128, Nat.mod_lt _ (by decide)⟩) * c (ix2 r x)) * scl

/-- The third head's, from its row already multiplied by the first table. -/
def qpart (u w : FVec Ideal S128x128 .f32) (r x : Fin 128) : EReal :=
  (w (ix2 r x) + u (ix2 r ⟨(x.val + 128 - 112) % 128, Nat.mod_lt _ (by decide)⟩) * b (ix2 r x)
    + u (ix2 r ⟨(x.val + 128 - 16) % 128, Nat.mod_lt _ (by decide)⟩) * c (ix2 r x)) * scl

/-- A score: the four heads' queries are stacked, 128 rows each. -/
theorem p9 (r : Fin 512) (l : Fin 256) :
    k0_pay9 (F := Ideal) a b c d e u w g k (ix2 r l)
      = ∑ x : Fin 128, (if h : r.val < 128 then d (ix2 ⟨r.val, h⟩ x) else if h1 : r.val - 128 < 128 then e (ix2 ⟨r.val - 128, h1⟩ x)
          else if h2 : r.val - 128 - 128 < 128 then qpart b c u w ⟨r.val - 128 - 128, h2⟩ x
          else qtab a b c g ⟨r.val - 128 - 128 - 128, by omega⟩ x) * k (ix5 0 0 0 l x) := by
  have e := fun x => kv_cast k l x
  unfold qtab qpart scl k0_pay9
  revert e
  generalize shapeCast S256x128 k shapeCasts_S1x1x1x256x128_S256x128 = ks
  intro e
  simp only [← e]
  pointwise

/-- A score of each head. -/
theorem p9_0 (r : Fin 128) (l : Fin 256) (h : 128 * 0 + r.val < 512) :
    k0_pay9 (F := Ideal) a b c d e u w g k (ix2 ⟨128 * 0 + r.val, h⟩ l) = ∑ x : Fin 128, d (ix2 r x) * k (ix5 0 0 0 l x) := by
  refine (p9 a b c d e u w g k _ l).trans (Finset.sum_congr rfl fun x _ => congrArg (· * _) ?_)
  dsimp only
  rw [dif_pos (by omega)]
  exact congrArg (fun r => d (ix2 r x)) (Fin.ext (by show 128 * 0 + r.val = r.val; omega))

theorem p9_1 (r : Fin 128) (l : Fin 256) (h : 128 * 1 + r.val < 512) :
    k0_pay9 (F := Ideal) a b c d e u w g k (ix2 ⟨128 * 1 + r.val, h⟩ l) = ∑ x : Fin 128, e (ix2 r x) * k (ix5 0 0 0 l x) := by
  refine (p9 a b c d e u w g k _ l).trans (Finset.sum_congr rfl fun x _ => congrArg (· * _) ?_)
  dsimp only
  rw [dif_neg (by omega), dif_pos (by omega)]
  exact congrArg (fun r => e (ix2 r x)) (Fin.ext (by show 128 * 1 + r.val - 128 = r.val; omega))

theorem p9_2 (r : Fin 128) (l : Fin 256) (h : 128 * 2 + r.val < 512) :
    k0_pay9 (F := Ideal) a b c d e u w g k (ix2 ⟨128 * 2 + r.val, h⟩ l) = ∑ x : Fin 128, qpart b c u w r x * k (ix5 0 0 0 l x) := by
  refine (p9 a b c d e u w g k _ l).trans (Finset.sum_congr rfl fun x _ => congrArg (· * _) ?_)
  dsimp only
  rw [dif_neg (by omega), dif_neg (by omega), dif_pos (by omega)]
  exact congrArg (fun r => qpart b c u w r x) (Fin.ext (by show 128 * 2 + r.val - 128 - 128 = r.val; omega))

theorem p9_3 (r : Fin 128) (l : Fin 256) (h : 128 * 3 + r.val < 512) :
    k0_pay9 (F := Ideal) a b c d e u w g k (ix2 ⟨128 * 3 + r.val, h⟩ l) = ∑ x : Fin 128, qtab a b c g r x * k (ix5 0 0 0 l x) := by
  refine (p9 a b c d e u w g k _ l).trans (Finset.sum_congr rfl fun x _ => congrArg (· * _) ?_)
  dsimp only
  rw [dif_neg (by omega), dif_neg (by omega), dif_neg (by omega)]
  exact congrArg (fun r => qtab a b c g r x) (Fin.ext (by show 128 * 3 + r.val - 128 - 128 - 128 = r.val; omega))
end

/-- The four heads' columns of the query block. -/
theorem ld_h0 (x : Vec Ideal S1x128x512 .f32) (r l : Fin 128) : View.ld x rh0 (ix3 0 r l) = x (ix3 0 r ⟨128 * 0 + l.val, by omega⟩) := by
  refine congrArg x (funext fun a => Fin.ext ?_)
  match a with
  | ⟨0, _⟩ => rfl
  | ⟨1, _⟩ => show 0 + 1 * r.val = r.val; omega
  | ⟨2, _⟩ => show 0 + 1 * l.val = 128 * 0 + l.val; omega
theorem ld_h1 (x : Vec Ideal S1x128x512 .f32) (r l : Fin 128) : View.ld x rh1 (ix3 0 r l) = x (ix3 0 r ⟨128 * 1 + l.val, by omega⟩) := by
  refine congrArg x (funext fun a => Fin.ext ?_)
  match a with
  | ⟨0, _⟩ => rfl
  | ⟨1, _⟩ => show 0 + 1 * r.val = r.val; omega
  | ⟨2, _⟩ => show 128 + 1 * l.val = 128 * 1 + l.val; omega
theorem ld_h2 (x : Vec Ideal S1x128x512 .f32) (r l : Fin 128) : View.ld x rh2 (ix3 0 r l) = x (ix3 0 r ⟨128 * 2 + l.val, by omega⟩) := by
  refine congrArg x (funext fun a => Fin.ext ?_)
  match a with
  | ⟨0, _⟩ => rfl
  | ⟨1, _⟩ => show 0 + 1 * r.val = r.val; omega
  | ⟨2, _⟩ => show 256 + 1 * l.val = 128 * 2 + l.val; omega
theorem ld_h3 (x : Vec Ideal S1x128x512 .f32) (r l : Fin 128) : View.ld x rh3 (ix3 0 r l) = x (ix3 0 r ⟨128 * 3 + l.val, by omega⟩) := by
  refine congrArg x (funext fun a => Fin.ext ?_)
  match a with
  | ⟨0, _⟩ => rfl
  | ⟨1, _⟩ => show 0 + 1 * r.val = r.val; omega
  | ⟨2, _⟩ => show 384 + 1 * l.val = 128 * 3 + l.val; omega

/-- A score of the stacked heads, by the rotated queries and the block of compressed keys. -/
theorem score_at (x0 : Vec Ideal S1x128x512 .f32) (x1 x2 x3 : Vec Ideal S1x128x128 .f32)
    (x4 : Vec Ideal S1x1x1x256x128 .bf16) (cs sn : Fin 128 → Fin 16 → EReal)
    (h1 : ∀ r l, x1 (ix3 0 r l) = tabC (cs r) l) (h2 : ∀ r l, x2 (ix3 0 r l) = tabA (sn r) l) (h3 : ∀ r l, x3 (ix3 0 r l) = tabB (sn r) l)
    (hh : Fin 4) (r : Fin 128) (j : Fin 256) :
    scoreOf (F := Ideal) x0 x1 x2 x3 x4 (ix2 ⟨128 * hh.val + r.val, by omega⟩ j)
      = (∑ l, rope (cs r) (sn r) (fun l => x0 (ix3 0 r ⟨128 * hh.val + l.val, by omega⟩)) l * x4 (ix5 0 0 0 j l)) * scl := by
  obtain ⟨s, hs, es⟩ := Cert.WinAtt.scl_real
  rw [es, ← Cert.WinAtt.dot_scale _ _ hs, ← es]
  unfold scoreOf
  match hh with
  | ⟨0, _⟩ =>
    refine (p9_0 _ _ _ _ _ _ _ _ _ r j _).trans (Finset.sum_congr rfl fun l _ => congrArg (· * _) ?_)
    rw [p5, h1, h2, h3, ld_h0, ld_h0, ld_h0, ← rope_tabs (cs r) (sn r) _ l (Nat.mod_lt _ (by decide)) (Nat.mod_lt _ (by decide))]
  | ⟨1, _⟩ =>
    refine (p9_1 _ _ _ _ _ _ _ _ _ r j _).trans (Finset.sum_congr rfl fun l _ => congrArg (· * _) ?_)
    rw [p6, h1, h2, h3, ld_h1, ld_h1, ld_h1, ← rope_tabs (cs r) (sn r) _ l (Nat.mod_lt _ (by decide)) (Nat.mod_lt _ (by decide))]
  | ⟨2, _⟩ =>
    refine (p9_2 _ _ _ _ _ _ _ _ _ r j _).trans (Finset.sum_congr rfl fun l _ => congrArg (· * _) ?_)
    unfold qpart
    rw [p8, p7, p7, p3, p4, h1, h2, h3, ld_h2, ld_h2, ld_h2, ← rope_tabs (cs r) (sn r) _ l (Nat.mod_lt _ (by decide)) (Nat.mod_lt _ (by decide))]
  | ⟨3, _⟩ =>
    refine (p9_3 _ _ _ _ _ _ _ _ _ r j _).trans (Finset.sum_congr rfl fun l _ => congrArg (· * _) ?_)
    unfold qtab
    rw [p2, p3, p4, h1, h2, h3, ld_h3, ld_h3, ld_h3, ← rope_tabs (cs r) (sn r) _ l (Nat.mod_lt _ (by decide)) (Nat.mod_lt _ (by decide))]

/-! ### The attention over the blocks -/

/-- The mask's constant stands for the bottom element. -/
theorem mask_bot : Named.named (F := Ideal) κ "mask" (φ := .f32) 4048155338#32 = ⊥ :=
  IdealRules.named_const.ideal_named_scalar _ _ _ _ rfl

/-- The softmax of one row, with the mask as a word, against a column of the values. -/
def rowAtt (M : Fin 256 → BitVec 1) (S v : Fin 256 → EReal) : EReal :=
  ∑ x, Ideal.div (Scalar.select (M x) (Ideal.exp (Scalar.select (M x) (S x) (Named.named (F := Ideal) κ "mask" (φ := .f32) 4048155338#32) - Finset.fold max (Ideal.ofBits .f32 4286578688#32) (fun x => Scalar.select (M x) (S x) (Named.named (F := Ideal) κ "mask" (φ := .f32) 4048155338#32)) Finset.univ)) 0)
    (max (∑ x, Scalar.select (M x) (Ideal.exp (Scalar.select (M x) (S x) (Named.named (F := Ideal) κ "mask" (φ := .f32) 4048155338#32) - Finset.fold max (Ideal.ofBits .f32 4286578688#32) (fun x => Scalar.select (M x) (S x) (Named.named (F := Ideal) κ "mask" (φ := .f32) 4048155338#32)) Finset.univ)) 0) eps) * v x

theorem p12 (s : FVec Ideal S512x256 .f32) (M : IVec S512x256 1) (v : Vec Ideal S1x1x1x256x128 .bf16) (r : Fin 512) (l : Fin 128) :
    k0_pay12 (F := Ideal) s M v (ix2 r l)
      = rowAtt (fun x => M (ix2 r x)) (fun x => s (ix2 r x)) (fun x => v (ix5 0 0 0 x l)) := by
  have e := fun x => kv_cast v x l
  unfold rowAtt eps k0_pay12
  revert e
  generalize shapeCast S256x128 v shapeCasts_S1x1x1x256x128_S256x128 = vs
  intro e
  simp only [← e]
  pointwise [k0_pay11]

theorem p10 (w : BitVec 32) (r : Fin 512) (l : Fin 256) :
    k0_pay10 w (ix2 r l) = IntOp.andi (IntOp.cmpi CmpIPredicate.sle (IntOp.addi (IntOp.muli (BitVec.ofNat 32 l.val) 16#32) 31#32)
        (IntOp.addi (Scalar.muli w 128#32) (IntOp.andi (BitVec.ofNat 32 r.val) 127#32))) (IntOp.cmpi CmpIPredicate.slt (BitVec.ofNat 32 l.val) 255#32) := by
  pointwise [k0_pay10]

/-- The query position's word. -/
theorem qry_word (n : Fin 32) (r : Fin 512) :
    IntOp.addi (Scalar.muli (BitVec.ofNat 32 n.val) 128#32) (IntOp.andi (BitVec.ofNat 32 r.val) 127#32)
      = BitVec.ofNat 32 (128 * n.val + r.val % 128) := by
  have h : ∀ n : Fin 32, Scalar.muli (BitVec.ofNat 32 n.val) 128#32 = BitVec.ofNat 32 (128 * n.val) := by decide +kernel
  have h' : ∀ r : Fin 512, IntOp.andi (BitVec.ofNat 32 r.val) 127#32 = BitVec.ofNat 32 (r.val % 128) := by decide +kernel
  rw [h n, h' r]
  exact (BitVec.ofNat_add _ _).symm

theorem word_bot' : Ideal.ofBits .f32 4286578688#32 = ⊥ := by
  simp [Ideal.ofBits, Ideal.ieee]

/-- The row's softmax over the 256 rows is the attention over the blocks. -/
theorem rowAtt_eq (t : Fin 4096) (S v : Fin 256 → EReal) (M : Fin 256 → BitVec 1) (hM : ∀ j, M j = if seenF t j then 1#1 else 0#1) :
    rowAtt M S v = attend (seen t) eps (fun n => S (Cert.CmpAtt.up n)) (fun n => v (Cert.CmpAtt.up n)) := by
  rw [← Cert.CmpAtt.attend_rows]
  have hm : ∀ j, Scalar.select (M j) (S j) (Named.named (F := Ideal) κ "mask" (φ := .f32) 4048155338#32) = Cert.WinAtt.msk (seenF t) S j := fun j => by
    rw [hM, Cert.WinAtt.select_ite, mask_bot]; rfl
  unfold rowAtt
  rw [word_bot']
  simp only [hm]
  have hw : ∀ j, Scalar.select (M j) (Ideal.exp (Cert.WinAtt.msk (seenF t) S j - Finset.fold max ⊥ (fun j => Cert.WinAtt.msk (seenF t) S j) Finset.univ)) 0
      = Cert.WinAtt.wt (seenF t) S j := fun j => by
    rw [hM, Cert.WinAtt.select_ite]
    by_cases h : seenF t j
    · rw [if_pos h]; rfl
    · rw [if_neg h, Cert.WinAtt.wt_off (seenF t) S j h]
  simp only [hw]
  rfl

/-- The attention of the stacked heads at row `r`: the attention of query position `t` over the blocks. -/
theorem att_at (i : grid0.Coords) (n : Fin 32) (hn : (i 2).val = n.val) (s : FVec Ideal S512x256 .f32) (x5 : Vec Ideal S1x1x1x256x128 .bf16)
    (hh : Fin 4) (r d : Fin 128) (t : Fin 4096) (ht : t.val = 128 * n.val + r.val) (S v : Fin 256 → EReal)
    (hS : ∀ j, s (ix2 ⟨128 * hh.val + r.val, by omega⟩ j) = S j) (hv : ∀ k, x5 (ix5 0 0 0 k d) = v k) :
    attOf (F := Ideal) i s x5 (ix2 ⟨128 * hh.val + r.val, by omega⟩ d)
      = attend (seen t) eps (fun n => S (Cert.CmpAtt.up n)) (fun n => v (Cert.CmpAtt.up n)) := by
  unfold attOf
  rw [p12, ← rowAtt_eq t S v (fun x => k0_pay10 (wT i) (ix2 ⟨128 * hh.val + r.val, by omega⟩ x)) ?_]
  · exact congrArg₂ (rowAtt _) (funext hS) (funext hv)
  · intro j
    rw [p10, show wT i = BitVec.ofNat 32 n.val from congrArg (BitVec.ofNat 32) hn, qry_word, Cert.CmpAtt.last_ker, Cert.CmpAtt.lt_word,
      Cert.CmpAtt.sle_word _ _ (by omega) (by dsimp only; omega), Cert.CmpAtt.and_word]
    dsimp only
    rw [show 128 * n.val + (128 * hh.val + r.val) % 128 = t.val by omega]

/-! ### The gates and the output block -/

/-- A sum over the lanes that keeps lane `w`. -/
theorem lane_sum (f : Fin 128 → EReal) (w : BitVec 32) (n : Fin 128) (hw : w = BitVec.ofNat 32 n.val) :
    ∑ x : Fin 128, Scalar.select (IntOp.cmpi CmpIPredicate.eq (BitVec.ofNat 32 x.val) w) (f x) 0 = f n := by
  have h : ∀ x : Fin 128, IntOp.cmpi CmpIPredicate.eq (BitVec.ofNat 32 x.val) w = if x = n then 1#1 else 0#1 := fun x => by
    subst hw
    revert x n
    decide +kernel
  simp only [h, Cert.WinAtt.select_ite]
  rw [Finset.sum_ite_eq' Finset.univ n f, if_pos (Finset.mem_univ n)]

/-- The gate by the lane of the block of gates. -/
def lgate (x : Vec Ideal S1x128x128 .f32) (r n : Fin 128) : EReal := Ideal.div 1 (1 + Ideal.exp (-x (ix3 0 r n)))

section
variable (g : Fin 2) (o : FVec Ideal S512x128 .f32) (x6 : Vec Ideal S1x128x128 .f32) (r l : Fin 128)

theorem p16 (a : FVec Ideal S128x128 .f32) (q : FVec Ideal S128x1 .f32) :
    k0_pay16 (F := Ideal) a q (ix3 0 r l) = a (ix2 r l) * Ideal.div 1 (q (ix2 r 0)) := by
  pointwise [k0_pay16]

theorem p14 (s : FVec Ideal S512x256 .f32) (M : IVec S512x256 1) (v : Vec Ideal S1x1x1x256x128 .bf16) :
    k0_pay14 (F := Ideal) s M v (ix2 r l) = k0_pay12 (F := Ideal) s M v (ix2 ⟨r.val, by omega⟩ l) := by
  unfold k0_pay14
  generalize k0_pay12 (F := Ideal) s M v = o
  pointwise

theorem p15 (w : BitVec 32) : k0_pay15 (F := Ideal) w x6 (ix2 r 0)
    = 1 + Ideal.exp (0 - ∑ x : Fin 128, Scalar.select (IntOp.cmpi CmpIPredicate.eq (BitVec.ofNat 32 x.val) (Scalar.addi (Scalar.muli (Scalar.addi (Scalar.muli w 4#32) 0#32) 3#32) 0#32)) (x6 (ix3 0 r x)) 0) := by
  pointwise [k0_pay15, k0_pay13]

theorem p17 (w : BitVec 32) (v : FVec Ideal S128x128 .f32) : k0_pay17 (F := Ideal) w o v (ix3 0 r l)
    = o (ix2 ⟨128 + r.val, by omega⟩ l) * Ideal.div 1 (1 + Ideal.exp (0 - ∑ x : Fin 128, Scalar.select (IntOp.cmpi CmpIPredicate.eq (BitVec.ofNat 32 x.val)
        (Scalar.addi (Scalar.muli (Scalar.addi (Scalar.muli w 4#32) 1#32) 3#32) 0#32)) (v (ix2 r x)) 0)) := by
  pointwise [k0_pay17]

theorem p18 (w : BitVec 32) (v : FVec Ideal S128x128 .f32) : k0_pay18 (F := Ideal) o v w (iota .tc S128x128 32 [1] iota_S128x128_d1_w32) (ix3 0 r l)
    = o (ix2 ⟨256 + r.val, by omega⟩ l) * Ideal.div 1 (1 + Ideal.exp (0 - ∑ x : Fin 128, Scalar.select (IntOp.cmpi CmpIPredicate.eq (BitVec.ofNat 32 x.val)
        w) (v (ix2 r x)) 0)) := by
  pointwise [k0_pay18]

theorem p1 (w : BitVec 32) (v : FVec Ideal S128x128 .f32) : k0_pay20 (F := Ideal) (k0_pay19 w o v) (ix3 0 r l)
    = o (ix2 ⟨384 + r.val, by omega⟩ l) * Ideal.div 1 (1 + Ideal.exp (0 - ∑ x : Fin 128, Scalar.select (IntOp.cmpi CmpIPredicate.eq (BitVec.ofNat 32 x.val)
        (Scalar.addi (Scalar.muli (Scalar.addi (Scalar.muli w 4#32) 3#32) 3#32) 0#32)) (v (ix2 r x)) 0)) := by
  pointwise [k0_pay20, k0_pay19]

/-- The gates' lanes as words. -/
theorem lane_word : ∀ (g : Fin 2) (hh : Fin 4),
    Scalar.addi (Scalar.muli (Scalar.addi (Scalar.muli (BitVec.ofNat 32 g.val) 4#32) (BitVec.ofNat 32 hh.val)) 3#32) 0#32 = BitVec.ofNat 32 ((g.val * 4 + hh.val) * 3) := by
  decide +kernel
end

/-- The lane of the gate of head `hh` of group `g`. -/
abbrev lane (g : Fin 2) (hh : Fin 4) : Fin 128 := ⟨(g.val * 4 + hh.val) * 3, by omega⟩

/-- Each head's store at an index: its attention times its gate. -/
theorem head_3 (g : Fin 2) (o : FVec Ideal S512x128 .f32) (x6 : Vec Ideal S1x128x128 .f32) (r l : Fin 128) :
    k0_pay20 (F := Ideal) (k0_pay19 (BitVec.ofNat 32 g.val) o (k0_pay13 x6)) (ix3 0 r l)
      = o (ix2 ⟨128 * (3 : Fin 4).val + r.val, by show 128 * 3 + r.val < 512; omega⟩ l) * lgate x6 r (lane g 3) := by
  rw [p1]
  simp only [p13]
  rw [lane_sum _ _ (lane g 3)
    (show Scalar.addi (Scalar.muli (Scalar.addi (Scalar.muli (BitVec.ofNat 32 g.val) 4#32) 3#32) 3#32) 0#32 = BitVec.ofNat 32 (lane g 3).val from lane_word g 3), zero_sub]
  rfl
theorem head_2 (g : Fin 2) (o : FVec Ideal S512x128 .f32) (x6 : Vec Ideal S1x128x128 .f32) (r l : Fin 128) :
    k0_pay18 (F := Ideal) o (k0_pay13 x6) (Scalar.addi (Scalar.muli (Scalar.addi (Scalar.muli (BitVec.ofNat 32 g.val) 4#32) 2#32) 3#32) 0#32)
        (iota .tc S128x128 32 [1] iota_S128x128_d1_w32) (ix3 0 r l)
      = o (ix2 ⟨128 * (2 : Fin 4).val + r.val, by show 128 * 2 + r.val < 512; omega⟩ l) * lgate x6 r (lane g 2) := by
  rw [p18]
  simp only [p13]
  rw [lane_sum _ _ (lane g 2)
    (show Scalar.addi (Scalar.muli (Scalar.addi (Scalar.muli (BitVec.ofNat 32 g.val) 4#32) 2#32) 3#32) 0#32 = BitVec.ofNat 32 (lane g 2).val from lane_word g 2), zero_sub]
  rfl
theorem head_1 (g : Fin 2) (o : FVec Ideal S512x128 .f32) (x6 : Vec Ideal S1x128x128 .f32) (r l : Fin 128) :
    k0_pay17 (F := Ideal) (BitVec.ofNat 32 g.val) o (k0_pay13 x6) (ix3 0 r l)
      = o (ix2 ⟨128 * (1 : Fin 4).val + r.val, by show 128 * 1 + r.val < 512; omega⟩ l) * lgate x6 r (lane g 1) := by
  rw [p17]
  simp only [p13]
  rw [lane_sum _ _ (lane g 1)
    (show Scalar.addi (Scalar.muli (Scalar.addi (Scalar.muli (BitVec.ofNat 32 g.val) 4#32) 1#32) 3#32) 0#32 = BitVec.ofNat 32 (lane g 1).val from lane_word g 1), zero_sub]
  rfl
theorem head_0 (g : Fin 2) (s : FVec Ideal S512x256 .f32) (M : IVec S512x256 1) (v : Vec Ideal S1x1x1x256x128 .bf16) (x6 : Vec Ideal S1x128x128 .f32) (r l : Fin 128) :
    k0_pay16 (F := Ideal) (k0_pay14 s M v) (k0_pay15 (BitVec.ofNat 32 g.val) x6) (ix3 0 r l)
      = k0_pay12 (F := Ideal) s M v (ix2 ⟨128 * (0 : Fin 4).val + r.val, by show 128 * 0 + r.val < 512; omega⟩ l) * lgate x6 r (lane g 0) := by
  rw [p16, p14, p15, lane_sum _ _ (lane g 0)
    (show Scalar.addi (Scalar.muli (Scalar.addi (Scalar.muli (BitVec.ofNat 32 g.val) 4#32) 0#32) 3#32) 0#32 = BitVec.ofNat 32 (lane g 0).val from lane_word g 0), zero_sub]
  exact congrArg (· * _) (congrArg (fun z => k0_pay12 (F := Ideal) s M v (ix2 z l)) (Fin.ext (by show r.val = 128 * 0 + r.val; omega)))

/-- The output block at an index: the attention of the stacked heads times the head's gate. -/
theorem out_at (i : grid0.Coords) (g : Fin 2) (hg : (i 1).val = g.val) (s : FVec Ideal S512x256 .f32) (x5 : Vec Ideal S1x1x1x256x128 .bf16) (x6 : Vec Ideal S1x128x128 .f32)
    (T : S1x128x512.Idx → EReal)
    (hT : ∀ (hh : Fin 4) (r l : Fin 128), attOf (F := Ideal) i s x5 (ix2 ⟨128 * hh.val + r.val, by omega⟩ l) * lgate x6 r (lane g hh)
      = T (ix3 0 r ⟨128 * hh.val + l.val, by omega⟩)) (y : S1x128x512.Idx) :
    View.canon (Val := Elt Ideal) (pieces (F := Ideal) i s x5 x6) y = T y := by
  have hw : wG i = BitVec.ofNat 32 g.val := congrArg (BitVec.ofNat 32) hg
  have ex : ∀ x : S1x128x128.Idx, x = ix3 0 (x 1) (x 2) := fun x =>
    (eq_ix3 x).trans (congrArg (fun z => ix3 z (x 1) (x 2)) (Fin.ext (Nat.lt_one_iff.mp (x 0).isLt)))
  have et : ∀ (x : S1x128x128.Idx) (off : Nat) (hh : Fin 4) (hoff : off = 128 * hh.val) (z : S1x128x512.Idx),
      (z 0).val = 0 + 1 * (x 0).val → (z 1).val = 0 + 1 * (x 1).val → (z 2).val = off + 1 * (x 2).val →
      T (ix3 0 (x 1) ⟨128 * hh.val + (x 2).val, by have h := hh.isLt; have h2 : (x 2).val < 128 := (x 2).isLt; omega⟩) = T z := fun x off hh hoff z h0 h1 h2 => by
    refine congrArg T (funext fun a => Fin.ext ?_)
    match a with
    | ⟨0, _⟩ => have : (x 0).val < 1 := (x 0).isLt; show 0 = (z 0).val; omega
    | ⟨1, _⟩ => show (x 1).val = (z 1).val; omega
    | ⟨2, _⟩ => show 128 * hh.val + (x 2).val = (z 2).val; omega
  refine View.canon_apply_of_pieces (Val := Elt Ideal) T _ (fun p hp => ?_) y (cover_out i s x5 x6 y)
  unfold pieces at hp
  rw [hw] at hp
  simp only [List.mem_cons, List.not_mem_nil, or_false] at hp
  rcases hp with rfl | rfl | rfl | rfl
  · exact fun x : S1x128x128.Idx => (congrArg _ (ex x)).trans ((head_3 g _ x6 (x 1) (x 2)).trans ((hT 3 (x 1) (x 2)).trans (et x 384 3 rfl _ rfl rfl rfl)))
  · exact fun x : S1x128x128.Idx => (congrArg _ (ex x)).trans ((head_2 g _ x6 (x 1) (x 2)).trans ((hT 2 (x 1) (x 2)).trans (et x 256 2 rfl _ rfl rfl rfl)))
  · exact fun x : S1x128x128.Idx => (congrArg _ (ex x)).trans ((head_1 g _ x6 (x 1) (x 2)).trans ((hT 1 (x 1) (x 2)).trans (et x 128 1 rfl _ rfl rfl rfl)))
  · exact fun x : S1x128x128.Idx => (congrArg _ (ex x)).trans ((head_0 g s _ _ x6 (x 1) (x 2)).trans ((hT 0 (x 1) (x 2)).trans (et x 0 0 rfl _ rfl rfl rfl)))

end Cert.Kernel5Ideal.Cmp

end
-- ==== Proof.Cmp.Value.lean ====
/- The compressed attention's result: the blocks of a grid point, the output block it leaves, the whole result array, and
   the kernel's run with it. -/
module

public import proofs.«01_k».proof.Proof.Gen.Reference5Ideal.Read
public import proofs.«01_k».proof.Proof.Cmp.Pay
public import Idealize.ShloMosaic.Lib.Pointwise

@[expose] public section

set_option maxRecDepth 16384

noncomputable section

open Idealize.ShloMosaic Idealize.ShloMosaic.TcCoe Idealize.ShloMosaic.Tactic Idealize.SL.Sem

namespace Cert.Kernel5Ideal.Cmp
open Cert.Kernel5Ideal Cert.Kernel5Ideal.Gen Cert.Kernel5Ideal.Value
open Idealize.ShloMosaic.Pipeline (Dat)
open Cert.WinAtt (rope tabC tabA tabB scl eps attend)
variable (m : (ℓ : Loc nD τ sig) → Buf (Elt Ideal) ℓ) (ρ : Dev nD → PrngReg)

/-- The tables of cosines and of sines. -/
abbrev csn (c : Dev nD) : S4x4096x16.Idx → EReal := Cert.Reference5Ideal.Read.val_main_v16 (F := Ideal) (m ((c : Thread nD τ).loc main_arg1))
abbrev snn (c : Dev nD) : S4x4096x16.Idx → EReal := Cert.Reference5Ideal.Read.val_main_v18 (F := Ideal) (m ((c : Thread nD τ).loc main_arg1))

/-- The three tables the kernel's blocks are cut from, as the host makes them. -/
theorem V_c (c : Dev nD) : V m c main_v20 = concatenate S4x4096x128 2 [⟨S4x4096x16, csn m c⟩, ⟨S4x4096x16, csn m c⟩,
    ⟨S4x4096x96, (broadcastInDim S4x4096x96 ![] bcast_S_S4x4096x96 (constant S_ .f32 0x3F800000#32 : FVec Ideal S_ .f32) : FVec Ideal S4x4096x96 .f32)⟩] concatenates_S4x4096x16_S4x4096x16_S4x4096x96_S4x4096x128_d2 := by
  unfold V; after_results <;> rfl

theorem V_a (c : Dev nD) : V m c main_v22 = concatenate S4x4096x128 2 [⟨S4x4096x16, Host.negf (F := Ideal) (φ := .f32) (snn m c)⟩,
    ⟨S4x4096x112, (broadcastInDim S4x4096x112 ![] bcast_S_S4x4096x112 (constant S_ .f32 0#32 : FVec Ideal S_ .f32) : FVec Ideal S4x4096x112 .f32)⟩] concatenates_S4x4096x16_S4x4096x112_S4x4096x128_d2 := by
  unfold V; after_results <;> rfl

theorem V_b (c : Dev nD) : V m c main_v25 = concatenate S4x4096x128 2 [⟨S4x4096x16, (broadcastInDim S4x4096x16 ![] bcast_S_S4x4096x16 (constant S_ .f32 0#32 : FVec Ideal S_ .f32) : FVec Ideal S4x4096x16 .f32)⟩,
    ⟨S4x4096x16, snn m c⟩, ⟨S4x4096x96, extractStridedSlice S4x4096x96 ![0, 0, 0] (broadcastInDim S4x4096x112 ![] bcast_S_S4x4096x112 (constant S_ .f32 0#32 : FVec Ideal S_ .f32) : FVec Ideal S4x4096x112 .f32) slices_S4x4096x112_S4x4096x96_0_0_0⟩] concatenates_S4x4096x16_S4x4096x16_S4x4096x96_S4x4096x128_d2 := by
  unfold V; after_results <;> rfl

/-- Those tables at an index. -/
theorem tab_c (C : FVec Ideal S4x4096x16 .f32) (b : Fin 4) (t : Fin 4096) (l : Fin 128) : (concatenate S4x4096x128 2 [⟨S4x4096x16, C⟩, ⟨S4x4096x16, C⟩,
    ⟨S4x4096x96, (broadcastInDim S4x4096x96 ![] bcast_S_S4x4096x96 (constant S_ .f32 0x3F800000#32 : FVec Ideal S_ .f32) : FVec Ideal S4x4096x96 .f32)⟩] concatenates_S4x4096x16_S4x4096x16_S4x4096x96_S4x4096x128_d2 : FVec Ideal S4x4096x128 .f32) (ix3 b t l)
      = tabC (fun j => C (ix3 b t j)) l := by
  pointwise [tabC]

theorem tab_a (C : FVec Ideal S4x4096x16 .f32) (b : Fin 4) (t : Fin 4096) (l : Fin 128) : (concatenate S4x4096x128 2 [⟨S4x4096x16, Host.negf C⟩,
    ⟨S4x4096x112, (broadcastInDim S4x4096x112 ![] bcast_S_S4x4096x112 (constant S_ .f32 0#32 : FVec Ideal S_ .f32) : FVec Ideal S4x4096x112 .f32)⟩] concatenates_S4x4096x16_S4x4096x112_S4x4096x128_d2 : FVec Ideal S4x4096x128 .f32) (ix3 b t l)
      = tabA (fun j => C (ix3 b t j)) l := by
  pointwise [tabA]

theorem tab_b (C : FVec Ideal S4x4096x16 .f32) (b : Fin 4) (t : Fin 4096) (l : Fin 128) : (concatenate S4x4096x128 2 [⟨S4x4096x16, (broadcastInDim S4x4096x16 ![] bcast_S_S4x4096x16 (constant S_ .f32 0#32 : FVec Ideal S_ .f32) : FVec Ideal S4x4096x16 .f32)⟩,
    ⟨S4x4096x16, C⟩, ⟨S4x4096x96, extractStridedSlice S4x4096x96 ![0, 0, 0] (broadcastInDim S4x4096x112 ![] bcast_S_S4x4096x112 (constant S_ .f32 0#32 : FVec Ideal S_ .f32) : FVec Ideal S4x4096x112 .f32) slices_S4x4096x112_S4x4096x96_0_0_0⟩] concatenates_S4x4096x16_S4x4096x16_S4x4096x96_S4x4096x128_d2 : FVec Ideal S4x4096x128 .f32) (ix3 b t l)
      = tabB (fun j => C (ix3 b t j)) l := by
  pointwise [tabB]

/-- The windows' block indices at a grid point. -/
theorem idx_a : ∀ t : Fin cfg0.N, (win0_0.index t 0 = t.val / 64 ∧ win0_0.index t 1 = t.val % 32 ∧ win0_0.index t 2 = t.val / 32 % 2)
    ∧ (win0_1.index t 0 = t.val / 64 ∧ win0_1.index t 1 = t.val % 32 ∧ win0_1.index t 2 = 0)
    ∧ (win0_2.index t 0 = t.val / 64 ∧ win0_2.index t 1 = t.val % 32 ∧ win0_2.index t 2 = 0)
    ∧ (win0_3.index t 0 = t.val / 64 ∧ win0_3.index t 1 = t.val % 32 ∧ win0_3.index t 2 = 0)
    ∧ (win0_6.index t 0 = t.val / 64 ∧ win0_6.index t 1 = t.val % 32 ∧ win0_6.index t 2 = 52)
    ∧ (win0_7.index t 0 = t.val / 64 ∧ win0_7.index t 1 = t.val % 32 ∧ win0_7.index t 2 = t.val / 32 % 2) :=
  (by decide +kernel : ∀ t : Fin grid0.N, (win0_0.index t 0 = t.val / 64 ∧ win0_0.index t 1 = t.val % 32 ∧ win0_0.index t 2 = t.val / 32 % 2)
    ∧ (win0_1.index t 0 = t.val / 64 ∧ win0_1.index t 1 = t.val % 32 ∧ win0_1.index t 2 = 0)
    ∧ (win0_2.index t 0 = t.val / 64 ∧ win0_2.index t 1 = t.val % 32 ∧ win0_2.index t 2 = 0)
    ∧ (win0_3.index t 0 = t.val / 64 ∧ win0_3.index t 1 = t.val % 32 ∧ win0_3.index t 2 = 0)
    ∧ (win0_6.index t 0 = t.val / 64 ∧ win0_6.index t 1 = t.val % 32 ∧ win0_6.index t 2 = 52)
    ∧ (win0_7.index t 0 = t.val / 64 ∧ win0_7.index t 1 = t.val % 32 ∧ win0_7.index t 2 = t.val / 32 % 2))

theorem idx_b : ∀ t : Fin cfg0.N, (win0_4.index t 0 = t.val / 64 ∧ win0_4.index t 1 = 0 ∧ win0_4.index t 2 = t.val / 32 % 2 ∧ win0_4.index t 3 = 0 ∧ win0_4.index t 4 = 0)
    ∧ (win0_5.index t 0 = t.val / 64 ∧ win0_5.index t 1 = 1 ∧ win0_5.index t 2 = t.val / 32 % 2 ∧ win0_5.index t 3 = 0 ∧ win0_5.index t 4 = 0) :=
  (by decide +kernel : ∀ t : Fin grid0.N, (win0_4.index t 0 = t.val / 64 ∧ win0_4.index t 1 = 0 ∧ win0_4.index t 2 = t.val / 32 % 2 ∧ win0_4.index t 3 = 0 ∧ win0_4.index t 4 = 0)
    ∧ (win0_5.index t 0 = t.val / 64 ∧ win0_5.index t 1 = 1 ∧ win0_5.index t 2 = t.val / 32 % 2 ∧ win0_5.index t 3 = 0 ∧ win0_5.index t 4 = 0))

theorem lt256 (t : Fin cfg0.N) : t.val < 256 := Nat.lt_of_lt_of_eq t.isLt N_0

/-- The batch, the key group and the query block of a grid point, and a query position in the block. -/
abbrev tb (t : Fin cfg0.N) : Fin 4 := ⟨t.val / 64, by have := lt256 t; omega⟩
abbrev tg (t : Fin cfg0.N) : Fin 2 := ⟨t.val / 32 % 2, by omega⟩
abbrev tn (t : Fin cfg0.N) : Fin 32 := ⟨t.val % 32, by omega⟩
abbrev tq (t : Fin cfg0.N) (r : Fin 128) : Fin 4096 := ⟨128 * (t.val % 32) + r.val, by omega⟩

theorem co1 (t : Fin cfg0.N) : (grid0.coords t 1).val = (tg t).val := Pipeline.Grid.coords_val t 1 (by decide) rfl
theorem co2 (t : Fin cfg0.N) : (grid0.coords t 2).val = (tn t).val :=
  (Pipeline.Grid.coords_val t 2 (by decide) rfl : _ = t.val / 1 % 32).trans (by rw [Nat.div_one])

/-- The projections' array. -/
abbrev xa (c : Dev nD) : S4x4096x6912.Idx → EReal := m ((c : Thread nD τ).loc main_arg0)

/-- The compressed keys' and values' array. -/
abbrev za (c : Dev nD) : S4x2x2x256x128.Idx → EReal := m ((c : Thread nD τ).loc main_arg2)

/-- The query block. -/
theorem blk0 (c : Dev nD) (t : Fin cfg0.N) (r : Fin 128) (l : Fin 512) :
    (X0_0 m c t : Vec Ideal S1x128x512 .f32) (ix3 0 r l) = xa m c (ix3 (tb t) (tq t r) ⟨512 * (t.val / 32 % 2) + l.val, by omega⟩) := by
  have e := (idx_a t).1
  unfold X0_0 Pipeline.Window.fill
  rw [dif_pos (moved0_0 t _)]
  unfold xa
  rw [← V_main_arg0 m c]
  show V m c main_arg0 _ = _
  refine congrArg _ (funext fun a => Fin.ext ?_)
  match a with
  | ⟨0, _⟩ => show win0_0.index t 0 * 1 + 1 * 0 = t.val / 64; rw [e.1]; omega
  | ⟨1, _⟩ => show win0_0.index t 1 * 128 + 1 * r.val = 128 * (t.val % 32) + r.val; rw [e.2.1]; omega
  | ⟨2, _⟩ => show win0_0.index t 2 * 512 + 1 * l.val = 512 * (t.val / 32 % 2) + l.val; rw [e.2.2]; omega

/-- The query rows of the three tables. -/
theorem blk1 (c : Dev nD) (t : Fin cfg0.N) (r : Fin 128) (l : Fin 128) :
    (iblk m c 1 t : Vec Ideal S1x128x128 .f32) (ix3 0 r l) = tabC (fun j => csn m c (ix3 (tb t) (tq t r) j)) l := by
  have e := (idx_a t).2.1
  rw [← tab_c, ← V_c]
  show V m c main_v20 _ = _
  refine congrArg _ (funext fun a => Fin.ext ?_)
  match a with
  | ⟨0, _⟩ => show win0_1.index t 0 * 1 + 1 * 0 = t.val / 64; rw [e.1]; omega
  | ⟨1, _⟩ => show win0_1.index t 1 * 128 + 1 * r.val = 128 * (t.val % 32) + r.val; rw [e.2.1]; omega
  | ⟨2, _⟩ => show win0_1.index t 2 * 128 + 1 * l.val = l.val; rw [e.2.2]; omega

theorem blk2 (c : Dev nD) (t : Fin cfg0.N) (r : Fin 128) (l : Fin 128) :
    (iblk m c 2 t : Vec Ideal S1x128x128 .f32) (ix3 0 r l) = tabA (fun j => snn m c (ix3 (tb t) (tq t r) j)) l := by
  have e := (idx_a t).2.2.1
  rw [← tab_a, ← V_a]
  show V m c main_v22 _ = _
  refine congrArg _ (funext fun a => Fin.ext ?_)
  match a with
  | ⟨0, _⟩ => show win0_2.index t 0 * 1 + 1 * 0 = t.val / 64; rw [e.1]; omega
  | ⟨1, _⟩ => show win0_2.index t 1 * 128 + 1 * r.val = 128 * (t.val % 32) + r.val; rw [e.2.1]; omega
  | ⟨2, _⟩ => show win0_2.index t 2 * 128 + 1 * l.val = l.val; rw [e.2.2]; omega

theorem blk3 (c : Dev nD) (t : Fin cfg0.N) (r : Fin 128) (l : Fin 128) :
    (iblk m c 3 t : Vec Ideal S1x128x128 .f32) (ix3 0 r l) = tabB (fun j => snn m c (ix3 (tb t) (tq t r) j)) l := by
  have e := (idx_a t).2.2.2.1
  rw [← tab_b, ← V_b]
  show V m c main_v25 _ = _
  refine congrArg _ (funext fun a => Fin.ext ?_)
  match a with
  | ⟨0, _⟩ => show win0_3.index t 0 * 1 + 1 * 0 = t.val / 64; rw [e.1]; omega
  | ⟨1, _⟩ => show win0_3.index t 1 * 128 + 1 * r.val = 128 * (t.val % 32) + r.val; rw [e.2.1]; omega
  | ⟨2, _⟩ => show win0_3.index t 2 * 128 + 1 * l.val = l.val; rw [e.2.2]; omega

/-- The compressed keys and values of the batch and key group. -/
theorem blk4 (c : Dev nD) (t : Fin cfg0.N) (r : Fin 256) (l : Fin 128) :
    (iblk m c 4 t : Vec Ideal S1x1x1x256x128 .bf16) (ix5 0 0 0 r l) = za m c (ix5 (tb t) 0 (tg t) r l) := by
  have e := (idx_b t).1
  unfold za
  rw [← V_main_arg2 m c]
  show V m c main_arg2 _ = _
  refine congrArg _ (funext fun a => Fin.ext ?_)
  match a with
  | ⟨0, _⟩ => show win0_4.index t 0 * 1 + 1 * 0 = t.val / 64; rw [e.1]; omega
  | ⟨1, _⟩ => show win0_4.index t 1 * 1 + 1 * 0 = 0; rw [e.2.1]
  | ⟨2, _⟩ => show win0_4.index t 2 * 1 + 1 * 0 = t.val / 32 % 2; rw [e.2.2.1]; omega
  | ⟨3, _⟩ => show win0_4.index t 3 * 256 + 1 * r.val = r.val; rw [e.2.2.2.1]; omega
  | ⟨4, _⟩ => show win0_4.index t 4 * 128 + 1 * l.val = l.val; rw [e.2.2.2.2]; omega

theorem blk5 (c : Dev nD) (t : Fin cfg0.N) (r : Fin 256) (l : Fin 128) :
    (iblk m c 5 t : Vec Ideal S1x1x1x256x128 .bf16) (ix5 0 0 0 r l) = za m c (ix5 (tb t) 1 (tg t) r l) := by
  have e := (idx_b t).2
  unfold za
  rw [← V_main_arg2 m c]
  show V m c main_arg2 _ = _
  refine congrArg _ (funext fun a => Fin.ext ?_)
  match a with
  | ⟨0, _⟩ => show win0_5.index t 0 * 1 + 1 * 0 = t.val / 64; rw [e.1]; omega
  | ⟨1, _⟩ => show win0_5.index t 1 * 1 + 1 * 0 = 1; rw [e.2.1]
  | ⟨2, _⟩ => show win0_5.index t 2 * 1 + 1 * 0 = t.val / 32 % 2; rw [e.2.2.1]; omega
  | ⟨3, _⟩ => show win0_5.index t 3 * 256 + 1 * r.val = r.val; rw [e.2.2.2.1]; omega
  | ⟨4, _⟩ => show win0_5.index t 4 * 128 + 1 * l.val = l.val; rw [e.2.2.2.2]; omega

/-- The gates' block. -/
theorem blk6 (c : Dev nD) (t : Fin cfg0.N) (r : Fin 128) (l : Fin 128) :
    (iblk m c 6 t : Vec Ideal S1x128x128 .f32) (ix3 0 r l) = xa m c (ix3 (tb t) (tq t r) ⟨6656 + l.val, by omega⟩) := by
  have e := (idx_a t).2.2.2.2.1
  unfold xa
  rw [← V_main_arg0 m c]
  show V m c main_arg0 _ = _
  refine congrArg _ (funext fun a => Fin.ext ?_)
  match a with
  | ⟨0, _⟩ => show win0_6.index t 0 * 1 + 1 * 0 = t.val / 64; rw [e.1]; omega
  | ⟨1, _⟩ => show win0_6.index t 1 * 128 + 1 * r.val = 128 * (t.val % 32) + r.val; rw [e.2.1]; omega
  | ⟨2, _⟩ => show win0_6.index t 2 * 128 + 1 * l.val = 6656 + l.val; rw [e.2.2]; omega

/-- The scores of a grid point. -/
theorem S_at (c : Dev nD) (t : Fin cfg0.N) (hh : Fin 4) (r : Fin 128) (j : Fin 256) :
    scoreOf (F := Ideal) (X0_0 m c t) (iblk m c 1 t) (iblk m c 2 t) (iblk m c 3 t) (iblk m c 4 t) (ix2 ⟨128 * hh.val + r.val, by omega⟩ j)
      = Cert.CmpAtt.scoreF (xa m c) (csn m c) (snn m c) (za m c) (tb t) (tg t) hh (tq t r) j := by
  rw [score_at _ _ _ _ _ _ _ (blk1 m c t) (blk2 m c t) (blk3 m c t) hh r j]
  unfold Cert.CmpAtt.scoreF
  refine congrArg (· * scl) (Finset.sum_congr rfl fun l _ => congrArg₂ (· * ·) ?_ (blk4 m c t j l))
  unfold Cert.WinAtt.qry
  refine congrArg (fun f => rope _ _ f l) (funext fun l => ?_)
  rw [blk0]
  refine congrArg (fun z => xa m c (ix3 (tb t) (tq t r) z)) (Fin.ext ?_)
  show 512 * (t.val / 32 % 2) + (128 * hh.val + l.val) = (t.val / 32 % 2 * 4 + hh.val) * 128 + l.val
  omega

/-- The result array the kernel leaves. -/
abbrev res (c : Dev nD) : Buf (Elt Ideal) ((c : Thread nD τ).loc main_v26_0) :=
  Cert.CmpAtt.G (xa m c) (csn m c) (snn m c) (za m c)

/-- The stores of a grid point into the output block. -/
abbrev PCS (c : Dev nD) (t : Fin cfg0.N) : List (View.Piece (Elt Ideal) S1x128x512 .bf16) :=
  pieces (grid0.coords t) (scoreOf (F := Ideal) (X0_0 m c t) (iblk m c 1 t) (iblk m c 2 t) (iblk m c 3 t) (iblk m c 4 t)) (iblk m c 5 t) (iblk m c 6 t)

/-- The output block of a grid point at head `hh` of the block, row `r` and column `l`. -/
theorem head_out (c : Dev nD) (t : Fin cfg0.N) (hh : Fin 4) (r l : Fin 128) :
    attOf (F := Ideal) (grid0.coords t) (scoreOf (F := Ideal) (X0_0 m c t) (iblk m c 1 t) (iblk m c 2 t) (iblk m c 3 t) (iblk m c 4 t)) (iblk m c 5 t)
        (ix2 ⟨128 * hh.val + r.val, by omega⟩ l) * lgate (iblk m c 6 t) r (lane (tg t) hh)
      = Cert.CmpAtt.out (xa m c) (csn m c) (snn m c) (za m c) (tb t) (tq t r) ⟨512 * (t.val / 32 % 2) + (128 * hh.val + l.val), by omega⟩ := by
  rw [att_at (grid0.coords t) (tn t) (co2 t) _ _ hh r l (tq t r) rfl (Cert.CmpAtt.scoreF (xa m c) (csn m c) (snn m c) (za m c) (tb t) (tg t) hh (tq t r))
    (fun k => za m c (ix5 (tb t) 1 (tg t) k l)) (S_at m c t hh r) (fun k => blk5 m c t k l)]
  have a1 : (512 * (t.val / 32 % 2) + (128 * hh.val + l.val)) / 128 = t.val / 32 % 2 * 4 + hh.val := by omega
  have a2 : (512 * (t.val / 32 % 2) + (128 * hh.val + l.val)) % 128 = l.val := by omega
  unfold Cert.CmpAtt.out
  have b0 : ∀ h, (⟨(512 * (t.val / 32 % 2) + (128 * hh.val + l.val)) / 128, h⟩ : Fin 8) = ⟨t.val / 32 % 2 * 4 + hh.val, by omega⟩ := fun h => Fin.ext a1
  have b1 : ∀ h, (⟨(512 * (t.val / 32 % 2) + (128 * hh.val + l.val)) / 128 / 4, h⟩ : Fin 2) = tg t := fun h => Fin.ext (by
    show (512 * (t.val / 32 % 2) + (128 * hh.val + l.val)) / 128 / 4 = t.val / 32 % 2; omega)
  have b2 : ∀ h, (⟨(512 * (t.val / 32 % 2) + (128 * hh.val + l.val)) / 128 % 4, h⟩ : Fin 4) = hh := fun h => Fin.ext (by
    show (512 * (t.val / 32 % 2) + (128 * hh.val + l.val)) / 128 % 4 = hh.val; omega)
  have b3 : ∀ h, (⟨(512 * (t.val / 32 % 2) + (128 * hh.val + l.val)) % 128, h⟩ : Fin 128) = l := fun h => Fin.ext a2
  dsimp only
  rw [b0, b1, b2, b3]
  unfold Cert.CmpAtt.att Cert.CmpAtt.gate lgate
  rw [blk6, mul_comm]
  rfl

/-- The output block of a grid point, at an index of the block. -/
theorem OUT_at (c : Dev nD) (t : Fin cfg0.N) (y : S1x128x512.Idx) :
    View.canon (Val := Elt Ideal) (PCS m c t) y = Cert.CmpAtt.out (xa m c) (csn m c) (snn m c) (za m c) (tb t) (tq t (y 1)) ⟨512 * (t.val / 32 % 2) + (y 2).val, by have h : (y 2).val < 512 := (y 2).isLt; omega⟩ := by
  exact out_at (grid0.coords t) (tg t) (co1 t) _ _ _
    (fun y => Cert.CmpAtt.out (xa m c) (csn m c) (snn m c) (za m c) (tb t) (tq t (y 1)) ⟨512 * (t.val / 32 % 2) + (y 2).val, by have h : (y 2).val < 512 := (y 2).isLt; omega⟩)
    (head_out m c t) y

/-- What a grid point writes back is its block of the result. -/
theorem flushed_eq (c : Dev nD) (t : Fin cfg0.N) : (dats m 0 c).flushed 7 t = (win0_7.blk t).view.read (Elt Ideal) (res m c) := by
  have hf : (dats m 0 c).flushed 7 t = (cfg0.win 7).cut (grid0.coords t) (View.canon (Val := Elt Ideal) (PCS m c t)) := by
    rw [flushed7_A, out_eq]
  rw [hf]
  have e := (idx_a t).2.2.2.2.2
  funext y
  have e0 : (((cfg0.win 7).blk t).view.emb y) 0 = tb t := Fin.ext (by
    have h : (y 0).val < 1 := (y 0).isLt
    show win0_7.index t 0 * 1 + 1 * (y 0).val = t.val / 64; rw [e.1]; omega)
  have e1 : (((cfg0.win 7).blk t).view.emb y) 1 = tq t (y 1) := Fin.ext (by
    show win0_7.index t 1 * 128 + 1 * (y 1).val = 128 * (t.val % 32) + (y 1).val; rw [e.2.1]; omega)
  have e2 : (((cfg0.win 7).blk t).view.emb y) 2 = (⟨512 * (t.val / 32 % 2) + (y 2).val, by have h : (y 2).val < 512 := (y 2).isLt; omega⟩ : Fin 1024) := Fin.ext (by
    show win0_7.index t 2 * 512 + 1 * (y 2).val = 512 * (t.val / 32 % 2) + (y 2).val; rw [e.2.2]; omega)
  show View.canon (Val := Elt Ideal) (PCS m c t) y = Cert.CmpAtt.out _ _ _ _ ((((cfg0.win 7).blk t).view.emb y) 0) ((((cfg0.win 7).blk t).view.emb y) 1) ((((cfg0.win 7).blk t).view.emb y) 2)
  rw [e0, e1, e2]
  exact OUT_at m c t y

/-- The point whose block holds index `i`. -/
theorem point (i : S4x4096x1024.Idx) : ∃ t : Fin cfg0.N, t.val / 64 = (i 0).val ∧ t.val % 32 = (i 1).val / 128 ∧ t.val / 32 % 2 = (i 2).val / 512 := by
  have h0 : (i 0).val < 4 := (i 0).isLt
  have h1 : (i 1).val < 4096 := (i 1).isLt
  have h2 : (i 2).val < 1024 := (i 2).isLt
  have hN : cfg0.N = 256 := N_0
  obtain ⟨t, ht⟩ : ∃ t : Fin cfg0.N, t.val = 64 * (i 0).val + 32 * ((i 2).val / 512) + (i 1).val / 128 := ⟨⟨64 * (i 0).val + 32 * ((i 2).val / 512) + (i 1).val / 128, by omega⟩, rfl⟩
  exact ⟨t, by omega, by omega, by omega⟩

theorem mem_blk (t : Fin cfg0.N) (i : S4x4096x1024.Idx) (h : t.val / 64 = (i 0).val ∧ t.val % 32 = (i 1).val / 128 ∧ t.val / 32 % 2 = (i 2).val / 512) :
    i ∈ ((cfg0.win 7).blk t).view.set := by
  have e := (idx_a t).2.2.2.2.2
  show i ∈ ((View.whole main_v26_0).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    rw [e.1]; omega
  | ⟨1, _⟩ =>
    show win0_7.index t 1 * 128 ≤ (i 1).val ∧ (i 1).val < win0_7.index t 1 * 128 + 128
    rw [e.2.1]; omega
  | ⟨2, _⟩ =>
    show win0_7.index t 2 * 512 ≤ (i 2).val ∧ (i 2).val < win0_7.index t 2 * 512 + 512
    rw [e.2.2]; omega

/-- The result array after the launch. -/
theorem final (c : Dev nD) : (dats m 0 c).arrAt 7 cfg0.N = res m c :=
  (dats m 0 c).arrAt_eq_of_cover 7 (res m c) (fun t _ => flushed_eq m c t) fun i =>
    (point i).elim fun t h => ⟨t, flush0_7 t, mem_blk t i h⟩

/-- The kernel's run: its result is `G` of the projections, the tables and the compressed keys and values, and the
    arguments end unchanged. -/
theorem run : θ_run defs (onTc (τ := τ) (main (F := Ideal))) ⟨m, fun _ => 0, ρ⟩ fun r => ∀ c : Dev nD,
      r.2.mem ((c : Thread nD τ).loc main_v26_0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2.2⟩) (run_blocks m ρ)

end Cert.Kernel5Ideal.Cmp
end
-- ==== Proof.Cmp.Ref.lean ====
/- The reference of the attention over the compressed keys, at an index: each result is the gate times the attention of its row. -/
module

public import proofs.«01_k».proof.Proof.Cmp.Spec
public import proofs.«01_k».proof.Proof.Gen.Reference5Ideal.Run
public import proofs.«01_k».proof.Proof.Gen.Reference5Ideal.Read
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

namespace Cert.CmpAtt
open Cert.WinAtt hiding score gate att out G

open Cert.Reference5Ideal Cert.Reference5Ideal.Read

variable (x : S4x4096x6912.Idx → EReal) (y : BufTy.Contents (Elt Idealize.ShloMosaic.Ideal) { shape := S4x4096, elt := EltTy.i32 })
  (z : S4x2x2x256x128.Idx → EReal)

/-- The reference's queries. -/
theorem ref_qry (b : Fin 4) (t : Fin 4096) (h : Fin 8) (l : Fin 128) :
    val_main_v35 (F := Ideal) x y (ix4 b t h l) = qry x (val_main_v16 (F := Ideal) y) (val_main_v18 (F := Ideal) y) b t h l := by
  have e : ∀ l : Fin 128, val_main_v21 (F := Ideal) x (ix4 b t h l) = x (ix3 b t ⟨h.val * 128 + l.val, by omega⟩) := fun l => by
    pointwise [val_main_v21, val_main_v20]
  unfold val_main_v35 val_main_v34 val_main_v33 val_main_v32 val_main_v31 val_main_v30 val_main_v29 val_main_v28 val_main_v27 val_main_v26 val_main_v25 val_main_v24 val_main_v23 val_main_v22 val_main_v19 val_main_v17
  unfold qry
  simp only [← e]
  generalize val_main_v16 (F := Ideal) y = C
  generalize val_main_v18 (F := Ideal) y = D
  generalize val_main_v21 (F := Ideal) x = E
  pointwise [rope]

/-- The reference's compressed keys and values. -/
theorem cast_kv (C : S4x1x2x255x128.Idx → EReal) (H : S4x1x2x255x128.ShapeCasts S4x2x255x128) (b : Fin 4) (g : Fin 2) (n : Fin 255) (l : Fin 128) :
    shapeCast S4x2x255x128 C H (ix4 b g n l) = C (ix5 b 0 g n l) := by
  refine shapeCast_apply _ _ _ _ ?_
  rw [Shape.rowMajor_val_four, Shape.rowMajor_val_five]
  show (((b.val * 1 + 0) * 2 + g.val) * 255 + n.val) * 128 + l.val = ((b.val * 2 + g.val) * 255 + n.val) * 128 + l.val
  omega

theorem ref_key (b : Fin 4) (g : Fin 2) (n : Fin 255) (l : Fin 128) :
    val_main_v40 (F := Ideal) z (ix4 b g n l) = z (ix5 b 0 g (up n) l) := by
  have h : val_main_v40 (F := Ideal) z (ix4 b g n l) = val_main_v39 (F := Ideal) z (ix4 b g n l) := rfl
  rw [h]
  unfold val_main_v39
  refine (cast_kv _ _ b g n l).trans ((val_main_v38_apply (F := Ideal) z _).trans (congrArg z (funext fun a => ?_)))
  match a with
  | ⟨0, _⟩ => rfl
  | ⟨1, _⟩ => rfl
  | ⟨2, _⟩ => rfl
  | ⟨3, _⟩ => rfl
  | ⟨4, _⟩ => rfl

theorem ref_val (b : Fin 4) (g : Fin 2) (n : Fin 255) (l : Fin 128) :
    val_main_v43 (F := Ideal) z (ix4 b g n l) = z (ix5 b 1 g (up n) l) := by
  have h : val_main_v43 (F := Ideal) z (ix4 b g n l) = val_main_v42 (F := Ideal) z (ix4 b g n l) := rfl
  rw [h]
  unfold val_main_v42
  refine (cast_kv _ _ b g n l).trans ((val_main_v41_apply (F := Ideal) z _).trans (congrArg z (funext fun a => ?_)))
  match a with
  | ⟨0, _⟩ => rfl
  | ⟨1, _⟩ => rfl
  | ⟨2, _⟩ => rfl
  | ⟨3, _⟩ => rfl
  | ⟨4, _⟩ => rfl

/-- The scalar products of queries and keys. -/
theorem ref_dot (b : Fin 4) (g : Fin 2) (r : Fin 4) (t : Fin 4096) (n : Fin 255) :
    val_main_v44 (F := Ideal) x y z (ix5 b g r t n)
      = ∑ l, val_main_v37 (F := Ideal) x y (ix5 b g r t l) * val_main_v40 (F := Ideal) z (ix4 b g n l) := by
  unfold val_main_v44
  generalize val_main_v37 (F := Ideal) x y = C
  generalize val_main_v40 (F := Ideal) z = D
  pointwise

/-- The reshape of eight heads to two groups of four. -/
theorem cast_heads (C : S4x4096x8x128.Idx → EReal) (H : S4x4096x8x128.ShapeCasts S4x4096x2x4x128) (b : Fin 4) (g : Fin 2) (r : Fin 4) (t : Fin 4096) (l : Fin 128) :
    shapeCast S4x4096x2x4x128 C H (ix5 b t g r l) = C (ix4 b t ⟨g.val * 4 + r.val, by omega⟩ l) := by
  refine shapeCast_apply _ _ _ _ ?_
  rw [Shape.rowMajor_val_four, Shape.rowMajor_val_five]
  show ((b.val * 4096 + t.val) * 8 + (g.val * 4 + r.val)) * 128 + l.val = (((b.val * 4096 + t.val) * 2 + g.val) * 4 + r.val) * 128 + l.val
  omega

/-- The queries by group. -/
theorem ref_heads (b : Fin 4) (g : Fin 2) (r : Fin 4) (t : Fin 4096) (l : Fin 128) :
    val_main_v37 (F := Ideal) x y (ix5 b g r t l) = val_main_v35 (F := Ideal) x y (ix4 b t ⟨g.val * 4 + r.val, by omega⟩ l) := by
  have h : val_main_v37 (F := Ideal) x y (ix5 b g r t l) = val_main_v36 (F := Ideal) x y (ix5 b t g r l) := by
    unfold val_main_v37
    generalize val_main_v36 (F := Ideal) x y = C
    exact transpose_apply _ _ _ _ _ fun a => match a with
      | ⟨0, _⟩ => rfl
      | ⟨1, _⟩ => rfl
      | ⟨2, _⟩ => rfl
      | ⟨3, _⟩ => rfl
      | ⟨4, _⟩ => rfl
  rw [h]
  unfold val_main_v36
  exact cast_heads _ _ b g r t l

/-- The reference's scores. -/
theorem ref_score (b : Fin 4) (g : Fin 2) (r : Fin 4) (t : Fin 4096) (n : Fin 255) :
    val_main_v46 (F := Ideal) x y z (ix5 b g r t n) = score x (val_main_v16 (F := Ideal) y) (val_main_v18 (F := Ideal) y) z b g r t n := by
  have h : val_main_v46 (F := Ideal) x y z (ix5 b g r t n) = val_main_v44 (F := Ideal) x y z (ix5 b g r t n) * scl := by
    rw [val_main_v46_apply, val_main_v45_apply]
    rfl
  rw [h, ref_dot]
  unfold score scoreF
  exact congrArg (· * scl) (Finset.sum_congr rfl fun l _ => congrArg₂ (· * ·) ((ref_heads x y b g r t l).trans (ref_qry x y b t _ l)) (ref_key z b g n l))

/-- The reference's mask. -/
theorem ref_mask (t : Fin 4096) (n : Fin 255) : val_main_v59 (F := Ideal) (ix2 t n) = if seen t n then 1#1 else 0#1 := by
  rw [← sle_word (n.val * 16 + 31) t.val (by omega) (by omega), ← last_ref n]
  pointwise [val_main_v59, val_main_v58, val_main_v57, val_main_v56, val_main_v55, val_main_v54, val_main_v53, val_main_v52, val_main_v51, val_main_v50, val_main_v49, val_main_v48, val_main_v47, val_main_c, val_main_c_4, val_main_c_5]

/-- The float words of minus infinity and of zero. -/
theorem word_bot : Ideal.ofBits .f32 4286578688#32 = ⊥ := by
  simp [Ideal.ofBits, Ideal.ieee]
theorem word_top : Ideal.ofBits .f32 2139095040#32 = ⊤ := by
  simp [Ideal.ofBits, Ideal.ieee]
theorem word_zero : Ideal.ofBits .f32 0#32 = 0 := by
  simp [Ideal.ofBits, Ideal.ieee]

/-- The reference's masked scores. -/
theorem ref_msk (b : Fin 4) (g : Fin 2) (r : Fin 4) (t : Fin 4096) (n : Fin 255) :
    val_main_v60 (F := Ideal) x y z (ix5 b g r t n) = msk (seen t) (score x (val_main_v16 (F := Ideal) y) (val_main_v18 (F := Ideal) y) z b g r t) n := by
  have h : val_main_v60 (F := Ideal) x y z (ix5 b g r t n)
      = Scalar.select (val_main_v59 (F := Ideal) (ix2 t n)) (val_main_v46 (F := Ideal) x y z (ix5 b g r t n)) (Ideal.ofBits .f32 4286578688#32) := by
    unfold val_main_v60 val_main_call0_v1 val_main_call0_v2 val_main_call0_v0 val_main_cst_6
    generalize val_main_v46 (F := Ideal) x y z = C
    generalize val_main_v59 (F := Ideal) = D
    pointwise
    rfl
  rw [h, ref_mask, ref_score, word_bot, select_ite]
  rfl

/-- A row's greatest masked score, with a unit axis. -/
theorem ref_62 (b : Fin 4) (g : Fin 2) (r : Fin 4) (t : Fin 4096) :
    val_main_v62 (F := Ideal) x y z (ix5 b g r t 0) = val_main_v61 (F := Ideal) x y z (ix4 b g r t) := by
  rw [val_main_v62_apply]
  generalize val_main_v61 (F := Ideal) x y z = C
  refine congrArg C (funext fun a => ?_)
  match a with
  | ⟨0, _⟩ => rfl
  | ⟨1, _⟩ => rfl
  | ⟨2, _⟩ => rfl
  | ⟨3, _⟩ => rfl

/-- The reference's greatest masked score, as it is subtracted: zero in place of an infinity. -/
theorem ref_top (b : Fin 4) (g : Fin 2) (r : Fin 4) (t : Fin 4096) :
    val_main_v66 (F := Ideal) x y z (ix5 b g r t 0) = fin0 (top (seen t) (score x (val_main_v16 (F := Ideal) y) (val_main_v18 (F := Ideal) y) z b g r t)) := by
  have h2 : val_main_v62 (F := Ideal) x y z (ix5 b g r t 0) = top (seen t) (score x (val_main_v16 (F := Ideal) y) (val_main_v18 (F := Ideal) y) z b g r t) := by
    unfold top
    have h : msk (seen t) (score x (val_main_v16 (F := Ideal) y) (val_main_v18 (F := Ideal) y) z b g r t) = fun n => val_main_v60 (F := Ideal) x y z (ix5 b g r t n) := funext fun n => (ref_msk x y z b g r t n).symm
    rw [h, ← word_bot]
    rw [ref_62]
    unfold val_main_v61
    generalize val_main_v60 (F := Ideal) x y z = C
    pointwise [val_main_cst_7]
  have h : val_main_v66 (F := Ideal) x y z (ix5 b g r t 0)
      = Scalar.select (Ideal.cmp .olt (max (val_main_v62 (F := Ideal) x y z (ix5 b g r t 0)) (-val_main_v62 (F := Ideal) x y z (ix5 b g r t 0))) (Ideal.ofBits .f32 2139095040#32)) (val_main_v62 (F := Ideal) x y z (ix5 b g r t 0)) (Ideal.ofBits .f32 0#32) := by
    rw [val_main_v66_apply, val_main_v65_apply, val_main_v64_apply, val_main_v63_apply, val_main_call1_v1_apply, val_main_call1_v0_apply]
    generalize val_main_v62 (F := Ideal) x y z = C
    rfl
  rw [h, h2, word_top, word_zero]
  generalize top (seen t) (score x (val_main_v16 (F := Ideal) y) (val_main_v18 (F := Ideal) y) z b g r t) = M
  unfold Scalar.select Ideal.cmp fin0
  by_cases e : max M (-M) < ⊤ <;> simp [e]

/-- The reference's unnormalised weights. -/
theorem ref_wt (b : Fin 4) (g : Fin 2) (r : Fin 4) (t : Fin 4096) (n : Fin 255) :
    val_main_v69 (F := Ideal) x y z (ix5 b g r t n) = wtG (seen t) (score x (val_main_v16 (F := Ideal) y) (val_main_v18 (F := Ideal) y) z b g r t) n := by
  unfold wtG
  rw [← ref_top, ← ref_msk]
  unfold val_main_v69 val_main_v68 val_main_v67
  generalize val_main_v60 (F := Ideal) x y z = C
  generalize val_main_v66 (F := Ideal) x y z = D
  pointwise

/-- The reference's normalised weights. -/
theorem ref_prob (b : Fin 4) (g : Fin 2) (r : Fin 4) (t : Fin 4096) (n : Fin 255) :
    val_main_v75 (F := Ideal) x y z (ix5 b g r t n) = Ideal.div (wt (seen t) (score x (val_main_v16 (F := Ideal) y) (val_main_v18 (F := Ideal) y) z b g r t) n) (den (seen t) eps (score x (val_main_v16 (F := Ideal) y) (val_main_v18 (F := Ideal) y) z b g r t)) := by
  rw [← prob_guard]
  have h : wtG (seen t) (score x (val_main_v16 (F := Ideal) y) (val_main_v18 (F := Ideal) y) z b g r t) = fun n => val_main_v69 (F := Ideal) x y z (ix5 b g r t n) := funext fun n => (ref_wt x y z b g r t n).symm
  rw [h]
  unfold val_main_v75 val_main_v74 val_main_v73 val_main_v72 val_main_v71 val_main_v70
  generalize val_main_v69 (F := Ideal) x y z = C
  pointwise [val_main_cst_10, val_main_cst_11, eps]

/-- The reference's gates. -/
theorem ref_gate (b : Fin 4) (t : Fin 4096) (h : Fin 8) : val_main_v87 (F := Ideal) x (ix4 b t h 0) = gate x b t h := by
  unfold gate
  pointwise [val_main_v87, val_main_v86, val_main_v85, val_main_v84, val_main_v83, val_main_v82, val_main_v81, val_main_v80, val_main_v79, val_main_cst_12, val_main_cst_13]

/-- The weights against the values. -/
theorem ref_av (b : Fin 4) (g : Fin 2) (r : Fin 4) (t : Fin 4096) (d : Fin 128) :
    val_main_v76 (F := Ideal) x y z (ix5 b g r t d) = ∑ n, val_main_v75 (F := Ideal) x y z (ix5 b g r t n) * val_main_v43 (F := Ideal) z (ix4 b g n d) := by
  unfold val_main_v76
  generalize val_main_v75 (F := Ideal) x y z = C
  generalize val_main_v43 (F := Ideal) z = D
  pointwise

/-- The attention's output by position. -/
theorem ref_76 (b : Fin 4) (g : Fin 2) (r : Fin 4) (t : Fin 4096) (d : Fin 128) :
    val_main_v77 (F := Ideal) x y z (ix5 b t g r d) = val_main_v76 (F := Ideal) x y z (ix5 b g r t d) := by
  unfold val_main_v77
  generalize val_main_v76 (F := Ideal) x y z = C
  exact transpose_apply _ _ _ _ _ fun a => match a with
    | ⟨0, _⟩ => rfl
    | ⟨1, _⟩ => rfl
    | ⟨2, _⟩ => rfl
    | ⟨3, _⟩ => rfl
    | ⟨4, _⟩ => rfl

/-- The reshape of two groups of four heads to eight heads. -/
theorem cast_flat (C : S4x4096x2x4x128.Idx → EReal) (H : S4x4096x2x4x128.ShapeCasts S4x4096x8x128) (b : Fin 4) (t : Fin 4096) (h : Fin 8) (l : Fin 128) :
    shapeCast S4x4096x8x128 C H (ix4 b t h l) = C (ix5 b t ⟨h.val / 4, by omega⟩ ⟨h.val % 4, by omega⟩ l) := by
  refine shapeCast_apply _ _ _ _ ?_
  rw [Shape.rowMajor_val_four, Shape.rowMajor_val_five]
  show (((b.val * 4096 + t.val) * 2 + h.val / 4) * 4 + h.val % 4) * 128 + l.val = ((b.val * 4096 + t.val) * 8 + h.val) * 128 + l.val
  omega

/-- The reshape of eight heads to a row. -/
theorem ref_89 (b : Fin 4) (t : Fin 4096) (n : Fin 1024) :
    val_main_v90 (F := Ideal) x y z (ix3 b t n) = val_main_v89 (F := Ideal) x y z (ix4 b t ⟨n.val / 128, by omega⟩ ⟨n.val % 128, by omega⟩) := by
  unfold val_main_v90
  generalize val_main_v89 (F := Ideal) x y z = E
  pointwise

/-- The gate. -/
theorem ref_88 (b : Fin 4) (t : Fin 4096) (h : Fin 8) (l : Fin 128) :
    val_main_v89 (F := Ideal) x y z (ix4 b t h l) = val_main_v87 (F := Ideal) x (ix4 b t h 0) * val_main_v78 (F := Ideal) x y z (ix4 b t h l) := by
  unfold val_main_v89 val_main_v88
  generalize val_main_v87 (F := Ideal) x = E
  generalize val_main_v78 (F := Ideal) x y z = D
  pointwise

/-- The reference's result. -/
theorem ref_out (b : Fin 4) (t : Fin 4096) (n : Fin 1024) :
    val_main_v91 (F := Ideal) x y z (ix3 b t n) = out x (val_main_v16 (F := Ideal) y) (val_main_v18 (F := Ideal) y) z b t n := by
  have h0 : val_main_v91 (F := Ideal) x y z (ix3 b t n) = val_main_v90 (F := Ideal) x y z (ix3 b t n) := rfl
  rw [h0, ref_89, ref_88, ref_gate]
  have h : val_main_v78 (F := Ideal) x y z (ix4 b t ⟨n.val / 128, by omega⟩ ⟨n.val % 128, by omega⟩)
      = val_main_v76 (F := Ideal) x y z (ix5 b ⟨n.val / 128 / 4, by omega⟩ ⟨n.val / 128 % 4, by omega⟩ t ⟨n.val % 128, by omega⟩) := by
    rw [← ref_76]
    unfold val_main_v78
    exact cast_flat _ _ b t _ _
  rw [h, ref_av]
  unfold out att attend
  exact congrArg _ (Finset.sum_congr rfl fun k _ => congrArg₂ (· * ·) (ref_prob x y z b _ _ t k) (ref_val z b _ k _))

theorem ref_eq : val_main_v91 (F := Ideal) x y z = G x (val_main_v16 (F := Ideal) y) (val_main_v18 (F := Ideal) y) z := by
  funext i
  exact (congrArg (val_main_v91 (F := Ideal) x y z) (eq_ix3 i)).trans (ref_out x y z (i 0) (i 1) (i 2))

/-- The reference's run, its result as `G` of the projections, the tables and the compressed keys and values. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91)
        = G (m ((c.tc : Thread nD τ).loc main_arg0)) (val_main_v16 (F := Ideal) (m ((c.tc : Thread nD τ).loc main_arg1))) (val_main_v18 (F := Ideal) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v91_eq _ _).trans (ref_eq _ _ _)), (h c).2⟩) (Value.run m ρ)

end Cert.CmpAtt

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.WinBits.Frame
public import proofs.«01_k».proof.Proof.Win.Frame
public import proofs.«01_k».proof.Proof.Win.Value
public import proofs.«01_k».proof.Proof.Win.Ref
public import proofs.«01_k».proof.Proof.InProj.Value
public import proofs.«01_k».proof.Proof.Comb.Value
public import proofs.«01_k».proof.Proof.OutP.Value
public import proofs.«01_k».proof.Proof.Cmp.Value
public import proofs.«01_k».proof.Proof.Cmp.Ref
public import Idealize.ShloMosaic.Adequacy
public import Idealize.ShloMosaic.Init

@[expose] public section

noncomputable section

namespace Cert.Proof

open Idealize.ShloMosaic Idealize.SL.Sem

/-- The references end with their counters at zero: they have none. -/
theorem rest1 : Cert.quiescent_ReferenceIdeal := fun m ρ _ =>
  (θ_run _ _ _).mono (fun _ h => ⟨fun c => (h c).2, sem_eq_zero_of_no_sems rfl _⟩) (Cert.ReferenceIdeal.Value.run m ρ)
theorem rest2 : Cert.quiescent_Reference2Ideal := fun m ρ _ =>
  (θ_run _ _ _).mono (fun _ h => ⟨fun c => (h c).2, sem_eq_zero_of_no_sems rfl _⟩) (Cert.Reference2Ideal.Value.run m ρ)
theorem rest3 : Cert.quiescent_Reference3Ideal := fun m ρ _ =>
  (θ_run _ _ _).mono (fun _ h => ⟨fun c => (h c).2, sem_eq_zero_of_no_sems rfl _⟩) (Cert.Reference3Ideal.Value.run m ρ)
theorem rest4 : Cert.quiescent_Reference4Ideal := fun m ρ _ =>
  (θ_run _ _ _).mono (fun _ h => ⟨fun c => (h c).2.2, sem_eq_zero_of_no_sems rfl _⟩) (Cert.Reference4Ideal.Value.run m ρ)
theorem rest5 : Cert.quiescent_Reference5Ideal := fun m ρ _ =>
  (θ_run _ _ _).mono (fun _ h => ⟨fun c => (h c).2, sem_eq_zero_of_no_sems rfl _⟩) (Cert.Reference5Ideal.Value.run m ρ)

/-- The window attention: kernel and reference leave the same array. -/
theorem value1 : Cert.algebraic_KernelIdeal_ReferenceIdeal := fun m ρ m' ρ' _ hag =>
  ⟨fun c => Cert.KernelIdeal.Win.res m c, Cert.KernelIdeal.Win.run m ρ,
    (θ_run _ _ _).mono (fun _ h c => ⟨(h c).1.trans (by rw [(hag c).1, (hag c).2]), (h c).2⟩) (Cert.WinAtt.run_ref m' ρ')⟩

/-- The input projection: both runs end with the same array. -/
theorem value2 : Cert.algebraic_Kernel2Ideal_Reference2Ideal := fun m ρ m' ρ' _ hag =>
  ⟨fun c => Cert.InProj.res m c, Cert.InProj.run m ρ,
    (θ_run _ _ _).mono (fun _ h c => ⟨(h c).1.trans (by rw [(hag c).1, (hag c).2.1, (hag c).2.2]), (h c).2⟩) (Cert.InProj.run_ref m' ρ')⟩

/-- The combine: both runs end with the same array. -/
theorem value3 : Cert.algebraic_Kernel3Ideal_Reference3Ideal := fun m ρ m' ρ' _ hag =>
  ⟨fun c => Cert.Comb.res m c, Cert.Comb.run m ρ,
    (θ_run _ _ _).mono (fun _ h c => ⟨(h c).1.trans (by rw [(hag c).1, (hag c).2.1, (hag c).2.2]), (h c).2⟩) (Cert.Comb.run_ref m' ρ')⟩

/-- The output projection: both runs end with the same two arrays. -/
theorem value4 : Cert.algebraic_Kernel4Ideal_Reference4Ideal := fun m ρ m' ρ' _ hag =>
  ⟨fun c => Cert.OutP.res m c, fun c => Cert.OutP.resN m c, Cert.OutP.run m ρ,
    (θ_run _ _ _).mono (fun _ h c => by
      obtain ⟨a0, a1, a2, a3, a4, a5, a6, _⟩ := hag c
      exact ⟨(h c).1.trans (by rw [a0, a1, a2, a3, a4, a5]), (h c).2.1.trans (by rw [a0, a1, a2, a3, a4, a5, a6]), (h c).2.2⟩) (Cert.OutP.run_ref m' ρ')⟩

/-- The attention over the compressed keys: both runs end with the same array. -/
theorem value5 : Cert.algebraic_Kernel5Ideal_Reference5Ideal := fun m ρ m' ρ' _ hag =>
  ⟨fun c => Cert.Kernel5Ideal.Cmp.res m c, Cert.Kernel5Ideal.Cmp.run m ρ,
    (θ_run _ _ _).mono (fun _ h c => ⟨(h c).1.trans (by rw [(hag c).1, (hag c).2.1, (hag c).2.2]), (h c).2⟩) (Cert.CmpAtt.run_ref m' ρ')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  fun m ρ _ => Cert.Kernel.Win.frame m ρ, fun m ρ _ => Cert.KernelIdeal.Win.frame m ρ, rest1,
  fun m ρ _ => Cert.Kernel2.Gen.frame m ρ, fun m ρ _ => Cert.Kernel2Ideal.Gen.frame m ρ, rest2,
  fun m ρ _ => Cert.Kernel3.Gen.frame m ρ, fun m ρ _ => Cert.Kernel3Ideal.Gen.frame m ρ, rest3,
  fun m ρ _ => Cert.Kernel4.Gen.frame m ρ, fun m ρ _ => Cert.Kernel4Ideal.Gen.frame m ρ, rest4,
  fun m ρ _ => Cert.Kernel5.Gen.frame m ρ, fun m ρ _ => Cert.Kernel5Ideal.Gen.frame m ρ, rest5,
  IdealRules.named_const.statement Cert.KernelIdeal.κ "mask" .f32 0xF149F2CA#32 ⊥ rfl,
  value1, trivial, value2, trivial, value3, trivial, value4,
  IdealRules.named_const.statement Cert.Kernel5Ideal.κ "mask" .f32 0xF149F2CA#32 ⊥ rfl, value5⟩

end Cert.Proof

end
